-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_inputs [hPre_finite_inputs : Cert.Pre_finite_inputs.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_inputs [hPre_finite_inputs : Cert.Pre_finite_inputs.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_finite_inputs [hKernel2Ideal : Cert.Kernel2Ideal.Facts] [hPre_finite_inputs : Cert.Pre_finite_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_inputs m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_finite_inputs [hReference2Ideal : Cert.Reference2Ideal.Facts] [hPre_finite_inputs : Cert.Pre_finite_inputs.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_inputs m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.bf16_pair.BufferStatement Cert.Kernel2Ideal.S16384x2x1024 Cert.Kernel2Ideal.S16384x1x1024
  ∧ IdealRules.bf16_pair.BufferStatement Cert.Kernel2Ideal.S512x2x1024 Cert.Kernel2Ideal.S512x1x1024
  ∧ IdealRules.named_const.Statement Cert.Kernel2Ideal.κ "s" .f32 0x3D8293EE#32 (((Real.log 2)⁻¹ * (11863283 / 268435456) : ℝ) : EReal)
  ∧ IdealRules.bf16_pair.PackStatement Cert.Kernel2Ideal.S512x1024
  ∧ IdealRules.bf16_pair.Statement Cert.Kernel2Ideal.S512x2x1024 Cert.Kernel2Ideal.S512x1x1024

def algebraic_Kernel2Ideal_Reference2Ideal_pre_finite_inputs [hKernel2Ideal : Cert.Kernel2Ideal.Facts] [hReference2Ideal : Cert.Reference2Ideal.Facts] [hPre_finite_inputs : Cert.Pre_finite_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_inputs m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v25_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v25_0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v21) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_v20) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hPre_finite_inputs : Cert.Pre_finite_inputs.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_inputs (hKernel2Ideal := hKernel2Ideal) (hPre_finite_inputs := hPre_finite_inputs)
    ∧ quiescent_Reference2Ideal (hReference2Ideal := hReference2Ideal)
    ∧ quiescent_Reference2Ideal_pre_finite_inputs (hReference2Ideal := hReference2Ideal) (hPre_finite_inputs := hPre_finite_inputs)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_inputs (hKernel2Ideal := hKernel2Ideal) (hReference2Ideal := hReference2Ideal) (hPre_finite_inputs := hPre_finite_inputs)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
-- ==== Pre_finite_inputs.lean ====
abbrev S16384x2048 : Shape := ⟨2, ![16384, 2048]⟩
abbrev S1x2048 : Shape := ⟨2, ![1, 2048]⟩
abbrev S1x2048x2048 : Shape := ⟨3, ![1, 2048, 2048]⟩
abbrev S1024x2048 : Shape := ⟨2, ![1024, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S1x2048x2048 : S_.BroadcastsInDim S1x2048x2048 (![] : Fin 0 → Fin S1x2048x2048.rank)
  reducesTo_S1x2048x2048_S_d0_1_2 : S1x2048x2048.ReducesTo [0, 1, 2] S_
  bitsLt_bf16_f32 : FTy.bits .bf16 < FTy.bits .f32
  bcast_S_S1024x2048 : S_.BroadcastsInDim S1024x2048 (![] : Fin 0 → Fin S1024x2048.rank)
  reducesTo_S1024x2048_S_d0_1 : S1024x2048.ReducesTo [0, 1] S_

variable [Facts]

def fn_part1 {F : FTy → Type} [FloatOps F] (main_v13 : IVec S_ 1) (main_v15 : FVec F S1024x2048 .f32) (main_v16 : FVec F S1024x2048 .f32) : IVec S_ 1 :=
  let main_v17 : IVec S1024x2048 1 := cmpf .olt main_v15 main_v16
  let main_c_5 : IVec S_ 1 := constantI S_ 1 1#1
  let main_v18 : IVec S_ 1 := (fun x v => Host.reduce IntOp.andi x v reducesTo_S1024x2048_S_d0_1 h_S_) main_v17 main_c_5
  let main_v19 : IVec S_ 1 := andi main_v13 main_v18
  main_v19

def fn {F : FTy → Type} [FloatOps F] (main_arg0 : FVec F S16384x2048 .f32) (main_arg1 : FVec F S1x2048 .f32) (main_arg2 : FVec F S1x2048x2048 .f32) (main_arg3 : FVec F S1024x2048 .bf16) (main_arg4 : FVec F S1024x2048 .bf16) (main_arg5 : FVec F S1x2048x2048 .f32) (main_arg6 : FVec F S1x2048 .f32) (main_arg7 : FVec F S1x2048x4 .f32) (main_arg8 : FVec F S1x4 .f32) (main_arg9 : FVec F S1x2048x32 .f32) (main_arg10 : FVec F S1x32 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S1x2048x2048 .f32 := Host.absf main_arg2
  let main_cst_2 : FVec F S_ .f32 := constant S_ .f32 0x7F800000#32
  let main_v10 : FVec F S1x2048x2048 .f32 := broadcastInDim S1x2048x2048 ![] bcast_S_S1x2048x2048 main_cst_2
  let main_v11 : IVec S1x2048x2048 1 := cmpf .olt main_v9 main_v10
  let main_c_3 : IVec S_ 1 := constantI S_ 1 1#1
  let main_v12 : IVec S_ 1 := (fun x v => Host.reduce IntOp.andi x v reducesTo_S1x2048x2048_S_d0_1_2 h_S_) main_v11 main_c_3
  let main_v13 : IVec S_ 1 := andi main_v8 main_v12
  let main_v14 : FVec F S1024x2048 .f32 := (extf .f32 · bitsLt_bf16_f32) main_arg3
  let main_v15 : FVec F S1024x2048 .f32 := Host.absf main_v14
  let main_cst_4 : FVec F S_ .f32 := constant S_ .f32 0x7F800000#32
  let main_v16 : FVec F S1024x2048 .f32 := broadcastInDim S1024x2048 ![] bcast_S_S1024x2048 main_cst_4
  fn_part1 (F := F) main_v13 main_v15 main_v16
-- ==== Kernel.lean ====
abbrev S16384x2048 : Shape := ⟨2, ![16384, 2048]⟩
abbrev S33536x1024 : Shape := ⟨2, ![33536, 1024]⟩
abbrev S16384x128 : Shape := ⟨2, ![16384, 128]⟩
abbrev S2048 : Shape := ⟨1, ![2048]⟩
abbrev S1x2048 : Shape := ⟨2, ![1, 2048]⟩
abbrev S512x2048 : Shape := ⟨2, ![512, 2048]⟩
abbrev S512x1024 : Shape := ⟨2, ![512, 1024]⟩
abbrev S512x128 : Shape := ⟨2, ![512, 128]⟩
abbrev S512x1 : Shape := ⟨2, ![512, 1]⟩
abbrev S512 : Shape := ⟨1, ![512]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S33536x1024, .i32⟩
  | .hbm, ⟨2, _⟩ => ⟨S16384x128, .f32⟩
  | .hbm, ⟨3, _⟩ => ⟨S2048, .f32⟩
  | .hbm, ⟨4, _⟩ => ⟨S1x2048, .f32⟩
  | .hbm, ⟨5, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .i32⟩
  | .local _ .vmem, ⟨3, _⟩ => ⟨S512x1024, .i32⟩
  | .local _ .vmem, ⟨4, _⟩ => ⟨S512x1024, .i32⟩
  | .local _ .vmem, ⟨5, _⟩ => ⟨S512x1024, .i32⟩
  | .local _ .vmem, ⟨6, _⟩ => ⟨S512x128, .f32⟩
  | .local _ .vmem, ⟨7, _⟩ => ⟨S512x128, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16384x2048 : Shape := ⟨2, ![16384, 2048]⟩
abbrev S33536x1024 : Shape := ⟨2, ![33536, 1024]⟩
abbrev S16384x128 : Shape := ⟨2, ![16384, 128]⟩
abbrev S2048 : Shape := ⟨1, ![2048]⟩
abbrev S32768x1024 : Shape := ⟨2, ![32768, 1024]⟩
abbrev S32768x1024x2 : Shape := ⟨3, ![32768, 1024, 2]⟩
abbrev S32768x1024x1 : Shape := ⟨3, ![32768, 1024, 1]⟩
abbrev S32768x2048 : Shape := ⟨2, ![32768, 2048]⟩
abbrev S2x16384x2048 : Shape := ⟨3, ![2, 16384, 2048]⟩
abbrev S16384x1 : Shape := ⟨2, ![16384, 1]⟩
abbrev S1x16384x2048 : Shape := ⟨3, ![1, 16384, 2048]⟩
abbrev S_ : Shape := ⟨0, ![]⟩
abbrev S16384 : Shape := ⟨1, ![16384]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S33536x1024, .i32⟩
  | .hbm, ⟨2, _⟩ => ⟨S16384x128, .f32⟩
  | .hbm, ⟨3, _⟩ => ⟨S2048, .f32⟩
  | .hbm, ⟨4, _⟩ => ⟨S32768x1024, .i32⟩
  | .hbm, ⟨5, _⟩ => ⟨S32768x1024x2, .bf16⟩
  | .hbm, ⟨6, _⟩ => ⟨S32768x1024x2, .f32⟩
  | .hbm, ⟨7, _⟩ => ⟨S32768x1024x1, .f32⟩
  | .hbm, ⟨8, _⟩ => ⟨S32768x1024, .f32⟩
  | .hbm, ⟨9, _⟩ => ⟨S32768x1024x1, .f32⟩
  | .hbm, ⟨10, _⟩ => ⟨S32768x1024, .f32⟩
  | .hbm, ⟨11, _⟩ => ⟨S32768x2048, .f32⟩
  | .hbm, ⟨12, _⟩ => ⟨S2x16384x2048, .f32⟩
  | .hbm, ⟨13, _⟩ => ⟨S16384x1, .f32⟩
  | .hbm, ⟨14, _⟩ => ⟨S1x16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x1, .f32⟩
  | .hbm, ⟨20, _⟩ => ⟨S1x16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x2048, .f32⟩
  | .hbm, ⟨37, _⟩ => ⟨S16384x2048, .f32⟩
  | .hbm, ⟨38, _⟩ => ⟨S1x2048, .f32⟩
  | .hbm, ⟨39, _⟩ => ⟨S16384x2048, .f32⟩
  | .hbm, ⟨40, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== Kernel2.lean ====
abbrev S16384x2048 : Shape := ⟨2, ![16384, 2048]⟩
abbrev S1x2048 : Shape := ⟨2, ![1, 2048]⟩
abbrev S1x2048x2048 : Shape := ⟨3, ![1, 2048, 2048]⟩
abbrev S1024x2048 : Shape := ⟨2, ![1024, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S_ : Shape := ⟨0, ![]⟩
abbrev S2048x128 : Shape := ⟨2, ![2048, 128]⟩
abbrev S1 : Shape := ⟨1, ![1]⟩
abbrev S1x128 : Shape := ⟨2, ![1, 128]⟩
abbrev S2 : Shape := ⟨1, ![2]⟩
abbrev S2048 : Shape := ⟨1, ![2048]⟩
abbrev S4x256x2048 : Shape := ⟨3, ![4, 256, 2048]⟩
abbrev S16384x1024 : Shape := ⟨2, ![16384, 1024]⟩
abbrev S16384x128 : Shape := ⟨2, ![16384, 128]⟩
abbrev S32x32x128 : Shape := ⟨3, ![32, 32, 128]⟩
abbrev S32x8x128 : Shape := ⟨3, ![32, 8, 128]⟩
abbrev S512x2048 : Shape := ⟨2, ![512, 2048]⟩
abbrev S1x256x2048 : Shape := ⟨3, ![1, 256, 2048]⟩
abbrev S512x1024 : Shape := ⟨2, ![512, 1024]⟩
abbrev S512x128 : Shape := ⟨2, ![512, 128]⟩
abbrev S1x32x128 : Shape := ⟨3, ![1, 32, 128]⟩
abbrev S1x8x128 : Shape := ⟨3, ![1, 8, 128]⟩
abbrev S2048x2048 : Shape := ⟨2, ![2048, 2048]⟩
abbrev S2x128x2048 : Shape := ⟨3, ![2, 128, 2048]⟩
abbrev S1x128x2048 : Shape := ⟨3, ![1, 128, 2048]⟩
abbrev S128x2048 : Shape := ⟨2, ![128, 2048]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S512 : Shape := ⟨1, ![512]⟩
abbrev S512x1 : Shape := ⟨2, ![512, 1]⟩
abbrev S1x256x512 : Shape := ⟨3, ![1, 256, 512]⟩
abbrev S256x256 : Shape := ⟨2, ![256, 256]⟩
abbrev S512x512 : Shape := ⟨2, ![512, 512]⟩
abbrev S128x128 : Shape := ⟨2, ![128, 128]⟩
abbrev S128 : Shape := ⟨1, ![128]⟩
abbrev S32x128 : Shape := ⟨2, ![32, 128]⟩
abbrev S8x128 : Shape := ⟨2, ![8, 128]⟩

abbrev nBuf : Space → Nat
  | .hbm => 49
  | .vmem => 27
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x2048, .f32⟩
  | .hbm, ⟨3, _⟩ => ⟨S1024x2048, .bf16⟩
  | .hbm, ⟨4, _⟩ => ⟨S1024x2048, .bf16⟩
  | .hbm, ⟨5, _⟩ => ⟨S1x2048x2048, .f32⟩
  | .hbm, ⟨6, _⟩ => ⟨S1x2048, .f32⟩
  | .hbm, ⟨7, _⟩ => ⟨S1x2048x4, .f32⟩
  | .hbm, ⟨8, _⟩ => ⟨S1x4, .f32⟩
  | .hbm, ⟨9, _⟩ => ⟨S1x2048x32, .f32⟩
  | .hbm, ⟨10, _⟩ => ⟨S1x32, .f32⟩
  | .hbm, ⟨11, _⟩ => ⟨S2048x4, .f32⟩
  | .hbm, ⟨12, _⟩ => ⟨S4, .f32⟩
  | .hbm, ⟨13, _⟩ => ⟨S2048x32, .f32⟩
  | .hbm, ⟨14, _⟩ => ⟨S32, .f32⟩
  | .hbm, ⟨15, _⟩ => ⟨S_, .f32⟩
  | .hbm, ⟨16, _⟩ => ⟨S2048x128, .f32⟩
  | .hbm, ⟨17, _⟩ => ⟨S_, .i32⟩
  | .hbm, ⟨18, _⟩ => ⟨S1, .i32⟩
  | .hbm, ⟨19, _⟩ => ⟨S2048x128, .f32⟩
  | .hbm, ⟨20, _⟩ => ⟨S_, .i32⟩
  | .hbm, ⟨21, _⟩ => ⟨S1, .i32⟩
  | .hbm, ⟨22, _⟩ => ⟨S2048x128, .f32⟩
  | .hbm, ⟨23, _⟩ => ⟨S2048x128, .bf16⟩
  | .hbm, ⟨24, _⟩ => ⟨S_, .f32⟩
  | .hbm, ⟨25, _⟩ => ⟨S1x128, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S1x128, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S1x128, .f32⟩
  | .hbm, ⟨38, _⟩ => ⟨S2048, .f32⟩
  | .hbm, ⟨39, _⟩ => ⟨S2048, .f32⟩
  | .hbm, ⟨40, _⟩ => ⟨S4x256x2048, .bf16⟩
  | .hbm, ⟨41, _⟩ => ⟨S4x256x2048, .bf16⟩
  | .hbm, ⟨42, _⟩ => ⟨S1x2048, .f32⟩
  | .hbm, ⟨43, _⟩ => ⟨S1x2048, .f32⟩
  | .hbm, ⟨44, _⟩ => ⟨S16384x2048, .f32⟩
  | .hbm, ⟨45, _⟩ => ⟨S16384x1024, .i32⟩
  | .hbm, ⟨46, _⟩ => ⟨S16384x128, .f32⟩
  | .hbm, ⟨47, _⟩ => ⟨S32x32x128, .i32⟩
  | .hbm, ⟨48, _⟩ => ⟨S32x8x128, .i32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .vmem, ⟨7, _⟩ => ⟨S1x2048, .f32⟩
  | .local _ .vmem, ⟨8, _⟩ => ⟨S2048x128, .bf16⟩
  | .local _ .vmem, ⟨9, _⟩ => ⟨S1x128, .f32⟩
  | .local _ .vmem, ⟨10, _⟩ => ⟨S512x2048, .f32⟩
  | .local _ .vmem, ⟨11, _⟩ => ⟨S512x2048, .f32⟩
  | .local _ .vmem, ⟨12, _⟩ => ⟨S512x1024, .i32⟩
  | .local _ .vmem, ⟨13, _⟩ => ⟨S512x1024, .i32⟩
  | .local _ .vmem, ⟨14, _⟩ => ⟨S512x128, .f32⟩
  | .local _ .vmem, ⟨15, _⟩ => ⟨S512x128, .f32⟩
  | .local _ .vmem, ⟨16, _⟩ => ⟨S1x32x128, .i32⟩
  | .local _ .vmem, ⟨17, _⟩ => ⟨S1x32x128, .i32⟩
  | .local _ .vmem, ⟨18, _⟩ => ⟨S1x8x128, .i32⟩
  | .local _ .vmem, ⟨19, _⟩ => ⟨S1x8x128, .i32⟩
  | .local _ .vmem, ⟨20, _⟩ => ⟨S2048x2048, .bf16⟩
  | .local _ .vmem, ⟨21, _⟩ => ⟨S2048x2048, .bf16⟩
  | .local _ .vmem, ⟨22, _⟩ => ⟨S2x128x2048, .f32⟩
  | .local _ .vmem, ⟨23, _⟩ => ⟨S512x2048, .bf16⟩
  | .local _ .vmem, ⟨24, _⟩ => ⟨S512x2048, .bf16⟩
  | .local _ .vmem, ⟨25, _⟩ => ⟨S512x2048, .bf16⟩
  | .local _ .vmem, ⟨26, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_c_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_4 : Ref sig .tc := ⟨.hbm, 32, rfl⟩
abbrev main_v15 : Ref sig .tc := ⟨.hbm, 33, rfl⟩
abbrev main_c_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25_0 : Ref sig .tc := ⟨.hbm, 44, rfl⟩
abbrev main_v25_1 : Ref sig .tc := ⟨.hbm, 45, rfl⟩
abbrev main_v25_2 : Ref sig .tc := ⟨.hbm, 46, rfl⟩
abbrev main_v25_3 : Ref sig .tc := ⟨.hbm, 47, rfl⟩
abbrev main_v25_4 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [BitOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c31_i32 : BitVec 32 := 31#32
  let v0 : BitVec 32 := Scalar.minsi arg0 c31_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 3 → Nat :=
  let arg0 : BitVec 32 := BitVec.ofNat 32 (i 0).val
  let c31_i32 : BitVec 32 := 31#32
  let v0 : BitVec 32 := Scalar.minsi arg0 c31_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_13 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x32x128 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x128 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel2Ideal.lean ====
abbrev S16384x2048 : Shape := ⟨2, ![16384, 2048]⟩
abbrev S1x2048 : Shape := ⟨2, ![1, 2048]⟩
abbrev S1x2048x2048 : Shape := ⟨3, ![1, 2048, 2048]⟩
abbrev S1024x2048 : Shape := ⟨2, ![1024, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S_ : Shape := ⟨0, ![]⟩
abbrev S2048x128 : Shape := ⟨2, ![2048, 128]⟩
abbrev S1 : Shape := ⟨1, ![1]⟩
abbrev S1x128 : Shape := ⟨2, ![1, 128]⟩
abbrev S2 : Shape := ⟨1, ![2]⟩
abbrev S2048 : Shape := ⟨1, ![2048]⟩
abbrev S4x256x2048 : Shape := ⟨3, ![4, 256, 2048]⟩
abbrev S16384x2x1024 : Shape := ⟨3, ![16384, 2, 1024]⟩
abbrev S16384x128 : Shape := ⟨2, ![16384, 128]⟩
abbrev S32x32x128 : Shape := ⟨3, ![32, 32, 128]⟩
abbrev S32x8x128 : Shape := ⟨3, ![32, 8, 128]⟩
abbrev S16384x1x1024 : Shape := ⟨3, ![16384, 1, 1024]⟩
abbrev S16384x1024 : Shape := ⟨2, ![16384, 1024]⟩
abbrev S512x2048 : Shape := ⟨2, ![512, 2048]⟩
abbrev S1x256x2048 : Shape := ⟨3, ![1, 256, 2048]⟩
abbrev S512x1024 : Shape := ⟨2, ![512, 1024]⟩
abbrev S512x2x1024 : Shape := ⟨3, ![512, 2, 1024]⟩
abbrev S512x1x1024 : Shape := ⟨3, ![512, 1, 1024]⟩
abbrev S512x128 : Shape := ⟨2, ![512, 128]⟩
abbrev S1x32x128 : Shape := ⟨3, ![1, 32, 128]⟩
abbrev S1x8x128 : Shape := ⟨3, ![1, 8, 128]⟩
abbrev S2048x2048 : Shape := ⟨2, ![2048, 2048]⟩
abbrev S2x128x2048 : Shape := ⟨3, ![2, 128, 2048]⟩
abbrev S1x128x2048 : Shape := ⟨3, ![1, 128, 2048]⟩
abbrev S128x2048 : Shape := ⟨2, ![128, 2048]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S512 : Shape := ⟨1, ![512]⟩
abbrev S512x1 : Shape := ⟨2, ![512, 1]⟩
abbrev S1x256x512 : Shape := ⟨3, ![1, 256, 512]⟩
abbrev S256x256 : Shape := ⟨2, ![256, 256]⟩
abbrev S512x512 : Shape := ⟨2, ![512, 512]⟩
abbrev S128x128 : Shape := ⟨2, ![128, 128]⟩
abbrev S128 : Shape := ⟨1, ![128]⟩
abbrev S32x128 : Shape := ⟨2, ![32, 128]⟩
abbrev S8x128 : Shape := ⟨2, ![8, 128]⟩

abbrev nBuf : Space → Nat
  | .hbm => 49
  | .vmem => 27
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x2048, .f32⟩
  | .hbm, ⟨3, _⟩ => ⟨S1024x2048, .bf16⟩
  | .hbm, ⟨4, _⟩ => ⟨S1024x2048, .bf16⟩
  | .hbm, ⟨5, _⟩ => ⟨S1x2048x2048, .f32⟩
  | .hbm, ⟨6, _⟩ => ⟨S1x2048, .f32⟩
  | .hbm, ⟨7, _⟩ => ⟨S1x2048x4, .f32⟩
  | .hbm, ⟨8, _⟩ => ⟨S1x4, .f32⟩
  | .hbm, ⟨9, _⟩ => ⟨S1x2048x32, .f32⟩
  | .hbm, ⟨10, _⟩ => ⟨S1x32, .f32⟩
  | .hbm, ⟨11, _⟩ => ⟨S2048x4, .f32⟩
  | .hbm, ⟨12, _⟩ => ⟨S4, .f32⟩
  | .hbm, ⟨13, _⟩ => ⟨S2048x32, .f32⟩
  | .hbm, ⟨14, _⟩ => ⟨S32, .f32⟩
  | .hbm, ⟨15, _⟩ => ⟨S_, .f32⟩
  | .hbm, ⟨16, _⟩ => ⟨S2048x128, .f32⟩
  | .hbm, ⟨17, _⟩ => ⟨S_, .i32⟩
  | .hbm, ⟨18, _⟩ => ⟨S1, .i32⟩
  | .hbm, ⟨19, _⟩ => ⟨S2048x128, .f32⟩
  | .hbm, ⟨20, _⟩ => ⟨S_, .i32⟩
  | .hbm, ⟨21, _⟩ => ⟨S1, .i32⟩
  | .hbm, ⟨22, _⟩ => ⟨S2048x128, .f32⟩
  | .hbm, ⟨23, _⟩ => ⟨S2048x128, .bf16⟩
  | .hbm, ⟨24, _⟩ => ⟨S_, .f32⟩
  | .hbm, ⟨25, _⟩ => ⟨S1x128, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S1x128, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S1x128, .f32⟩
  | .hbm, ⟨38, _⟩ => ⟨S2048, .f32⟩
  | .hbm, ⟨39, _⟩ => ⟨S2048, .f32⟩
  | .hbm, ⟨40, _⟩ => ⟨S4x256x2048, .bf16⟩
  | .hbm, ⟨41, _⟩ => ⟨S4x256x2048, .bf16⟩
  | .hbm, ⟨42, _⟩ => ⟨S1x2048, .f32⟩
  | .hbm, ⟨43, _⟩ => ⟨S1x2048, .f32⟩
  | .hbm, ⟨44, _⟩ => ⟨S16384x2048, .f32⟩
  | .hbm, ⟨45, _⟩ => ⟨S16384x2x1024, .bf16⟩
  | .hbm, ⟨46, _⟩ => ⟨S16384x128, .f32⟩
  | .hbm, ⟨47, _⟩ => ⟨S32x32x128, .i32⟩
  | .hbm, ⟨48, _⟩ => ⟨S32x8x128, .i32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .vmem, ⟨7, _⟩ => ⟨S1x2048, .f32⟩
  | .local _ .vmem, ⟨8, _⟩ => ⟨S2048x128, .bf16⟩
  | .local _ .vmem, ⟨9, _⟩ => ⟨S1x128, .f32⟩
  | .local _ .vmem, ⟨10, _⟩ => ⟨S512x2048, .f32⟩
  | .local _ .vmem, ⟨11, _⟩ => ⟨S512x2048, .f32⟩
  | .local _ .vmem, ⟨12, _⟩ => ⟨S512x2x1024, .bf16⟩
  | .local _ .vmem, ⟨13, _⟩ => ⟨S512x2x1024, .bf16⟩
  | .local _ .vmem, ⟨14, _⟩ => ⟨S512x128, .f32⟩
  | .local _ .vmem, ⟨15, _⟩ => ⟨S512x128, .f32⟩
  | .local _ .vmem, ⟨16, _⟩ => ⟨S1x32x128, .i32⟩
  | .local _ .vmem, ⟨17, _⟩ => ⟨S1x32x128, .i32⟩
  | .local _ .vmem, ⟨18, _⟩ => ⟨S1x8x128, .i32⟩
  | .local _ .vmem, ⟨19, _⟩ => ⟨S1x8x128, .i32⟩
  | .local _ .vmem, ⟨20, _⟩ => ⟨S2048x2048, .bf16⟩
  | .local _ .vmem, ⟨21, _⟩ => ⟨S2048x2048, .bf16⟩
  | .local _ .vmem, ⟨22, _⟩ => ⟨S2x128x2048, .f32⟩
  | .local _ .vmem, ⟨23, _⟩ => ⟨S512x2048, .bf16⟩
  | .local _ .vmem, ⟨24, _⟩ => ⟨S512x2048, .bf16⟩
  | .local _ .vmem, ⟨25, _⟩ => ⟨S512x2048, .bf16⟩
  | .local _ .vmem, ⟨26, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_c_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_4 : Ref sig .tc := ⟨.hbm, 32, rfl⟩
abbrev main_v15 : Ref sig .tc := ⟨.hbm, 33, rfl⟩
abbrev main_c_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25_0 : Ref sig .tc := ⟨.hbm, 44, rfl⟩
abbrev main_v25_1 : Ref sig .tc := ⟨.hbm, 45, rfl⟩
abbrev main_v25_2 : Ref sig .tc := ⟨.hbm, 46, rfl⟩
abbrev main_v25_3 : Ref sig .tc := ⟨.hbm, 47, rfl⟩
abbrev main_v25_4 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F] [Named F]

def κ : String → Option EReal := fun
  | "s" => some (((Real.log 2)⁻¹ * (11863283 / 268435456) : ℝ) : EReal)
  | _ => none

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c31_i32 : BitVec 32 := 31#32
  let v0 : BitVec 32 := Scalar.minsi arg0 c31_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 3 → Nat :=
  let arg0 : BitVec 32 := BitVec.ofNat 32 (i 0).val
  let c31_i32 : BitVec 32 := 31#32
  let v0 : BitVec 32 := Scalar.minsi arg0 c31_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_10 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, 0, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_13 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x32x128 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x128 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S16384x2048 : Shape := ⟨2, ![16384, 2048]⟩
abbrev S1x2048 : Shape := ⟨2, ![1, 2048]⟩
abbrev S1x2048x2048 : Shape := ⟨3, ![1, 2048, 2048]⟩
abbrev S1024x2048 : Shape := ⟨2, ![1024, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S2048 : Shape := ⟨1, ![2048]⟩
abbrev S1x1x2048 : Shape := ⟨3, ![1, 1, 2048]⟩
abbrev S2048x2048 : Shape := ⟨2, ![2048, 2048]⟩
abbrev S4x4096x4x512 : Shape := ⟨4, ![4, 4096, 4, 512]⟩
abbrev S4x256x4x512 : Shape := ⟨4, ![4, 256, 4, 512]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x512x4096 : Shape := ⟨4, ![4, 4, 512, 4096]⟩

abbrev nBuf : Space → Nat
  | .hbm => 61
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x2048, .f32⟩
  | .hbm, ⟨3, _⟩ => ⟨S1024x2048, .bf16⟩
  | .hbm, ⟨4, _⟩ => ⟨S1024x2048, .bf16⟩
  | .hbm, ⟨5, _⟩ => ⟨S1x2048x2048, .f32⟩
  | .hbm, ⟨6, _⟩ => ⟨S1x2048, .f32⟩
  | .hbm, ⟨7, _⟩ => ⟨S1x2048x4, .f32⟩
  | .hbm, ⟨8, _⟩ => ⟨S1x4, .f32⟩
  | .hbm, ⟨9, _⟩ => ⟨S1x2048x32, .f32⟩
  | .hbm, ⟨10, _⟩ => ⟨S1x32, .f32⟩
  | .hbm, ⟨11, _⟩ => ⟨S4x4096x2048, .f32⟩
  | .hbm, ⟨12, _⟩ => ⟨S4x4096x2048, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x2048, .f32⟩
  | .hbm, ⟨24, _⟩ => ⟨S4x4096x2048, .f32⟩
  | .hbm, ⟨25, _⟩ => ⟨S2048, .f32⟩
  | .hbm, ⟨26, _⟩ => ⟨S1x1x2048, .f32⟩
  | .hbm, ⟨27, _⟩ => ⟨S4x4096x2048, .f32⟩
  | .hbm, ⟨28, _⟩ => ⟨S4x4096x2048, .f32⟩
  | .hbm, ⟨29, _⟩ => ⟨S2048x2048, .f32⟩
  | .hbm, ⟨30, _⟩ => ⟨S4x4096x2048, .f32⟩
  | .hbm, ⟨31, _⟩ => ⟨S4x4096x4x512, .f32⟩
  | .hbm, ⟨32, _⟩ => ⟨S1024x2048, .f32⟩
  | .hbm, ⟨33, _⟩ => ⟨S4x256x4x512, .f32⟩
  | .hbm, ⟨34, _⟩ => ⟨S1024x2048, .f32⟩
  | .hbm, ⟨35, _⟩ => ⟨S4x256x4x512, .f32⟩
  | .hbm, ⟨36, _⟩ => ⟨S4x4x4096x256, .f32⟩
  | .hbm, ⟨37, _⟩ => ⟨S_, .f32⟩
  | .hbm, ⟨38, _⟩ => ⟨S4x4x4096x256, .f32⟩
  | .hbm, ⟨39, _⟩ => ⟨S4x4x4096x256, .f32⟩
  | .hbm, ⟨40, _⟩ => ⟨S_, .f32⟩
  | .hbm, ⟨41, _⟩ => ⟨S4x4x4096, .f32⟩
  | .hbm, ⟨42, _⟩ => ⟨S_, .f32⟩
  | .hbm, ⟨43, _⟩ => ⟨S4x4x4096, .f32⟩
  | .hbm, ⟨44, _⟩ => ⟨S4x4x4096, .f32⟩
  | .hbm, ⟨45, _⟩ => ⟨S4x4x4096x1, .f32⟩
  | .hbm, ⟨46, _⟩ => ⟨S4x4x4096x256, .f32⟩
  | .hbm, ⟨47, _⟩ => ⟨S4x4x4096x256, .f32⟩
  | .hbm, ⟨48, _⟩ => ⟨S4x4x4096x256, .f32⟩
  | .hbm, ⟨49, _⟩ => ⟨S_, .f32⟩
  | .hbm, ⟨50, _⟩ => ⟨S4x4x4096, .f32⟩
  | .hbm, ⟨51, _⟩ => ⟨S4x4x4096x1, .f32⟩
  | .hbm, ⟨52, _⟩ => ⟨S4x4x4096x256, .f32⟩
  | .hbm, ⟨53, _⟩ => ⟨S4x4x4096x256, .f32⟩
  | .hbm, ⟨54, _⟩ => ⟨S4x4x512x4096, .f32⟩
  | .hbm, ⟨55, _⟩ => ⟨S4x4096x4x512, .f32⟩
  | .hbm, ⟨56, _⟩ => ⟨S4x4096x2048, .f32⟩
  | .hbm, ⟨57, _⟩ => ⟨S2048x2048, .f32⟩
  | .hbm, ⟨58, _⟩ => ⟨S4x4096x2048, .f32⟩
  | .hbm, ⟨59, _⟩ => ⟨S4x4096x2048, .f32⟩
  | .hbm, ⟨60, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== Kernel3.lean ====
abbrev S4x4096x2048 : Shape := ⟨3, ![4, 4096, 2048]⟩
abbrev S1x2048 : Shape := ⟨2, ![1, 2048]⟩
abbrev S1x2048x4640 : Shape := ⟨3, ![1, 2048, 4640]⟩
abbrev S_ : Shape := ⟨0, ![]⟩
abbrev S2048x128 : Shape := ⟨2, ![2048, 128]⟩
abbrev S2048x4640 : Shape := ⟨2, ![2048, 4640]⟩
abbrev S2048x32 : Shape := ⟨2, ![2048, 32]⟩
abbrev S1 : Shape := ⟨1, ![1]⟩
abbrev S16384x2048 : Shape := ⟨2, ![16384, 2048]⟩
abbrev S2048 : Shape := ⟨1, ![2048]⟩
abbrev S16384x4608 : Shape := ⟨2, ![16384, 4608]⟩
abbrev S16384x128 : Shape := ⟨2, ![16384, 128]⟩
abbrev S512x2048 : Shape := ⟨2, ![512, 2048]⟩
abbrev S512x4608 : Shape := ⟨2, ![512, 4608]⟩
abbrev S512x128 : Shape := ⟨2, ![512, 128]⟩
abbrev S2048x4608 : Shape := ⟨2, ![2048, 4608]⟩
abbrev S2x128x128 : Shape := ⟨3, ![2, 128, 128]⟩
abbrev S2 : Shape := ⟨1, ![2]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 18
  | .vmem => 11
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x4640, .f32⟩
  | .hbm, ⟨3, _⟩ => ⟨S_, .f32⟩
  | .hbm, ⟨4, _⟩ => ⟨S2048x128, .f32⟩
  | .hbm, ⟨5, _⟩ => ⟨S2048x4640, .f32⟩
  | .hbm, ⟨6, _⟩ => ⟨S2048x32, .f32⟩
  | .hbm, ⟨7, _⟩ => ⟨S_, .i32⟩
  | .hbm, ⟨8, _⟩ => ⟨S1, .i32⟩
  | .hbm, ⟨9, _⟩ => ⟨S2048x128, .f32⟩
  | .hbm, ⟨10, _⟩ => ⟨S2048x128, .bf16⟩
  | .hbm, ⟨11, _⟩ => ⟨S2048x4640, .f32⟩
  | .hbm, ⟨12, _⟩ => ⟨S2048x4640, .bf16⟩
  | .hbm, ⟨13, _⟩ => ⟨S16384x2048, .f32⟩
  | .hbm, ⟨14, _⟩ => ⟨S2048, .f32⟩
  | .hbm, ⟨15, _⟩ => ⟨S1x2048, .f32⟩
  | .hbm, ⟨16, _⟩ => ⟨S16384x4608, .bf16⟩
  | .hbm, ⟨17, _⟩ => ⟨S16384x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x128, .bf16⟩
  | .local _ .vmem, ⟨4, _⟩ => ⟨S512x4608, .bf16⟩
  | .local _ .vmem, ⟨5, _⟩ => ⟨S512x4608, .bf16⟩
  | .local _ .vmem, ⟨6, _⟩ => ⟨S512x128, .f32⟩
  | .local _ .vmem, ⟨7, _⟩ => ⟨S512x128, .f32⟩
  | .local _ .vmem, ⟨8, _⟩ => ⟨S2048x4608, .bf16⟩
  | .local _ .vmem, ⟨9, _⟩ => ⟨S2x128x128, .f32⟩
  | .local _ .vmem, ⟨10, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4608 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S4x4096x2048 : Shape := ⟨3, ![4, 4096, 2048]⟩
abbrev S1x2048 : Shape := ⟨2, ![1, 2048]⟩
abbrev S1x2048x4640 : Shape := ⟨3, ![1, 2048, 4640]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S2048 : Shape := ⟨1, ![2048]⟩
abbrev S2048x4640 : Shape := ⟨2, ![2048, 4640]⟩
abbrev S16384x4640 : Shape := ⟨2, ![16384, 4640]⟩
abbrev S16384x1024 : Shape := ⟨2, ![16384, 1024]⟩
abbrev S16384x32 : Shape := ⟨2, ![16384, 32]⟩
abbrev S16384x128 : Shape := ⟨2, ![16384, 128]⟩
abbrev S16384x3584 : Shape := ⟨2, ![16384, 3584]⟩
abbrev S16384x4608 : Shape := ⟨2, ![16384, 4608]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x4640, .f32⟩
  | .hbm, ⟨3, _⟩ => ⟨S16384x2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S2048x4640, .f32⟩
  | .hbm, ⟨22, _⟩ => ⟨S16384x4640, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S16384x32, .f32⟩
  | .hbm, ⟨28, _⟩ => ⟨S_, .i32⟩
  | .hbm, ⟨29, _⟩ => ⟨S_, .f32⟩
  | .hbm, ⟨30, _⟩ => ⟨S16384x128, .f32⟩
  | .hbm, ⟨31, _⟩ => ⟨S16384x3584, .f32⟩
  | .hbm, ⟨32, _⟩ => ⟨S16384x4608, .f32⟩
  | .hbm, ⟨33, _⟩ => ⟨S16384x4608, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_call0_v0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel4.lean ====
abbrev S16384x2048 : Shape := ⟨2, ![16384, 2048]⟩
abbrev S16384x1024 : Shape := ⟨2, ![16384, 1024]⟩
abbrev S1x2048x2048 : Shape := ⟨3, ![1, 2048, 2048]⟩
abbrev S512x1024 : Shape := ⟨2, ![512, 1024]⟩
abbrev S512x2048 : Shape := ⟨2, ![512, 2048]⟩
abbrev S2048x2048 : Shape := ⟨2, ![2048, 2048]⟩
abbrev S2x128x2048 : Shape := ⟨3, ![2, 128, 2048]⟩
abbrev S2 : Shape := ⟨1, ![2]⟩
abbrev S1 : Shape := ⟨1, ![1]⟩
abbrev S_ : Shape := ⟨0, ![]⟩
abbrev S1x128x2048 : Shape := ⟨3, ![1, 128, 2048]⟩
abbrev S128x2048 : Shape := ⟨2, ![128, 2048]⟩
abbrev S1024x512 : Shape := ⟨2, ![1024, 512]⟩
abbrev S512x512 : Shape := ⟨2, ![512, 512]⟩

abbrev nBuf : Space → Nat
  | .hbm => 5
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S1x2048x2048, .f32⟩
  | .hbm, ⟨4, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S2048x2048, .bf16⟩
  | .local _ .vmem, ⟨9, _⟩ => ⟨S2x128x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S16384x2048 : Shape := ⟨2, ![16384, 2048]⟩
abbrev S16384x1024 : Shape := ⟨2, ![16384, 1024]⟩
abbrev S1x2048x2048 : Shape := ⟨3, ![1, 2048, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S1x2048x2048, .f32⟩
  | .hbm, ⟨4, _⟩ => ⟨S16384x1024, .f32⟩
  | .hbm, ⟨5, _⟩ => ⟨S16384x1024, .f32⟩
  | .hbm, ⟨6, _⟩ => ⟨S16384x2048, .f32⟩
  | .hbm, ⟨7, _⟩ => ⟨S2048x2048, .f32⟩
  | .hbm, ⟨8, _⟩ => ⟨S16384x2048, .f32⟩
  | .hbm, ⟨9, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel5.lean ====
abbrev S4x256x2048 : Shape := ⟨3, ![4, 256, 2048]⟩
abbrev S1x2048 : Shape := ⟨2, ![1, 2048]⟩
abbrev S1x2048x2048 : Shape := ⟨3, ![1, 2048, 2048]⟩
abbrev S1024x2048 : Shape := ⟨2, ![1024, 2048]⟩
abbrev S2048 : Shape := ⟨1, ![2048]⟩
abbrev S512x2048 : Shape := ⟨2, ![512, 2048]⟩
abbrev S1x512x2048 : Shape := ⟨3, ![1, 512, 2048]⟩
abbrev S4x512x512 : Shape := ⟨3, ![4, 512, 512]⟩
abbrev S512 : Shape := ⟨1, ![512]⟩
abbrev S512x1 : Shape := ⟨2, ![512, 1]⟩
abbrev S512x512 : Shape := ⟨2, ![512, 512]⟩
abbrev S1x512x512 : Shape := ⟨3, ![1, 512, 512]⟩

abbrev nBuf : Space → Nat
  | .hbm => 9
  | .vmem => 14
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S1x2048x2048, .f32⟩
  | .hbm, ⟨3, _⟩ => ⟨S1x2048x2048, .f32⟩
  | .hbm, ⟨4, _⟩ => ⟨S1024x2048, .f32⟩
  | .hbm, ⟨5, _⟩ => ⟨S2048, .f32⟩
  | .hbm, ⟨6, _⟩ => ⟨S1x2048, .f32⟩
  | .hbm, ⟨7, _⟩ => ⟨S1024x2048, .bf16⟩
  | .hbm, ⟨8, _⟩ => ⟨S1024x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x512x2048, .f32⟩
  | .local _ .vmem, ⟨4, _⟩ => ⟨S1x512x2048, .f32⟩
  | .local _ .vmem, ⟨5, _⟩ => ⟨S1x512x2048, .f32⟩
  | .local _ .vmem, ⟨6, _⟩ => ⟨S1x512x2048, .f32⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S4x512x512, .bf16⟩
  | .local _ .vmem, ⟨12, _⟩ => ⟨S512x2048, .f32⟩
  | .local _ .vmem, ⟨13, _⟩ => ⟨S512x2048, .f32⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 4], ![false, false]⟩

def k0_off1 (i : grid0.Coords) : Fin 3 → Nat :=
  let arg1 : BitVec 32 := BitVec.ofNat 32 (i 1).val
  let v3 : Index := Scalar.indexCast arg1
  let c0 : Index := 0#32
  let c0_1 : Index := 0#32
  ![v3.toNat, 0, 0]
def k0_cond2 (i : grid0.Coords) : BitVec 1 :=
  let arg1 : BitVec 32 := BitVec.ofNat 32 (i 1).val
  let c3_i32 : BitVec 32 := 3#32
  let v24 : BitVec 1 := Scalar.cmpi .eq arg1 c3_i32
  let v25 : BitVec 32 := Scalar.extui v24
  let c0_i32_17 : BitVec 32 := 0#32
  let v26 : BitVec 1 := Scalar.cmpi .ne v25 c0_i32_17
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference5Ideal.lean ====
abbrev S4x256x2048 : Shape := ⟨3, ![4, 256, 2048]⟩
abbrev S1x2048 : Shape := ⟨2, ![1, 2048]⟩
abbrev S1x2048x2048 : Shape := ⟨3, ![1, 2048, 2048]⟩
abbrev S1024x2048 : Shape := ⟨2, ![1024, 2048]⟩
abbrev S_ : Shape := ⟨0, ![]⟩
abbrev S1024 : Shape := ⟨1, ![1024]⟩
abbrev S1024x1 : Shape := ⟨2, ![1024, 1]⟩
abbrev S2048 : Shape := ⟨1, ![2048]⟩
abbrev S2048x2048 : Shape := ⟨2, ![2048, 2048]⟩

abbrev nBuf : Space → Nat
  | .hbm => 28
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S1x2048x2048, .f32⟩
  | .hbm, ⟨3, _⟩ => ⟨S1x2048x2048, .f32⟩
  | .hbm, ⟨4, _⟩ => ⟨S1024x2048, .f32⟩
  | .hbm, ⟨5, _⟩ => ⟨S1024x2048, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S1024x1, .f32⟩
  | .hbm, ⟨16, _⟩ => ⟨S1024x2048, .f32⟩
  | .hbm, ⟨17, _⟩ => ⟨S1024x2048, .f32⟩
  | .hbm, ⟨18, _⟩ => ⟨S2048, .f32⟩
  | .hbm, ⟨19, _⟩ => ⟨S1x2048, .f32⟩
  | .hbm, ⟨20, _⟩ => ⟨S1024x2048, .f32⟩
  | .hbm, ⟨21, _⟩ => ⟨S1024x2048, .f32⟩
  | .hbm, ⟨22, _⟩ => ⟨S2048x2048, .f32⟩
  | .hbm, ⟨23, _⟩ => ⟨S1024x2048, .f32⟩
  | .hbm, ⟨24, _⟩ => ⟨S1024x2048, .bf16⟩
  | .hbm, ⟨25, _⟩ => ⟨S2048x2048, .f32⟩
  | .hbm, ⟨26, _⟩ => ⟨S1024x2048, .f32⟩
  | .hbm, ⟨27, _⟩ => ⟨S1024x2048, .bf16⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel6.lean ====
abbrev S16384x4608 : Shape := ⟨2, ![16384, 4608]⟩
abbrev S1x8 : Shape := ⟨2, ![1, 8]⟩
abbrev S1x1024 : Shape := ⟨2, ![1, 1024]⟩
abbrev S8 : Shape := ⟨1, ![8]⟩
abbrev S1024 : Shape := ⟨1, ![1024]⟩
abbrev S4x4096x4608 : Shape := ⟨3, ![4, 4096, 4608]⟩
abbrev S4x4096x1024 : Shape := ⟨3, ![4, 4096, 1024]⟩
abbrev S1x512x1024 : Shape := ⟨3, ![1, 512, 1024]⟩
abbrev S1x128x256 : Shape := ⟨3, ![1, 128, 256]⟩
abbrev S1x512x256 : Shape := ⟨3, ![1, 512, 256]⟩
abbrev S768x256 : Shape := ⟨2, ![768, 256]⟩
abbrev S4x128x1024 : Shape := ⟨3, ![4, 128, 1024]⟩
abbrev S128x256 : Shape := ⟨2, ![128, 256]⟩
abbrev S512x256 : Shape := ⟨2, ![512, 256]⟩
abbrev S128x384 : Shape := ⟨2, ![128, 384]⟩
abbrev S1x128x128 : Shape := ⟨3, ![1, 128, 128]⟩
abbrev S128x128 : Shape := ⟨2, ![128, 128]⟩
abbrev S384x128 : Shape := ⟨2, ![384, 128]⟩
abbrev S1 : Shape := ⟨1, ![1]⟩
abbrev S128 : Shape := ⟨1, ![128]⟩
abbrev S128x1 : Shape := ⟨2, ![128, 1]⟩
abbrev S1x128x1024 : Shape := ⟨3, ![1, 128, 1024]⟩
abbrev S128x1024 : Shape := ⟨2, ![128, 1024]⟩

abbrev nBuf : Space → Nat
  | .hbm => 8
  | .vmem => 20
  | .smem => 1
  | _ => 0

abbrev bufTy : (tb : Table) → Fin (tcTables nBuf tb) → BufTy
  | .hbm, ⟨0, _⟩ => ⟨S16384x4608, .bf16⟩
  | .hbm, ⟨1, _⟩ => ⟨S1x8, .f32⟩
  | .hbm, ⟨2, _⟩ => ⟨S1x1024, .f32⟩
  | .hbm, ⟨3, _⟩ => ⟨S8, .f32⟩
  | .hbm, ⟨4, _⟩ => ⟨S1024, .f32⟩
  | .hbm, ⟨5, _⟩ => ⟨S4x4096x4608, .bf16⟩
  | .hbm, ⟨6, _⟩ => ⟨S1x1024, .f32⟩
  | .hbm, ⟨7, _⟩ => ⟨S4x4096x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x128x256, .bf16⟩
  | .local _ .vmem, ⟨3, _⟩ => ⟨S1x128x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x128x256, .bf16⟩
  | .local _ .vmem, ⟨13, _⟩ => ⟨S1x128x256, .bf16⟩
  | .local _ .vmem, ⟨14, _⟩ => ⟨S1x1024, .f32⟩
  | .local _ .vmem, ⟨15, _⟩ => ⟨S1x512x1024, .bf16⟩
  | .local _ .vmem, ⟨16, _⟩ => ⟨S1x512x1024, .bf16⟩
  | .local _ .vmem, ⟨17, _⟩ => ⟨S768x256, .bf16⟩
  | .local _ .vmem, ⟨18, _⟩ => ⟨S768x256, .bf16⟩
  | .local _ .vmem, ⟨19, _⟩ => ⟨S4x128x1024, .f32⟩
  | .local _ .smem, ⟨0, _⟩ => ⟨S8, .f32⟩
  | _, _ => ⟨S16384x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c4_i32_0 : BitVec 32 := 4#32
  let c0_i32_1 : BitVec 32 := 0#32
  ![arg0.toNat, v2.toNat, c4_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.addi v0 c4_i32_0
  let c31_i32 : BitVec 32 := 31#32
  let v2 : BitVec 32 := Scalar.minsi v1 c31_i32
  let c4_i32_1 : BitVec 32 := 4#32
  let c0_i32 : BitVec 32 := 0#32
  ![arg0.toNat, v2.toNat, c4_i32_1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![arg0.toNat, v2.toNat, c5_i32.toNat]

def cc0_transform_6 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.addi v0 c4_i32_0
  let c31_i32 : BitVec 32 := 31#32
  let v2 : BitVec 32 := Scalar.minsi v1 c31_i32
  let c5_i32 : BitVec 32 := 5#32
  let c0_i32 : BitVec 32 := 0#32
  ![arg0.toNat, v2.toNat, c5_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Proof.CrossMath.lean ====
module

public import proofs.«01_k».proof.Proof.Gen.Kernel2Ideal.Skeleton
public import Idealize.ShloMosaic.PureOps.Ideal.Laws

@[expose] public section

noncomputable section

/-! The attention of one row and one head over the extended reals: the kernel's form, which scales the queries and takes powers of
two, and the textbook's, which scales the scores and takes exponentials. -/

namespace Cert.Kernel2Ideal.CrossRun

open Cert.Kernel2Ideal Idealize.ShloMosaic

/-- The root-mean-square normalization of a row `z`, with gain `g`. -/
def rowNorm (z g : Fin 2048 → EReal) (b : Fin 2048) : EReal :=
  z b * Ideal.rsqrt (Ideal.div (∑ x, z x * z x) (Ideal.ofBits .f32 1157627904#32) + Ideal.ofBits .f32 897988541#32) * g b

/-- One query of the normalized row. -/
def query (z g w : Fin 2048 → EReal) : EReal := ∑ x, rowNorm z g x * w x

/-- The constant the kernel scales its queries by. -/
def scale : EReal := (((Real.log 2)⁻¹ * (11863283 / 268435456) : ℝ) : EReal)

/-- The attention as the kernel takes it. -/
def attK (q : Fin 512 → EReal) (k : Fin 256 → Fin 512 → EReal) (v : Fin 256 → EReal) : EReal :=
  Ideal.div (∑ m, Ideal.exp2 ((∑ x, q x * scale * k m x) - Finset.univ.fold max (Ideal.ofBits .f32 4286578688#32) fun m' => ∑ x, q x * scale * k m' x) * v m)
    (∑ m, Ideal.exp2 ((∑ x, q x * scale * k m x) - Finset.univ.fold max (Ideal.ofBits .f32 4286578688#32) fun m' => ∑ x, q x * scale * k m' x))

/-- A weight of the textbook's softmax, before its division. -/
def weight (q : Fin 512 → EReal) (k : Fin 256 → Fin 512 → EReal) (m : Fin 256) : EReal :=
  Ideal.exp ((∑ x, q x * k m x) * Ideal.ofBits .f32 1026884851#32
    - max (Ideal.ofBits .f32 4286578688#32) (Finset.univ.fold max (Ideal.ofBits .f32 4286578688#32) fun m' => (∑ x, q x * k m' x) * Ideal.ofBits .f32 1026884851#32))

/-- The attention as the reference takes it. -/
def attR (q : Fin 512 → EReal) (k : Fin 256 → Fin 512 → EReal) (v : Fin 256 → EReal) : EReal :=
  ∑ m, v m * Ideal.div (weight q k m) (∑ m', weight q k m')

theorem word_bot : Ideal.ofBits .f32 4286578688#32 = ⊥ := by simp [Ideal.ofBits, Ideal.ieee]

theorem word_top : Ideal.ofBits .f32 0x7F800000#32 = ⊤ := by simp [Ideal.ofBits, Ideal.ieee]

theorem word_scale : Ideal.ofBits .f32 1026884851#32 = ((11863283 / 268435456 : ℝ) : EReal) := by
  simp [Ideal.ofBits, Ideal.ieee, -EReal.coe_mul]; norm_num

theorem word_cols : Ideal.ofBits .f32 1157627904#32 = ((2048 : ℝ) : EReal) := by
  simp [Ideal.ofBits, Ideal.ieee, -EReal.coe_mul]; norm_num

theorem word_eps : ∃ r : ℝ, 0 < r ∧ Ideal.ofBits .f32 897988541#32 = (r : EReal) := by
  refine ⟨_, ?_, by simp [Ideal.ofBits, Ideal.ieee, -EReal.coe_mul]; rfl⟩
  norm_num

/-- A finite sum of reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A nonnegative real factor moves into a sum. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-- The maximum of reals, one of which is the largest. -/
theorem fold_max (f : Fin 256 → ℝ) (m₀ : Fin 256) (h : ∀ m, f m ≤ f m₀) :
    (Finset.univ.fold max (⊥ : EReal) fun m => (f m : EReal)) = (f m₀ : EReal) := by
  refine le_antisymm ?_ ?_
  · exact (Finset.fold_max_le _).mpr ⟨bot_le, fun m _ => EReal.coe_le_coe_iff.mpr (h m)⟩
  · exact (Finset.le_fold_max _).mpr (Or.inr ⟨m₀, Finset.mem_univ _, le_rfl⟩)

theorem two_rpow (x : ℝ) : Real.rpow 2 ((Real.log 2)⁻¹ * x) = Real.exp x := by
  show (2 : ℝ) ^ ((Real.log 2)⁻¹ * x) = _
  rw [Real.rpow_def_of_pos (by norm_num), ← mul_assoc, mul_inv_cancel₀ (Real.log_pos (by norm_num)).ne', one_mul]

/-- The two attentions agree on real queries and keys. -/
theorem att_eq (q : Fin 512 → EReal) (k : Fin 256 → Fin 512 → EReal) (v : Fin 256 → EReal)
    (hq : ∀ x, ∃ r : ℝ, q x = r) (hk : ∀ m x, ∃ r : ℝ, k m x = r) : attK q k v = attR q k v := by
  choose Q hQ using hq
  choose K hK using hk
  obtain ⟨m₀, -, hm⟩ := Finset.exists_max_image (Finset.univ : Finset (Fin 256)) (fun m => ∑ x, Q x * K m x) ⟨0, Finset.mem_univ _⟩
  have hS (m : Fin 256) : (∑ x, q x * scale * k m x) = (((Real.log 2)⁻¹ * ((∑ x, Q x * K m x) * (11863283 / 268435456)) : ℝ) : EReal) := by
    simp only [hQ, hK, scale, ← EReal.coe_mul, sum_coe]
    congr 1
    rw [Finset.sum_mul, Finset.mul_sum]
    exact Finset.sum_congr rfl fun x _ => by ring
  have hT (m : Fin 256) : (∑ x, q x * k m x) * Ideal.ofBits .f32 1026884851#32 = (((∑ x, Q x * K m x) * (11863283 / 268435456) : ℝ) : EReal) := by
    simp only [hQ, hK, word_scale, ← EReal.coe_mul, sum_coe]
  have hlog : (0 : ℝ) ≤ (Real.log 2)⁻¹ := inv_nonneg.mpr (Real.log_nonneg (by norm_num))
  have hle (m : Fin 256) : (∑ x, Q x * K m x) * (11863283 / 268435456 : ℝ) ≤ (∑ x, Q x * K m₀ x) * (11863283 / 268435456) :=
    mul_le_mul_of_nonneg_right (hm m (Finset.mem_univ _)) (by norm_num)
  have hMK := fold_max (fun m => (Real.log 2)⁻¹ * ((∑ x, Q x * K m x) * (11863283 / 268435456))) m₀ fun m => mul_le_mul_of_nonneg_left (hle m) hlog
  have hMR := fold_max (fun m => (∑ x, Q x * K m x) * (11863283 / 268435456)) m₀ hle
  have hW (m : Fin 256) : weight q k m = ((Real.exp ((∑ x, Q x * K m x) * (11863283 / 268435456) - (∑ x, Q x * K m₀ x) * (11863283 / 268435456)) : ℝ) : EReal) := by
    unfold weight
    simp only [hT, word_bot]
    rw [hMR, max_eq_right bot_le, ← EReal.coe_sub, Ideal.exp_coe]
  have hE (m : Fin 256) : Ideal.exp2 ((∑ x, q x * scale * k m x) - Finset.univ.fold max (Ideal.ofBits .f32 4286578688#32) fun m' => ∑ x, q x * scale * k m' x) = weight q k m := by
    simp only [hS, word_bot]
    rw [hMK, hW, ← EReal.coe_sub, ← mul_sub, Ideal.exp2_coe, two_rpow]
  unfold attK attR
  simp only [hE]
  have hpos : 0 < ∑ m, Real.exp ((∑ x, Q x * K m x) * (11863283 / 268435456) - (∑ x, Q x * K m₀ x) * (11863283 / 268435456)) :=
    Finset.sum_pos (fun m _ => Real.exp_pos _) ⟨0, Finset.mem_univ _⟩
  have hD : (∑ m, weight q k m) = ((∑ m, Real.exp ((∑ x, Q x * K m x) * (11863283 / 268435456) - (∑ x, Q x * K m₀ x) * (11863283 / 268435456)) : ℝ) : EReal) := by
    simp only [hW, sum_coe]
  rw [hD]
  simp only [Ideal.div_coe hpos.ne']
  rw [sum_mul_coe _ _ _ (by positivity)]
  exact Finset.sum_congr rfl fun m _ => by rw [mul_comm (weight q k m) (v m), mul_assoc]

/-- A query of real operands is real. -/
theorem query_real (z g w : Fin 2048 → EReal) (hz : ∀ x, ∃ r : ℝ, z x = r) (hg : ∀ x, ∃ r : ℝ, g x = r) (hw : ∀ x, ∃ r : ℝ, w x = r) :
    ∃ r : ℝ, query z g w = r := by
  choose Z hZ using hz
  choose G hG using hg
  choose W hW using hw
  obtain ⟨e, he, hword⟩ := word_eps
  have hpos : 0 < (∑ x, Z x * Z x) * (1 / 2048) + e :=
    add_pos_of_nonneg_of_pos (mul_nonneg (Finset.sum_nonneg fun x _ => mul_self_nonneg _) (by norm_num)) he
  refine ⟨∑ x, Z x * (Real.sqrt ((∑ x, Z x * Z x) * (1 / 2048) + e))⁻¹ * G x * W x, ?_⟩
  unfold query rowNorm
  simp only [hZ, hG, hW, hword, word_cols, ← EReal.coe_mul, sum_coe, Ideal.div_coe (show (2048 : ℝ) ≠ 0 by norm_num), ← EReal.coe_add,
    Ideal.rsqrt_coe, if_neg hpos.not_gt, if_neg hpos.ne']

/-- An extended real below infinity in absolute value is real. -/
theorem real_of_abs_lt (x : EReal) (h : max x (-x) < ⊤) : ∃ r : ℝ, x = r := by
  induction x with
  | bot => simp at h
  | coe r => exact ⟨r, rfl⟩
  | top => simp at h

end Cert.Kernel2Ideal.CrossRun

end
-- ==== Proof.Slots.lean ====
module

public import Idealize.ShloMosaic.Lib.Pipeline.FrameBody
public import Idealize.ShloMosaic.Lib.Pipeline.Value
public import Idealize.ShloMosaic.Lib.Writes
public import Idealize.ShloMosaic.Lib.Pointwise

@[expose] public section

noncomputable section

/-! Reading a buffer that copies filled slot by slot, and a buffer stored slab by slab. -/

namespace Slots

open Idealize.ShloMosaic

variable {sig : RefSig} {κ : Kind} {sp : Space} {s s' : Shape} {e : EltTy} {Val : EltTy → Type}

/-- A slot read right after a copy into it holds what was copied. -/
theorem hit (M : Memref sig κ sp s e) (r : Rect s) (hr : ∀ a, r.stride a = 1) (hq : r.shape.Squeezes s') (hc : r.shape.ShapeCasts s')
    (f : M.view.ty.Contents Val) (w : s'.Idx → Val e) :
    shapeCast s' (M.view.readAt Val r.toLoadRect (((M.slice r hr).squeeze s' hq).view.write Val f w Finset.univ)) hc = w :=
  (Memref.read_squeeze_slice M r hr hq hc _).symm.trans (View.read_write_univ _ _)

/-- A copy into another slot does not change what a slot reads. -/
theorem miss (M : Memref sig κ sp s e) (r r' : Rect s) (hr' : ∀ a, r'.stride a = 1) (hq : r'.shape.Squeezes s')
    (hd : Disjoint r.set r'.set) (f : M.view.ty.Contents Val) (w : s'.Idx → Val e) :
    M.view.readAt Val r.toLoadRect (((M.slice r' hr').squeeze s' hq).view.write Val f w Finset.univ) = M.view.readAt Val r.toLoadRect f := by
  refine View.readAt_congr fun i hi => View.write_of_not_mem _ _ _ fun hm => ?_
  have hm' : i ∈ ((M.slice r' hr').squeeze s' hq).view.set := hm
  rw [show ((M.slice r' hr').squeeze s' hq).view.set = (M.view.slice r').set from View.set_reshape (v := (M.slice r' hr').view) hq.numel_eq, View.set_slice] at hm'
  obtain ⟨a, ha, rfl⟩ := Finset.mem_map.mp hi
  obtain ⟨b, hb, hab⟩ := Finset.mem_map.mp hm'
  obtain rfl : b = a := M.view.emb.injective hab
  exact Finset.disjoint_left.mp hd (by simpa using ha) hb

/-- A buffer whose stores all agree with one vector and cover it reads that vector. -/
theorem agree (v : View sig κ sp s e) (f : v.ty.Contents Val) (W : s.Idx → Val e) (y : s.Idx) :
    ∀ L : List (View.Piece Val s e), (∀ p ∈ L, ∀ x, p.2 x = W (p.1.emb x)) → (∃ p ∈ L, y ∈ p.1.set) →
      v.read Val (v.writes Val f L) y = W y
  | [], _, h => by obtain ⟨_, hm, _⟩ := h; exact absurd hm List.not_mem_nil
  | p :: L, hp, h => by
    by_cases hy : y ∈ p.1.set
    · obtain ⟨x, rfl⟩ : ∃ x, p.1.emb x = y := p.1.exists_idx_of_mem hy
      rw [View.read_writes_cons_emb]; exact hp p (List.mem_cons_self ..) x
    · have hy' : y ∉ Finset.univ.map p.1.emb := by rwa [Rect.map_emb_univ]
      rw [View.writes_cons, View.read_slice_write_of_not_mem p.1 _ _ _ hy']
      refine agree v f W y L (fun q hq => hp q (List.mem_cons_of_mem _ hq)) ?_
      obtain ⟨q, hq, hyq⟩ := h
      rcases List.mem_cons.mp hq with rfl | hq
      · exact absurd hyq hy
      · exact ⟨q, hq, hyq⟩

end Slots

end
-- ==== Proof.CrossText.lean ====
module

public import proofs.«01_k».proof.Proof.Gen.Kernel2Ideal.Frame
public import proofs.«01_k».proof.Proof.Gen.Kernel2Ideal.Skeleton
public import proofs.«01_k».proof.Proof.Slots

@[expose] public section

set_option maxRecDepth 16384

noncomputable section

namespace Cert.Kernel2Ideal.CrossRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F] [Named F]

local notation "𝕄" => MT nD τ sig Unit (Elt F) ℕ (Pipeline.UD sig nD τ) ℕ

abbrev first (i : grid0.Coords) : Prop := (Scalar.cmpi .ne (Scalar.extui (Scalar.cmpi .eq (BitVec.ofNat 32 (i 0).val) 0#32)) 0#32) = 1#1

abbrev hbPt0 (c : Dev nD) {sp : Space} {S : Shape} {e : EltTy} (M : Memref sig .tc sp S e) (f : Buf (Elt F) (M.view.loc (c : Thread nD τ))) : sProp 𝕄 :=
  M.view.loc (c : Thread nD τ) ↦{fullShare} f

/-- The contents types of the two weights' arrays. -/
abbrev QBuf (c : Dev nD) : Type := Buf (Elt F) ((Memref.whole main_arg2 : Memref sig .tc .hbm S1x2048x2048 .f32).view.loc (c : Thread nD τ))
abbrev OBuf (c : Dev nD) : Type := Buf (Elt F) ((Memref.whole main_arg5 : Memref sig .tc .hbm S1x2048x2048 .f32).view.loc (c : Thread nD τ))

/-- A weight as the kernel keeps it: the array's one matrix, narrowed. -/
def Wt (g : S1x2048x2048.Idx → Elt F .f32) : Vec F S2048x2048 .bf16 := fun j => FloatOps.truncf .bf16 bitsLt_bf16_f32 (g (ix3 0 (j 0) (j 1)))

/-- The two weights' matrices, narrowed. -/
abbrev Wq (c : Dev nD) (fq : QBuf (F := F) c) : Vec F S2048x2048 .bf16 := Wt (View.read (Elt F) (Memref.whole main_arg2 : Memref sig .tc .hbm S1x2048x2048 .f32).view fq)
abbrev Wo (c : Dev nD) (fo : OBuf (F := F) c) : Vec F S2048x2048 .bf16 := Wt (View.read (Elt F) (Memref.whole main_arg5 : Memref sig .tc .hbm S1x2048x2048 .f32).view fo)

/-- The cast of a slab, at an index. -/
theorem cast_at (v : Vec F S1x128x2048 .f32) (x : S128x2048.Idx) :
    k0_pay3 v x = FloatOps.truncf .bf16 bitsLt_bf16_f32 (shapeCast S128x2048 v shapeCasts_S1x128x2048_S128x2048 x) :=
  by unfold k0_pay3; exact congrFun (shapeCast_self (truncf .bf16 (shapeCast S128x2048 v _) bitsLt_bf16_f32) _) x

/-- A slab of the array, flattened to a matrix, is the matrix's slab. -/
theorem slab_at {α : Type} (g : S1x2048x2048.Idx → α) (o : ℕ) (inbo) (inbw) (x : S128x2048.Idx) :
    shapeCast S128x2048 (fun y : S1x128x2048.Idx => g ((Rect.unit (s := S1x2048x2048) ![0, o, 0] S1x128x2048.size inbo).emb y)) shapeCasts_S1x128x2048_S128x2048 x
      = g (ix3 0 ((Rect.unit (s := S2048x2048) ![o, 0] S128x2048.size inbw).emb x 0) ((Rect.unit (s := S2048x2048) ![o, 0] S128x2048.size inbw).emb x 1)) := by
  pointwise []
  refine congrArg g (funext fun a => Fin.ext ?_)
  fin_cases a <;> simp

/-- A slab cast right after its copy is the weights' slab. -/
theorem slab (X : Memref sig .tc .hbm S1x2048x2048 .f32) (fh : X.view.ty.Contents (Elt F)) (M : Memref sig .tc .vmem S2x128x2048 .f32) (off : Fin 3 → ℕ) (inb) (hr) (o : ℕ) (inbo) (hro) (f) (inbw)
    (x : S128x2048.Idx) :
    k0_pay3 (View.readAt (Elt F) M.view (Rect.unit (s := S2x128x2048) off S1x128x2048.size inb).toLoadRect
      (View.write (Elt F) ((M.slice (Rect.unit (s := S2x128x2048) off S1x128x2048.size inb) hr).squeeze S128x2048 squeezes_S1x128x2048_S128x2048).view f
        (ReadAs.same.apply (View.read (Elt F) ((X.slice (Rect.unit (s := S1x2048x2048) ![0, o, 0] S1x128x2048.size inbo) hro).squeeze S128x2048 squeezes_S1x128x2048_S128x2048).view fh))
        Finset.univ)) x
      = Wt (View.read (Elt F) X.view fh) ((Rect.unit (s := S2048x2048) ![o, 0] S128x2048.size inbw).emb x) := by
  refine (cast_at _ x).trans (congrArg _ ((congrFun (Slots.hit M _ hr squeezes_S1x128x2048_S128x2048 shapeCasts_S1x128x2048_S128x2048 f _) x).trans ?_))
  refine (congrFun (Memref.read_squeeze_slice X (Rect.unit (s := S1x2048x2048) ![0, o, 0] S1x128x2048.size inbo) hro squeezes_S1x128x2048_S128x2048 shapeCasts_S1x128x2048_S128x2048 fh) x).trans ?_
  exact slab_at (fun y => View.read (Elt F) X.view fh y) o inbo inbw x

/-- The same while a copy into the other slot is under way. -/
theorem slab_under (X : Memref sig .tc .hbm S1x2048x2048 .f32) (fh : X.view.ty.Contents (Elt F)) (M : Memref sig .tc .vmem S2x128x2048 .f32) (off off' : Fin 3 → ℕ) (inb) (hr) (inb') (hr') (o : ℕ) (inbo) (hro) (f) (w) (inbw)
    (hne : off 0 < off' 0 ∨ off' 0 < off 0) (x : S128x2048.Idx) :
    k0_pay3 (View.readAt (Elt F) M.view (Rect.unit (s := S2x128x2048) off S1x128x2048.size inb).toLoadRect
      (View.write (Elt F) ((M.slice (Rect.unit (s := S2x128x2048) off' S1x128x2048.size inb') hr').squeeze S128x2048 squeezes_S1x128x2048_S128x2048).view
       (View.write (Elt F) ((M.slice (Rect.unit (s := S2x128x2048) off S1x128x2048.size inb) hr).squeeze S128x2048 squeezes_S1x128x2048_S128x2048).view f
        (ReadAs.same.apply (View.read (Elt F) ((X.slice (Rect.unit (s := S1x2048x2048) ![0, o, 0] S1x128x2048.size inbo) hro).squeeze S128x2048 squeezes_S1x128x2048_S128x2048).view fh))
        Finset.univ) w Finset.univ)) x
      = Wt (View.read (Elt F) X.view fh) ((Rect.unit (s := S2048x2048) ![o, 0] S128x2048.size inbw).emb x) := by
  refine Eq.trans (congrArg (fun v => k0_pay3 v x) (Slots.miss M (Rect.unit (s := S2x128x2048) off S1x128x2048.size inb) (Rect.unit (s := S2x128x2048) off' S1x128x2048.size inb') hr' squeezes_S1x128x2048_S128x2048 ?_ _ _)) (slab X fh M off inb hr o inbo hro f inbw x)
  refine Finset.disjoint_left.mpr fun y hy hy' => ?_
  have h1 := Rect.mem_set_unit.mp hy (0 : Fin 3)
  have h2 := Rect.mem_set_unit.mp hy' (0 : Fin 3)
  have e1 : S1x128x2048.size (0 : Fin 3) = 1 := rfl
  omega

/-- The loads of the kernel's first point: each weight in sixteen slabs of 128 rows, copied through two slots, cast and stored; and the kept tile zeroed. -/
noncomputable def loadProg (i : grid0.Coords) (arg1 : Memref sig .tc .vmem S512x2048 .f32) (harg1 : arg1.IsWhole) (arg2 : Memref sig .tc .vmem S1x2048 .f32) (harg2 : arg2.IsWhole) (arg3 : Memref sig .tc .hbm S1x2048x2048 .f32) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .hbm S1x2048x2048 .f32) (harg6 : arg6.IsWhole) (arg7 : Memref sig .tc .vmem S1x2048 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S512x2048 .f32) (harg10 : arg10.IsWhole) (arg11 : Memref sig .tc .vmem S512x2x1024 .bf16) (harg11 : arg11.IsWhole) (arg12 : Memref sig .tc .vmem S512x128 .f32) (harg12 : arg12.IsWhole) (arg13 : Memref sig .tc .vmem S1x32x128 .i32) (harg13 : arg13.IsWhole) (arg14 : Memref sig .tc .vmem S1x8x128 .i32) (harg14 : arg14.IsWhole) (arg15 : Memref sig .tc .vmem S2048x2048 .bf16) (harg15 : arg15.IsWhole) (arg16 : Memref sig .tc .vmem S2048x2048 .bf16) (harg16 : arg16.IsWhole) (arg17 : Memref sig .tc .vmem S2x128x2048 .f32) (harg17 : arg17.IsWhole) (arg18 : DmaSems sig S2) (arg19 : Memref sig .tc .vmem S512x2048 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) :
    Prog (TpuEff nD τ sig (Elt F) Λ₀ .tc) PUnit := do
  k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 harg22
  k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 harg22
  k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 harg22
  k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 harg22
  k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 harg22
  k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 harg22
  k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 harg22
  k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 harg22
  k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 harg22
  k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 harg22
  k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 harg22
  k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 harg22
  k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 harg22
  k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 harg22
  k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 harg22
  k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 harg22
  k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 harg22
  k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 harg22
  k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 harg22
  k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 harg22
  k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 harg22
  let v1269 : Memref sig .tc .vmem S1x128x2048 .f32 := arg17.slice (Rect.unit (s := S2x128x2048) ![1, 0, 0] S1x128x2048.size inb_S2x128x2048_S1x128x2048_1_0_0) (fun _ => rfl)
  let v1270 : Memref sig .tc .vmem S128x2048 .f32 := v1269.squeeze S128x2048 squeezes_S1x128x2048_S128x2048
  let v1271 : Memref sig .tc .hbm S1x128x2048 .f32 := arg6.slice (Rect.unit (s := S1x2048x2048) ![0, 1920, 0] S1x128x2048.size inb_S1x2048x2048_S1x128x2048_0_1920_0) (fun _ => rfl)
  let v1272 : Memref sig .tc .hbm S128x2048 .f32 := v1271.squeeze S128x2048 squeezes_S1x128x2048_S128x2048
  let v1267 : DmaSems sig S1 := arg18.slice (Rect.unit (s := S2) ![1] S1.size inb_S2_S1_1)
  let v1268 : DmaSems sig S_ := v1267.squeeze S_ squeezes_S1_S_
  Prog.lift (.waitDma2 v1268.sem v1272 v1270 ((View.wordExact_bits rfl).reshape _ _) ((View.wordExact_bits rfl).reshape _ _))
  let v1273 : Vec F S1x128x2048 .f32 ← Prog.lift (.load arg17 (Rect.unit (s := S2x128x2048) ![1, 0, 0] S1x128x2048.size inb_S2x128x2048_S1x128x2048_1_0_0).toLoadRect (View.loadsAt_vmem h_S1x128x2048))
  let v1276 : Vec F S128x2048 .bf16 ← Prog.lift (.load arg16 (Rect.unit (s := S2048x2048) ![1920, 0] S128x2048.size inb_S2048x2048_S128x2048_1920_0).toLoadRect (View.loadsAt_vmem h_S128x2048))
  Prog.lift (.store arg16 (Rect.unit (s := S2048x2048) ![1920, 0] S128x2048.size inb_S2048x2048_S128x2048_1920_0) (k0_pay34 v1273) Finset.univ (View.stores_vmem h_S128x2048 (harg16.storeExact_slice rfl _ packedbf16_S2048x2048_S128x2048_1920_0) (fun _ => rfl)) (.inl rfl))
  let v1280 : Vec F S512x2048 .f32 ← Prog.lift (.load arg22 (Rect.unit (s := S512x2048) ![0, 0] S512x2048.size inb_S512x2048_S512x2048_0_0).toLoadRect (View.loadsAt_vmem h_S512x2048))
  Prog.lift (.store arg22 (Rect.unit (s := S512x2048) ![0, 0] S512x2048.size inb_S512x2048_S512x2048_0_0) (k0_pay35 (F := F)) Finset.univ (View.stores_vmem_bits_univ h_S512x2048 rfl) (.inl rfl))
  pure ⟨⟩

end Cert.Kernel2Ideal.CrossRun
-- ==== Proof.CrossRest.lean ====
module

public import proofs.«01_k».proof.Proof.CrossText
public import Idealize.ShloMosaic.Lib.VecWindow
public import Idealize.ShloMosaic.Lib.Pipeline.ReadBack

@[expose] public section

set_option maxRecDepth 16384

noncomputable section

namespace Cert.Kernel2Ideal.CrossRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F] [Named F]

local notation "𝕄" => MT nD τ sig Unit (Elt F) ℕ (Pipeline.UD sig nD τ) ℕ

/-- What every point does: the routing of the kept tile, and the attention of a new one. -/
noncomputable def restProg (i : grid0.Coords) (arg1 : Memref sig .tc .vmem S512x2048 .f32) (harg1 : arg1.IsWhole) (arg2 : Memref sig .tc .vmem S1x2048 .f32) (harg2 : arg2.IsWhole) (arg3 : Memref sig .tc .hbm S1x2048x2048 .f32) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .hbm S1x2048x2048 .f32) (harg6 : arg6.IsWhole) (arg7 : Memref sig .tc .vmem S1x2048 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S512x2048 .f32) (harg10 : arg10.IsWhole) (arg11 : Memref sig .tc .vmem S512x2x1024 .bf16) (harg11 : arg11.IsWhole) (arg12 : Memref sig .tc .vmem S512x128 .f32) (harg12 : arg12.IsWhole) (arg13 : Memref sig .tc .vmem S1x32x128 .i32) (harg13 : arg13.IsWhole) (arg14 : Memref sig .tc .vmem S1x8x128 .i32) (harg14 : arg14.IsWhole) (arg15 : Memref sig .tc .vmem S2048x2048 .bf16) (harg15 : arg15.IsWhole) (arg16 : Memref sig .tc .vmem S2048x2048 .bf16) (harg16 : arg16.IsWhole) (arg17 : Memref sig .tc .vmem S2x128x2048 .f32) (harg17 : arg17.IsWhole) (arg18 : DmaSems sig S2) (arg19 : Memref sig .tc .vmem S512x2048 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) :
    Prog (TpuEff nD τ sig (Elt F) Λ₀ .tc) PUnit := do
  let arg0 : BitVec 32 := BitVec.ofNat 32 (i 0).val
  let v3 : Vec F S512x2048 .f32 ← Prog.lift (.load arg22 (Rect.unit (s := S512x2048) ![0, 0] S512x2048.size inb_S512x2048_S512x2048_0_0).toLoadRect (View.loadsAt_vmem h_S512x2048))
  let v4 : Vec F S1x2048 .f32 ← Prog.lift (.load arg7 (Rect.unit (s := S1x2048) ![0, 0] S1x2048.size inb_S1x2048_S1x2048_0_0).toLoadRect (View.loadsAt_vmem h_S1x2048))
  let v6 : BitVec 32 := Scalar.subi arg0 1#32
  let v7 : BitVec 32 := Scalar.maxsi v6 0#32
  let v8 : Vec F S256x2048 .f32 ← Prog.lift (.load arg1 (Rect.unit (s := S512x2048) ![0, 0] S256x2048.size inb_S512x2048_S256x2048_0_0).toLoadRect (View.loadsAt_vmem h_S256x2048))
  let v9 : Vec F S1x2048 .f32 ← Prog.lift (.load arg2 (Rect.unit (s := S1x2048) ![0, 0] S1x2048.size inb_S1x2048_S1x2048_0_0).toLoadRect (View.loadsAt_vmem h_S1x2048))
  let v24 : Vec F S256x2048 .bf16 ← Prog.lift (.load arg19 (Rect.unit (s := S512x2048) ![0, 0] S256x2048.size inb_S512x2048_S256x2048_0_0).toLoadRect (View.loadsAt_vmem h_S256x2048))
  Prog.lift (.store arg19 (Rect.unit (s := S512x2048) ![0, 0] S256x2048.size inb_S512x2048_S256x2048_0_0) (k0_pay37 v8 v9) Finset.univ (View.stores_vmem h_S256x2048 (harg19.storeExact_slice rfl _ packedbf16_S512x2048_S256x2048_0_0) (fun _ => rfl)) (.inl rfl))
  let v27 : Vec F S256x2048 .bf16 ← Prog.lift (.load arg19 (Rect.unit (s := S512x2048) ![0, 0] S256x2048.size inb_S512x2048_S256x2048_0_0).toLoadRect (View.loadsAt_vmem h_S256x2048))
  let v28 : Vec F S2048x512 .bf16 ← Prog.lift (.load arg15 (Rect.unit (s := S2048x2048) ![0, 0] S2048x512.size inb_S2048x2048_S2048x512_0_0).toLoadRect (View.loadsAt_vmem h_S2048x512))
  let v5 : FVec F S1x2048 .f32 := k0_pay36 v4
  let v32 : FVec F S256x512 .bf16 := k0_pay38 v27 v28
  let v33 : Vec F S256x512 .bf16 ← Prog.lift (.load arg20 (Rect.unit (s := S512x2048) ![0, 0] S256x512.size inb_S512x2048_S256x512_0_0).toLoadRect (View.loadsAt_vmem h_S256x512))
  Prog.lift (.store arg20 (Rect.unit (s := S512x2048) ![0, 0] S256x512.size inb_S512x2048_S256x512_0_0) (k0_pay39 v32) Finset.univ (View.stores_vmem h_S256x512 (harg20.storeExact_slice rfl _ packedbf16_S512x2048_S256x512_0_0) (fun _ => rfl)) (.inl rfl))
  let v36 : Vec F S256x2048 .bf16 ← Prog.lift (.load arg19 (Rect.unit (s := S512x2048) ![0, 0] S256x2048.size inb_S512x2048_S256x2048_0_0).toLoadRect (View.loadsAt_vmem h_S256x2048))
  let v37 : Vec F S2048x512 .bf16 ← Prog.lift (.load arg15 (Rect.unit (s := S2048x2048) ![0, 512] S2048x512.size inb_S2048x2048_S2048x512_0_512).toLoadRect (View.loadsAt_vmem h_S2048x512))
  let v42 : Vec F S256x512 .bf16 ← Prog.lift (.load arg20 (Rect.unit (s := S512x2048) ![0, 512] S256x512.size inb_S512x2048_S256x512_0_512).toLoadRect (View.loadsAt_vmem h_S256x512))
  Prog.lift (.store arg20 (Rect.unit (s := S512x2048) ![0, 512] S256x512.size inb_S512x2048_S256x512_0_512) (k0_pay40 v36 v37) Finset.univ (View.stores_vmem h_S256x512 (harg20.storeExact_slice rfl _ packedbf16_S512x2048_S256x512_0_512) (fun _ => rfl)) (.inl rfl))
  let v45 : Vec F S256x2048 .bf16 ← Prog.lift (.load arg19 (Rect.unit (s := S512x2048) ![0, 0] S256x2048.size inb_S512x2048_S256x2048_0_0).toLoadRect (View.loadsAt_vmem h_S256x2048))
  let v46 : Vec F S2048x512 .bf16 ← Prog.lift (.load arg15 (Rect.unit (s := S2048x2048) ![0, 1024] S2048x512.size inb_S2048x2048_S2048x512_0_1024).toLoadRect (View.loadsAt_vmem h_S2048x512))
  let v51 : Vec F S256x512 .bf16 ← Prog.lift (.load arg20 (Rect.unit (s := S512x2048) ![0, 1024] S256x512.size inb_S512x2048_S256x512_0_1024).toLoadRect (View.loadsAt_vmem h_S256x512))
  Prog.lift (.store arg20 (Rect.unit (s := S512x2048) ![0, 1024] S256x512.size inb_S512x2048_S256x512_0_1024) (k0_pay41 v45 v46) Finset.univ (View.stores_vmem h_S256x512 (harg20.storeExact_slice rfl _ packedbf16_S512x2048_S256x512_0_1024) (fun _ => rfl)) (.inl rfl))
  let v54 : Vec F S256x2048 .bf16 ← Prog.lift (.load arg19 (Rect.unit (s := S512x2048) ![0, 0] S256x2048.size inb_S512x2048_S256x2048_0_0).toLoadRect (View.loadsAt_vmem h_S256x2048))
  let v55 : Vec F S2048x512 .bf16 ← Prog.lift (.load arg15 (Rect.unit (s := S2048x2048) ![0, 1536] S2048x512.size inb_S2048x2048_S2048x512_0_1536).toLoadRect (View.loadsAt_vmem h_S2048x512))
  let v60 : Vec F S256x512 .bf16 ← Prog.lift (.load arg20 (Rect.unit (s := S512x2048) ![0, 1536] S256x512.size inb_S512x2048_S256x512_0_1536).toLoadRect (View.loadsAt_vmem h_S256x512))
  Prog.lift (.store arg20 (Rect.unit (s := S512x2048) ![0, 1536] S256x512.size inb_S512x2048_S256x512_0_1536) (k0_pay42 v54 v55) Finset.univ (View.stores_vmem h_S256x512 (harg20.storeExact_slice rfl _ packedbf16_S512x2048_S256x512_0_1536) (fun _ => rfl)) (.inl rfl))
  let v63 : FVec F S512x2048 .f32 := k0_pay43 v3
  let v78 : Vec F S512x2x1024 .bf16 ← Prog.lift (.load arg11 (Rect.unit (s := S512x2x1024) ![0, 0, 0] S512x2x1024.size inb_S512x2x1024_S512x2x1024_0_0_0).toLoadRect (View.loadsAt_vmem h_S512x2x1024))
  Prog.lift (.store arg11 (Rect.unit (s := S512x2x1024) ![0, 0, 0] S512x2x1024.size inb_S512x2x1024_S512x2x1024_0_0_0) (k0_pay45 v3 v5 v63) Finset.univ (View.stores_vmem h_S512x2x1024 ((harg11.pairWhole rank2_S512x2x1024).storeExact_slice rfl _ (Rect.wholeRows_unit rank2_S512x2x1024 rfl rfl) pairs_S512x2x1024_bf16) (fun _ => rfl)) (.inl rfl))
  let v80 : Vec F S2048x128 .bf16 ← Prog.lift (.load arg8 (Rect.unit (s := S2048x128) ![0, 0] S2048x128.size inb_S2048x128_S2048x128_0_0).toLoadRect (View.loadsAt_vmem h_S2048x128))
  let v83 : Vec F S1x128 .f32 ← Prog.lift (.load arg9 (Rect.unit (s := S1x128) ![0, 0] S1x128.size inb_S1x128_S1x128_0_0).toLoadRect (View.loadsAt_vmem h_S1x128))
  let v87 : Vec F S256x2048 .f32 ← Prog.lift (.load arg1 (Rect.unit (s := S512x2048) ![256, 0] S256x2048.size inb_S512x2048_S256x2048_256_0).toLoadRect (View.loadsAt_vmem h_S256x2048))
  let v88 : Vec F S1x2048 .f32 ← Prog.lift (.load arg2 (Rect.unit (s := S1x2048) ![0, 0] S1x2048.size inb_S1x2048_S1x2048_0_0).toLoadRect (View.loadsAt_vmem h_S1x2048))
  let v86 : FVec F S512x128 .f32 := k0_pay46 v3 v5 v63 v80 v83
  let v102 : FVec F S256x2048 .bf16 := k0_pay47 v87 v88
  let v103 : Vec F S256x2048 .bf16 ← Prog.lift (.load arg19 (Rect.unit (s := S512x2048) ![256, 0] S256x2048.size inb_S512x2048_S256x2048_256_0).toLoadRect (View.loadsAt_vmem h_S256x2048))
  Prog.lift (.store arg19 (Rect.unit (s := S512x2048) ![256, 0] S256x2048.size inb_S512x2048_S256x2048_256_0) (k0_pay48 v102) Finset.univ (View.stores_vmem h_S256x2048 (harg19.storeExact_slice rfl _ packedbf16_S512x2048_S256x2048_256_0) (fun _ => rfl)) (.inl rfl))
  let v106 : Vec F S256x512 .bf16 ← Prog.lift (.load arg20 (Rect.unit (s := S512x2048) ![0, 0] S256x512.size inb_S512x2048_S256x512_0_0).toLoadRect (View.loadsAt_vmem h_S256x512))
  let v107 : Vec F S1x256x512 .bf16 ← Prog.lift (.load arg4 (Rect.unit (s := S1x256x2048) ![0, 0, 0] S1x256x512.size inb_S1x256x2048_S1x256x512_0_0_0).toLoadRect (View.loadsAt_vmem h_S1x256x512))
  let v110 : Vec F S256x512 .bf16 ← Prog.lift (.load arg20 (Rect.unit (s := S512x2048) ![0, 512] S256x512.size inb_S512x2048_S256x512_0_512).toLoadRect (View.loadsAt_vmem h_S256x512))
  let v111 : Vec F S1x256x512 .bf16 ← Prog.lift (.load arg4 (Rect.unit (s := S1x256x2048) ![0, 0, 512] S1x256x512.size inb_S1x256x2048_S1x256x512_0_0_512).toLoadRect (View.loadsAt_vmem h_S1x256x512))
  let v114 : Vec F S256x512 .bf16 ← Prog.lift (.load arg20 (Rect.unit (s := S512x2048) ![0, 1024] S256x512.size inb_S512x2048_S256x512_0_1024).toLoadRect (View.loadsAt_vmem h_S256x512))
  let v115 : Vec F S1x256x512 .bf16 ← Prog.lift (.load arg4 (Rect.unit (s := S1x256x2048) ![0, 0, 1024] S1x256x512.size inb_S1x256x2048_S1x256x512_0_0_1024).toLoadRect (View.loadsAt_vmem h_S1x256x512))
  let v118 : Vec F S256x512 .bf16 ← Prog.lift (.load arg20 (Rect.unit (s := S512x2048) ![0, 1536] S256x512.size inb_S512x2048_S256x512_0_1536).toLoadRect (View.loadsAt_vmem h_S256x512))
  let v119 : Vec F S1x256x512 .bf16 ← Prog.lift (.load arg4 (Rect.unit (s := S1x256x2048) ![0, 0, 1536] S1x256x512.size inb_S1x256x2048_S1x256x512_0_0_1536).toLoadRect (View.loadsAt_vmem h_S1x256x512))
  let v122 : Vec F S256x2048 .bf16 ← Prog.lift (.load arg19 (Rect.unit (s := S512x2048) ![256, 0] S256x2048.size inb_S512x2048_S256x2048_256_0).toLoadRect (View.loadsAt_vmem h_S256x2048))
  let v123 : Vec F S2048x512 .bf16 ← Prog.lift (.load arg15 (Rect.unit (s := S2048x2048) ![0, 0] S2048x512.size inb_S2048x2048_S2048x512_0_0).toLoadRect (View.loadsAt_vmem h_S2048x512))
  let v128 : Vec F S256x512 .bf16 ← Prog.lift (.load arg20 (Rect.unit (s := S512x2048) ![256, 0] S256x512.size inb_S512x2048_S256x512_256_0).toLoadRect (View.loadsAt_vmem h_S256x512))
  let v109 : FVec F S256x256 .f32 := k0_pay49 v106 v107
  let v113 : FVec F S256x256 .f32 := k0_pay50 v110 v111
  let v117 : FVec F S256x256 .f32 := k0_pay51 v114 v115
  let v121 : FVec F S256x256 .f32 := k0_pay52 v118 v119
  let v127 : FVec F S256x512 .bf16 := k0_pay53 v122 v123
  Prog.lift (.store arg20 (Rect.unit (s := S512x2048) ![256, 0] S256x512.size inb_S512x2048_S256x512_256_0) (k0_pay54 v127) Finset.univ (View.stores_vmem h_S256x512 (harg20.storeExact_slice rfl _ packedbf16_S512x2048_S256x512_256_0) (fun _ => rfl)) (.inl rfl))
  let v131 : Vec F S256x2048 .bf16 ← Prog.lift (.load arg19 (Rect.unit (s := S512x2048) ![256, 0] S256x2048.size inb_S512x2048_S256x2048_256_0).toLoadRect (View.loadsAt_vmem h_S256x2048))
  let v132 : Vec F S2048x512 .bf16 ← Prog.lift (.load arg15 (Rect.unit (s := S2048x2048) ![0, 512] S2048x512.size inb_S2048x2048_S2048x512_0_512).toLoadRect (View.loadsAt_vmem h_S2048x512))
  let v137 : Vec F S256x512 .bf16 ← Prog.lift (.load arg20 (Rect.unit (s := S512x2048) ![256, 512] S256x512.size inb_S512x2048_S256x512_256_512).toLoadRect (View.loadsAt_vmem h_S256x512))
  Prog.lift (.store arg20 (Rect.unit (s := S512x2048) ![256, 512] S256x512.size inb_S512x2048_S256x512_256_512) (k0_pay55 v131 v132) Finset.univ (View.stores_vmem h_S256x512 (harg20.storeExact_slice rfl _ packedbf16_S512x2048_S256x512_256_512) (fun _ => rfl)) (.inl rfl))
  let v140 : Vec F S256x2048 .bf16 ← Prog.lift (.load arg19 (Rect.unit (s := S512x2048) ![256, 0] S256x2048.size inb_S512x2048_S256x2048_256_0).toLoadRect (View.loadsAt_vmem h_S256x2048))
  let v141 : Vec F S2048x512 .bf16 ← Prog.lift (.load arg15 (Rect.unit (s := S2048x2048) ![0, 1024] S2048x512.size inb_S2048x2048_S2048x512_0_1024).toLoadRect (View.loadsAt_vmem h_S2048x512))
  let v146 : Vec F S256x512 .bf16 ← Prog.lift (.load arg20 (Rect.unit (s := S512x2048) ![256, 1024] S256x512.size inb_S512x2048_S256x512_256_1024).toLoadRect (View.loadsAt_vmem h_S256x512))
  Prog.lift (.store arg20 (Rect.unit (s := S512x2048) ![256, 1024] S256x512.size inb_S512x2048_S256x512_256_1024) (k0_pay56 v140 v141) Finset.univ (View.stores_vmem h_S256x512 (harg20.storeExact_slice rfl _ packedbf16_S512x2048_S256x512_256_1024) (fun _ => rfl)) (.inl rfl))
  let v149 : Vec F S256x2048 .bf16 ← Prog.lift (.load arg19 (Rect.unit (s := S512x2048) ![256, 0] S256x2048.size inb_S512x2048_S256x2048_256_0).toLoadRect (View.loadsAt_vmem h_S256x2048))
  let v150 : Vec F S2048x512 .bf16 ← Prog.lift (.load arg15 (Rect.unit (s := S2048x2048) ![0, 1536] S2048x512.size inb_S2048x2048_S2048x512_0_1536).toLoadRect (View.loadsAt_vmem h_S2048x512))
  let v155 : Vec F S256x512 .bf16 ← Prog.lift (.load arg20 (Rect.unit (s := S512x2048) ![256, 1536] S256x512.size inb_S512x2048_S256x512_256_1536).toLoadRect (View.loadsAt_vmem h_S256x512))
  Prog.lift (.store arg20 (Rect.unit (s := S512x2048) ![256, 1536] S256x512.size inb_S512x2048_S256x512_256_1536) (k0_pay57 v149 v150) Finset.univ (View.stores_vmem h_S256x512 (harg20.storeExact_slice rfl _ packedbf16_S512x2048_S256x512_256_1536) (fun _ => rfl)) (.inl rfl))
  have cst_116 : F .f32 := Scalar.ofBits .f32 0x40800000#32
  let v159 : FVec F S512x128 .f32 := k0_pay58 (F := F)
  let v180 : FVec F S512x1 .f32 := k0_pay62 v86 v159 cst_116
  let v193 : FVec F S512x128 .f32 := k0_pay63 v86 v159 cst_116
  let v195 : FVec F S512x1 .f32 := k0_pay64 v86 v159 cst_116
  let v201 : FVec F S512x1 .f32 := k0_pay65 v86 v159 cst_116
  let v203 : IVec S512x128 1 := k0_pay66 v86 v159 cst_116
  let v204 : FVec F S512x128 .f32 := k0_pay67 (F := F)
  let v234 : Vec F S512x128 .f32 ← Prog.lift (.load arg12 (Rect.unit (s := S512x128) ![0, 0] S512x128.size inb_S512x128_S512x128_0_0).toLoadRect (View.loadsAt_vmem h_S512x128))
  Prog.lift (.store arg12 (Rect.unit (s := S512x128) ![0, 0] S512x128.size inb_S512x128_S512x128_0_0) (k0_pay70 v159 v180 v193 v195 v203 v204) Finset.univ (View.stores_vmem_bits_univ h_S512x128 rfl) (.inl rfl))
  have v248 : IVec S512x512 32 := iota .tc S512x512 32 [1] iota_S512x512_d1_w32
  have v249 : IVec S512x512 32 := iota .tc S512x512 32 [0] iota_S512x512_d0_w32
  let v238 : IVec S512x128 1 := k0_pay71 v159 v201
  let v242 : IVec S512x128 1 := k0_pay72 v159 v193 v203 v204
  let v246 : FVec F S512x128 .f32 := k0_pay73 v159 v193 v201 v203 v204
  let v247 : FVec F S512x128 .bf16 := k0_pay74 v159 v193 v201 v203 v204
  let v255 : FVec F S512x128 .f32 := k0_pay75 v247 v248 v249
  let v265 : FVec F S1x128 .f32 := k0_pay76 v247
  let v271 : FVec F S256x256 .bf16 := k0_pay78 v109
  let v273 : FVec F S256x1 .f32 := k0_pay79 v109
  let v279 : FVec F S256x256 .bf16 := k0_pay81 v113
  let v281 : FVec F S256x1 .f32 := k0_pay82 v113
  let v287 : FVec F S256x256 .bf16 := k0_pay84 v117
  let v289 : FVec F S256x1 .f32 := k0_pay85 v117
  let v294 : FVec F S256x256 .f32 := k0_pay86 v121
  let v295 : FVec F S256x256 .bf16 := k0_pay87 v121
  let v298 : Vec F S1x256x512 .bf16 ← Prog.lift (.load arg5 (Rect.unit (s := S1x256x2048) ![0, 0, 0] S1x256x512.size inb_S1x256x2048_S1x256x512_0_0_0).toLoadRect (View.loadsAt_vmem h_S1x256x512))
  let v304 : Vec F S256x512 .bf16 ← Prog.lift (.load arg21 (Rect.unit (s := S512x2048) ![0, 0] S256x512.size inb_S512x2048_S256x512_0_0).toLoadRect (View.loadsAt_vmem h_S256x512))
  Prog.lift (.store arg21 (Rect.unit (s := S512x2048) ![0, 0] S256x512.size inb_S512x2048_S256x512_0_0) (k0_pay88 v271 v273 v298) Finset.univ (View.stores_vmem h_S256x512 (harg21.storeExact_slice rfl _ packedbf16_S512x2048_S256x512_0_0) (fun _ => rfl)) (.inl rfl))
  let v307 : Vec F S1x256x512 .bf16 ← Prog.lift (.load arg5 (Rect.unit (s := S1x256x2048) ![0, 0, 512] S1x256x512.size inb_S1x256x2048_S1x256x512_0_0_512).toLoadRect (View.loadsAt_vmem h_S1x256x512))
  let v313 : Vec F S256x512 .bf16 ← Prog.lift (.load arg21 (Rect.unit (s := S512x2048) ![0, 512] S256x512.size inb_S512x2048_S256x512_0_512).toLoadRect (View.loadsAt_vmem h_S256x512))
  Prog.lift (.store arg21 (Rect.unit (s := S512x2048) ![0, 512] S256x512.size inb_S512x2048_S256x512_0_512) (k0_pay89 v279 v281 v307) Finset.univ (View.stores_vmem h_S256x512 (harg21.storeExact_slice rfl _ packedbf16_S512x2048_S256x512_0_512) (fun _ => rfl)) (.inl rfl))
  let v316 : Vec F S1x256x512 .bf16 ← Prog.lift (.load arg5 (Rect.unit (s := S1x256x2048) ![0, 0, 1024] S1x256x512.size inb_S1x256x2048_S1x256x512_0_0_1024).toLoadRect (View.loadsAt_vmem h_S1x256x512))
  let v322 : Vec F S256x512 .bf16 ← Prog.lift (.load arg21 (Rect.unit (s := S512x2048) ![0, 1024] S256x512.size inb_S512x2048_S256x512_0_1024).toLoadRect (View.loadsAt_vmem h_S256x512))
  Prog.lift (.store arg21 (Rect.unit (s := S512x2048) ![0, 1024] S256x512.size inb_S512x2048_S256x512_0_1024) (k0_pay90 v287 v289 v316) Finset.univ (View.stores_vmem h_S256x512 (harg21.storeExact_slice rfl _ packedbf16_S512x2048_S256x512_0_1024) (fun _ => rfl)) (.inl rfl))
  let v325 : Vec F S1x256x512 .bf16 ← Prog.lift (.load arg5 (Rect.unit (s := S1x256x2048) ![0, 0, 1536] S1x256x512.size inb_S1x256x2048_S1x256x512_0_0_1536).toLoadRect (View.loadsAt_vmem h_S1x256x512))
  let v329 : FVec F S256x512 .f32 := k0_pay91 v294 v295 v325
  let v331 : Vec F S256x512 .bf16 ← Prog.lift (.load arg21 (Rect.unit (s := S512x2048) ![0, 1536] S256x512.size inb_S512x2048_S256x512_0_1536).toLoadRect (View.loadsAt_vmem h_S256x512))
  Prog.lift (.store arg21 (Rect.unit (s := S512x2048) ![0, 1536] S256x512.size inb_S512x2048_S256x512_0_1536) (k0_pay92 v329) Finset.univ (View.stores_vmem h_S256x512 (harg21.storeExact_slice rfl _ packedbf16_S512x2048_S256x512_0_1536) (fun _ => rfl)) (.inl rfl))
  let v334 : Vec F S256x512 .bf16 ← Prog.lift (.load arg20 (Rect.unit (s := S512x2048) ![256, 0] S256x512.size inb_S512x2048_S256x512_256_0).toLoadRect (View.loadsAt_vmem h_S256x512))
  let v335 : Vec F S1x256x512 .bf16 ← Prog.lift (.load arg4 (Rect.unit (s := S1x256x2048) ![0, 0, 0] S1x256x512.size inb_S1x256x2048_S1x256x512_0_0_0).toLoadRect (View.loadsAt_vmem h_S1x256x512))
  let v338 : Vec F S256x512 .bf16 ← Prog.lift (.load arg20 (Rect.unit (s := S512x2048) ![256, 512] S256x512.size inb_S512x2048_S256x512_256_512).toLoadRect (View.loadsAt_vmem h_S256x512))
  let v339 : Vec F S1x256x512 .bf16 ← Prog.lift (.load arg4 (Rect.unit (s := S1x256x2048) ![0, 0, 512] S1x256x512.size inb_S1x256x2048_S1x256x512_0_0_512).toLoadRect (View.loadsAt_vmem h_S1x256x512))
  let v342 : Vec F S256x512 .bf16 ← Prog.lift (.load arg20 (Rect.unit (s := S512x2048) ![256, 1024] S256x512.size inb_S512x2048_S256x512_256_1024).toLoadRect (View.loadsAt_vmem h_S256x512))
  let v343 : Vec F S1x256x512 .bf16 ← Prog.lift (.load arg4 (Rect.unit (s := S1x256x2048) ![0, 0, 1024] S1x256x512.size inb_S1x256x2048_S1x256x512_0_0_1024).toLoadRect (View.loadsAt_vmem h_S1x256x512))
  let v346 : Vec F S256x512 .bf16 ← Prog.lift (.load arg20 (Rect.unit (s := S512x2048) ![256, 1536] S256x512.size inb_S512x2048_S256x512_256_1536).toLoadRect (View.loadsAt_vmem h_S256x512))
  let v347 : Vec F S1x256x512 .bf16 ← Prog.lift (.load arg4 (Rect.unit (s := S1x256x2048) ![0, 0, 1536] S1x256x512.size inb_S1x256x2048_S1x256x512_0_0_1536).toLoadRect (View.loadsAt_vmem h_S1x256x512))
  let v350 : Vec F S256x512 .f32 ← Prog.lift (.load arg1 (Rect.unit (s := S512x2048) ![0, 0] S256x512.size inb_S512x2048_S256x512_0_0).toLoadRect (View.loadsAt_vmem h_S256x512))
  let v351 : Vec F S256x2048 .bf16 ← Prog.lift (.load arg21 (Rect.unit (s := S512x2048) ![0, 0] S256x2048.size inb_S512x2048_S256x2048_0_0).toLoadRect (View.loadsAt_vmem h_S256x2048))
  let v352 : Vec F S2048x512 .bf16 ← Prog.lift (.load arg16 (Rect.unit (s := S2048x2048) ![0, 0] S2048x512.size inb_S2048x2048_S2048x512_0_0).toLoadRect (View.loadsAt_vmem h_S2048x512))
  let v337 : FVec F S256x256 .f32 := k0_pay93 v334 v335
  let v341 : FVec F S256x256 .f32 := k0_pay94 v338 v339
  let v345 : FVec F S256x256 .f32 := k0_pay95 v342 v343
  let v349 : FVec F S256x256 .f32 := k0_pay96 v346 v347
  let v354 : FVec F S256x512 .f32 := k0_pay97 v350 v351 v352
  let v355 : Vec F S256x512 .f32 ← Prog.lift (.load arg10 (Rect.unit (s := S512x2048) ![0, 0] S256x512.size inb_S512x2048_S256x512_0_0).toLoadRect (View.loadsAt_vmem h_S256x512))
  Prog.lift (.store arg10 (Rect.unit (s := S512x2048) ![0, 0] S256x512.size inb_S512x2048_S256x512_0_0) v354 Finset.univ (View.stores_vmem_bits_univ h_S256x512 rfl) (.inl rfl))
  let v356 : Vec F S256x512 .f32 ← Prog.lift (.load arg22 (Rect.unit (s := S512x2048) ![0, 0] S256x512.size inb_S512x2048_S256x512_0_0).toLoadRect (View.loadsAt_vmem h_S256x512))
  Prog.lift (.store arg22 (Rect.unit (s := S512x2048) ![0, 0] S256x512.size inb_S512x2048_S256x512_0_0) (k0_pay98 v354) Finset.univ (View.stores_vmem_bits_univ h_S256x512 rfl) (.inl rfl))
  let v359 : Vec F S256x512 .f32 ← Prog.lift (.load arg1 (Rect.unit (s := S512x2048) ![0, 512] S256x512.size inb_S512x2048_S256x512_0_512).toLoadRect (View.loadsAt_vmem h_S256x512))
  let v360 : Vec F S256x2048 .bf16 ← Prog.lift (.load arg21 (Rect.unit (s := S512x2048) ![0, 0] S256x2048.size inb_S512x2048_S256x2048_0_0).toLoadRect (View.loadsAt_vmem h_S256x2048))
  let v361 : Vec F S2048x512 .bf16 ← Prog.lift (.load arg16 (Rect.unit (s := S2048x2048) ![0, 512] S2048x512.size inb_S2048x2048_S2048x512_0_512).toLoadRect (View.loadsAt_vmem h_S2048x512))
  let v364 : Vec F S256x512 .f32 ← Prog.lift (.load arg10 (Rect.unit (s := S512x2048) ![0, 512] S256x512.size inb_S512x2048_S256x512_0_512).toLoadRect (View.loadsAt_vmem h_S256x512))
  Prog.lift (.store arg10 (Rect.unit (s := S512x2048) ![0, 512] S256x512.size inb_S512x2048_S256x512_0_512) (k0_pay99 v359 v360 v361) Finset.univ (View.stores_vmem_bits_univ h_S256x512 rfl) (.inl rfl))
  let v365 : Vec F S256x512 .f32 ← Prog.lift (.load arg22 (Rect.unit (s := S512x2048) ![0, 512] S256x512.size inb_S512x2048_S256x512_0_512).toLoadRect (View.loadsAt_vmem h_S256x512))
  Prog.lift (.store arg22 (Rect.unit (s := S512x2048) ![0, 512] S256x512.size inb_S512x2048_S256x512_0_512) (k0_pay100 v359 v360 v361) Finset.univ (View.stores_vmem_bits_univ h_S256x512 rfl) (.inl rfl))
  let v368 : Vec F S256x512 .f32 ← Prog.lift (.load arg1 (Rect.unit (s := S512x2048) ![0, 1024] S256x512.size inb_S512x2048_S256x512_0_1024).toLoadRect (View.loadsAt_vmem h_S256x512))
  let v369 : Vec F S256x2048 .bf16 ← Prog.lift (.load arg21 (Rect.unit (s := S512x2048) ![0, 0] S256x2048.size inb_S512x2048_S256x2048_0_0).toLoadRect (View.loadsAt_vmem h_S256x2048))
  let v370 : Vec F S2048x512 .bf16 ← Prog.lift (.load arg16 (Rect.unit (s := S2048x2048) ![0, 1024] S2048x512.size inb_S2048x2048_S2048x512_0_1024).toLoadRect (View.loadsAt_vmem h_S2048x512))
  let v373 : Vec F S256x512 .f32 ← Prog.lift (.load arg10 (Rect.unit (s := S512x2048) ![0, 1024] S256x512.size inb_S512x2048_S256x512_0_1024).toLoadRect (View.loadsAt_vmem h_S256x512))
  Prog.lift (.store arg10 (Rect.unit (s := S512x2048) ![0, 1024] S256x512.size inb_S512x2048_S256x512_0_1024) (k0_pay101 v368 v369 v370) Finset.univ (View.stores_vmem_bits_univ h_S256x512 rfl) (.inl rfl))
  let v374 : Vec F S256x512 .f32 ← Prog.lift (.load arg22 (Rect.unit (s := S512x2048) ![0, 1024] S256x512.size inb_S512x2048_S256x512_0_1024).toLoadRect (View.loadsAt_vmem h_S256x512))
  Prog.lift (.store arg22 (Rect.unit (s := S512x2048) ![0, 1024] S256x512.size inb_S512x2048_S256x512_0_1024) (k0_pay102 v368 v369 v370) Finset.univ (View.stores_vmem_bits_univ h_S256x512 rfl) (.inl rfl))
  let v377 : Vec F S256x512 .f32 ← Prog.lift (.load arg1 (Rect.unit (s := S512x2048) ![0, 1536] S256x512.size inb_S512x2048_S256x512_0_1536).toLoadRect (View.loadsAt_vmem h_S256x512))
  let v378 : Vec F S256x2048 .bf16 ← Prog.lift (.load arg21 (Rect.unit (s := S512x2048) ![0, 0] S256x2048.size inb_S512x2048_S256x2048_0_0).toLoadRect (View.loadsAt_vmem h_S256x2048))
  let v379 : Vec F S2048x512 .bf16 ← Prog.lift (.load arg16 (Rect.unit (s := S2048x2048) ![0, 1536] S2048x512.size inb_S2048x2048_S2048x512_0_1536).toLoadRect (View.loadsAt_vmem h_S2048x512))
  let v382 : Vec F S256x512 .f32 ← Prog.lift (.load arg10 (Rect.unit (s := S512x2048) ![0, 1536] S256x512.size inb_S512x2048_S256x512_0_1536).toLoadRect (View.loadsAt_vmem h_S256x512))
  Prog.lift (.store arg10 (Rect.unit (s := S512x2048) ![0, 1536] S256x512.size inb_S512x2048_S256x512_0_1536) (k0_pay103 v377 v378 v379) Finset.univ (View.stores_vmem_bits_univ h_S256x512 rfl) (.inl rfl))
  let v383 : Vec F S256x512 .f32 ← Prog.lift (.load arg22 (Rect.unit (s := S512x2048) ![0, 1536] S256x512.size inb_S512x2048_S256x512_0_1536).toLoadRect (View.loadsAt_vmem h_S256x512))
  Prog.lift (.store arg22 (Rect.unit (s := S512x2048) ![0, 1536] S256x512.size inb_S512x2048_S256x512_0_1536) (k0_pay104 v377 v378 v379) Finset.univ (View.stores_vmem_bits_univ h_S256x512 rfl) (.inl rfl))
  have v396 : IVec S512x1 32 := iota .tc S512x1 32 [0] iota_S512x1_d0_w32
  let v395 : FVec F S512x1 .f32 := k0_pay107 v242 v255 v265
  let v404 : FVec F S512x128 .f32 := k0_pay109 v159 v238 v255 v265
  let v413 : FVec F S512x128 .bf16 := k0_pay110 v159 v238 v255 v265
  let v415 : IVec S512x1 32 := k0_pay111
  let c32_i32 : BitVec 32 := 32#32
  let v417 : IVec S512x1 32 := k0_pay112
  let c0_i32_264 : BitVec 32 := 0#32
  have cst_277 : FVec F S128x128 .f32 := constant S128x128 .f32 0x00000000#32
  let v460 : FVec F S128x128 .f32 := k0_pay113 v404 v413 v415 c32_i32 v417 c0_i32_264
  let v464 : FVec F S512x128 .bf16 := k0_pay114 v404 v415
  let v465 : FVec F S128x128 .f32 := k0_pay115 v413 v464 cst_277
  let v473 : FVec F S512x128 .f32 := k0_pay117 v159 v395
  let v482 : FVec F S512x128 .bf16 := k0_pay118 v159 v395
  let v484 : IVec S512x1 32 := k0_pay119 v396
  let v508 : IVec S512x1 32 := k0_pay120 v396
  let c32_i32_291 : BitVec 32 := 32#32
  let c0_i32_292 : BitVec 32 := 0#32
  let v540 : IVec S128x128 32 := k0_pay121 v460 v465 v473 v482 v484 v508 c32_i32_291 c0_i32_292
  let c512_i32_300 : BitVec 32 := 512#32
  let v542 : IVec S128x128 32 := k0_pay122 v460 v465 v473 v482 v484 v508 c32_i32_291 c0_i32_292
  let v556 : IVec S128x128 1 := k0_pay123 v460 v465 v473 v482 v484 v508 c32_i32_291 c0_i32_292
  let v588 : Vec F S1x32x128 .i32 ← Prog.lift (.load arg13 (Rect.unit (s := S1x32x128) ![0, 0, 0] S1x32x128.size inb_S1x32x128_S1x32x128_0_0_0).toLoadRect (View.loadsAt_vmem h_S1x32x128))
  Prog.lift (.store arg13 (Rect.unit (s := S1x32x128) ![0, 0, 0] S1x32x128.size inb_S1x32x128_S1x32x128_0_0_0) (k0_pay124 v7 v540 c512_i32_300 v542 v556) Finset.univ (View.stores_vmem_bits_univ h_S1x32x128 rfl) (.inl rfl))
  let v596 : Vec F S1x8x128 .i32 ← Prog.lift (.load arg14 (Rect.unit (s := S1x8x128) ![0, 0, 0] S1x8x128.size inb_S1x8x128_S1x8x128_0_0_0).toLoadRect (View.loadsAt_vmem h_S1x8x128))
  let v598 : IVec S1x8x128 32 := k0_pay125 v246
  Prog.lift (.store arg14 (Rect.unit (s := S1x8x128) ![0, 0, 0] S1x8x128.size inb_S1x8x128_S1x8x128_0_0_0) v598 Finset.univ (View.stores_vmem_bits_univ h_S1x8x128 rfl) (.inl rfl))
  let v631 : Vec F S1x256x512 .bf16 ← Prog.lift (.load arg5 (Rect.unit (s := S1x256x2048) ![0, 0, 0] S1x256x512.size inb_S1x256x2048_S1x256x512_0_0_0).toLoadRect (View.loadsAt_vmem h_S1x256x512))
  let v637 : Vec F S256x512 .bf16 ← Prog.lift (.load arg21 (Rect.unit (s := S512x2048) ![256, 0] S256x512.size inb_S512x2048_S256x512_256_0).toLoadRect (View.loadsAt_vmem h_S256x512))
  Prog.lift (.store arg21 (Rect.unit (s := S512x2048) ![256, 0] S256x512.size inb_S512x2048_S256x512_256_0) (k0_pay135 v337 v631) Finset.univ (View.stores_vmem h_S256x512 (harg21.storeExact_slice rfl _ packedbf16_S512x2048_S256x512_256_0) (fun _ => rfl)) (.inl rfl))
  let v612 : FVec F S256x256 .bf16 := k0_pay127 v341
  let v614 : FVec F S256x1 .f32 := k0_pay128 v341
  let v620 : FVec F S256x256 .bf16 := k0_pay130 v345
  let v622 : FVec F S256x1 .f32 := k0_pay131 v345
  let v628 : FVec F S256x256 .bf16 := k0_pay133 v349
  let v630 : FVec F S256x1 .f32 := k0_pay134 v349
  let v640 : Vec F S1x256x512 .bf16 ← Prog.lift (.load arg5 (Rect.unit (s := S1x256x2048) ![0, 0, 512] S1x256x512.size inb_S1x256x2048_S1x256x512_0_0_512).toLoadRect (View.loadsAt_vmem h_S1x256x512))
  let v646 : Vec F S256x512 .bf16 ← Prog.lift (.load arg21 (Rect.unit (s := S512x2048) ![256, 512] S256x512.size inb_S512x2048_S256x512_256_512).toLoadRect (View.loadsAt_vmem h_S256x512))
  Prog.lift (.store arg21 (Rect.unit (s := S512x2048) ![256, 512] S256x512.size inb_S512x2048_S256x512_256_512) (k0_pay136 v612 v614 v640) Finset.univ (View.stores_vmem h_S256x512 (harg21.storeExact_slice rfl _ packedbf16_S512x2048_S256x512_256_512) (fun _ => rfl)) (.inl rfl))
  let v649 : Vec F S1x256x512 .bf16 ← Prog.lift (.load arg5 (Rect.unit (s := S1x256x2048) ![0, 0, 1024] S1x256x512.size inb_S1x256x2048_S1x256x512_0_0_1024).toLoadRect (View.loadsAt_vmem h_S1x256x512))
  let v655 : Vec F S256x512 .bf16 ← Prog.lift (.load arg21 (Rect.unit (s := S512x2048) ![256, 1024] S256x512.size inb_S512x2048_S256x512_256_1024).toLoadRect (View.loadsAt_vmem h_S256x512))
  Prog.lift (.store arg21 (Rect.unit (s := S512x2048) ![256, 1024] S256x512.size inb_S512x2048_S256x512_256_1024) (k0_pay137 v620 v622 v649) Finset.univ (View.stores_vmem h_S256x512 (harg21.storeExact_slice rfl _ packedbf16_S512x2048_S256x512_256_1024) (fun _ => rfl)) (.inl rfl))
  let v658 : Vec F S1x256x512 .bf16 ← Prog.lift (.load arg5 (Rect.unit (s := S1x256x2048) ![0, 0, 1536] S1x256x512.size inb_S1x256x2048_S1x256x512_0_0_1536).toLoadRect (View.loadsAt_vmem h_S1x256x512))
  let v664 : Vec F S256x512 .bf16 ← Prog.lift (.load arg21 (Rect.unit (s := S512x2048) ![256, 1536] S256x512.size inb_S512x2048_S256x512_256_1536).toLoadRect (View.loadsAt_vmem h_S256x512))
  Prog.lift (.store arg21 (Rect.unit (s := S512x2048) ![256, 1536] S256x512.size inb_S512x2048_S256x512_256_1536) (k0_pay138 v628 v630 v658) Finset.univ (View.stores_vmem h_S256x512 (harg21.storeExact_slice rfl _ packedbf16_S512x2048_S256x512_256_1536) (fun _ => rfl)) (.inl rfl))
  let v667 : Vec F S256x512 .f32 ← Prog.lift (.load arg1 (Rect.unit (s := S512x2048) ![256, 0] S256x512.size inb_S512x2048_S256x512_256_0).toLoadRect (View.loadsAt_vmem h_S256x512))
  let v668 : Vec F S256x2048 .bf16 ← Prog.lift (.load arg21 (Rect.unit (s := S512x2048) ![256, 0] S256x2048.size inb_S512x2048_S256x2048_256_0).toLoadRect (View.loadsAt_vmem h_S256x2048))
  let v669 : Vec F S2048x512 .bf16 ← Prog.lift (.load arg16 (Rect.unit (s := S2048x2048) ![0, 0] S2048x512.size inb_S2048x2048_S2048x512_0_0).toLoadRect (View.loadsAt_vmem h_S2048x512))
  let v672 : Vec F S256x512 .f32 ← Prog.lift (.load arg10 (Rect.unit (s := S512x2048) ![256, 0] S256x512.size inb_S512x2048_S256x512_256_0).toLoadRect (View.loadsAt_vmem h_S256x512))
  let v671 : FVec F S256x512 .f32 := k0_pay139 v667 v668 v669
  Prog.lift (.store arg10 (Rect.unit (s := S512x2048) ![256, 0] S256x512.size inb_S512x2048_S256x512_256_0) v671 Finset.univ (View.stores_vmem_bits_univ h_S256x512 rfl) (.inl rfl))
  let v673 : Vec F S256x512 .f32 ← Prog.lift (.load arg22 (Rect.unit (s := S512x2048) ![256, 0] S256x512.size inb_S512x2048_S256x512_256_0).toLoadRect (View.loadsAt_vmem h_S256x512))
  Prog.lift (.store arg22 (Rect.unit (s := S512x2048) ![256, 0] S256x512.size inb_S512x2048_S256x512_256_0) (k0_pay140 v671) Finset.univ (View.stores_vmem_bits_univ h_S256x512 rfl) (.inl rfl))
  let v676 : Vec F S256x512 .f32 ← Prog.lift (.load arg1 (Rect.unit (s := S512x2048) ![256, 512] S256x512.size inb_S512x2048_S256x512_256_512).toLoadRect (View.loadsAt_vmem h_S256x512))
  let v677 : Vec F S256x2048 .bf16 ← Prog.lift (.load arg21 (Rect.unit (s := S512x2048) ![256, 0] S256x2048.size inb_S512x2048_S256x2048_256_0).toLoadRect (View.loadsAt_vmem h_S256x2048))
  let v678 : Vec F S2048x512 .bf16 ← Prog.lift (.load arg16 (Rect.unit (s := S2048x2048) ![0, 512] S2048x512.size inb_S2048x2048_S2048x512_0_512).toLoadRect (View.loadsAt_vmem h_S2048x512))
  let v681 : Vec F S256x512 .f32 ← Prog.lift (.load arg10 (Rect.unit (s := S512x2048) ![256, 512] S256x512.size inb_S512x2048_S256x512_256_512).toLoadRect (View.loadsAt_vmem h_S256x512))
  Prog.lift (.store arg10 (Rect.unit (s := S512x2048) ![256, 512] S256x512.size inb_S512x2048_S256x512_256_512) (k0_pay141 v676 v677 v678) Finset.univ (View.stores_vmem_bits_univ h_S256x512 rfl) (.inl rfl))
  let v682 : Vec F S256x512 .f32 ← Prog.lift (.load arg22 (Rect.unit (s := S512x2048) ![256, 512] S256x512.size inb_S512x2048_S256x512_256_512).toLoadRect (View.loadsAt_vmem h_S256x512))
  Prog.lift (.store arg22 (Rect.unit (s := S512x2048) ![256, 512] S256x512.size inb_S512x2048_S256x512_256_512) (k0_pay142 v676 v677 v678) Finset.univ (View.stores_vmem_bits_univ h_S256x512 rfl) (.inl rfl))
  let v685 : Vec F S256x512 .f32 ← Prog.lift (.load arg1 (Rect.unit (s := S512x2048) ![256, 1024] S256x512.size inb_S512x2048_S256x512_256_1024).toLoadRect (View.loadsAt_vmem h_S256x512))
  let v686 : Vec F S256x2048 .bf16 ← Prog.lift (.load arg21 (Rect.unit (s := S512x2048) ![256, 0] S256x2048.size inb_S512x2048_S256x2048_256_0).toLoadRect (View.loadsAt_vmem h_S256x2048))
  let v687 : Vec F S2048x512 .bf16 ← Prog.lift (.load arg16 (Rect.unit (s := S2048x2048) ![0, 1024] S2048x512.size inb_S2048x2048_S2048x512_0_1024).toLoadRect (View.loadsAt_vmem h_S2048x512))
  let v690 : Vec F S256x512 .f32 ← Prog.lift (.load arg10 (Rect.unit (s := S512x2048) ![256, 1024] S256x512.size inb_S512x2048_S256x512_256_1024).toLoadRect (View.loadsAt_vmem h_S256x512))
  Prog.lift (.store arg10 (Rect.unit (s := S512x2048) ![256, 1024] S256x512.size inb_S512x2048_S256x512_256_1024) (k0_pay143 v685 v686 v687) Finset.univ (View.stores_vmem_bits_univ h_S256x512 rfl) (.inl rfl))
  let v691 : Vec F S256x512 .f32 ← Prog.lift (.load arg22 (Rect.unit (s := S512x2048) ![256, 1024] S256x512.size inb_S512x2048_S256x512_256_1024).toLoadRect (View.loadsAt_vmem h_S256x512))
  Prog.lift (.store arg22 (Rect.unit (s := S512x2048) ![256, 1024] S256x512.size inb_S512x2048_S256x512_256_1024) (k0_pay144 v685 v686 v687) Finset.univ (View.stores_vmem_bits_univ h_S256x512 rfl) (.inl rfl))
  let v694 : Vec F S256x512 .f32 ← Prog.lift (.load arg1 (Rect.unit (s := S512x2048) ![256, 1536] S256x512.size inb_S512x2048_S256x512_256_1536).toLoadRect (View.loadsAt_vmem h_S256x512))
  let v695 : Vec F S256x2048 .bf16 ← Prog.lift (.load arg21 (Rect.unit (s := S512x2048) ![256, 0] S256x2048.size inb_S512x2048_S256x2048_256_0).toLoadRect (View.loadsAt_vmem h_S256x2048))
  let v696 : Vec F S2048x512 .bf16 ← Prog.lift (.load arg16 (Rect.unit (s := S2048x2048) ![0, 1536] S2048x512.size inb_S2048x2048_S2048x512_0_1536).toLoadRect (View.loadsAt_vmem h_S2048x512))
  let v699 : Vec F S256x512 .f32 ← Prog.lift (.load arg10 (Rect.unit (s := S512x2048) ![256, 1536] S256x512.size inb_S512x2048_S256x512_256_1536).toLoadRect (View.loadsAt_vmem h_S256x512))
  Prog.lift (.store arg10 (Rect.unit (s := S512x2048) ![256, 1536] S256x512.size inb_S512x2048_S256x512_256_1536) (k0_pay1 v694 v695 v696) Finset.univ (View.stores_vmem_bits_univ h_S256x512 rfl) (.inl rfl))
  let v700 : Vec F S256x512 .f32 ← Prog.lift (.load arg22 (Rect.unit (s := S512x2048) ![256, 1536] S256x512.size inb_S512x2048_S256x512_256_1536).toLoadRect (View.loadsAt_vmem h_S256x512))
  Prog.lift (.store arg22 (Rect.unit (s := S512x2048) ![256, 1536] S256x512.size inb_S512x2048_S256x512_256_1536) (k0_pay2 v694 v695 v696) Finset.univ (View.stores_vmem_bits_univ h_S256x512 rfl) (.inl rfl))
  pure ⟨⟩

set_option maxHeartbeats 4000000 in
/-- The body is the loads, at the first point only, and then the rest. -/
theorem body_eq (i : grid0.Coords) (arg1 : Memref sig .tc .vmem S512x2048 .f32) (harg1 : arg1.IsWhole) (arg2 : Memref sig .tc .vmem S1x2048 .f32) (harg2 : arg2.IsWhole) (arg3 : Memref sig .tc .hbm S1x2048x2048 .f32) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .hbm S1x2048x2048 .f32) (harg6 : arg6.IsWhole) (arg7 : Memref sig .tc .vmem S1x2048 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S512x2048 .f32) (harg10 : arg10.IsWhole) (arg11 : Memref sig .tc .vmem S512x2x1024 .bf16) (harg11 : arg11.IsWhole) (arg12 : Memref sig .tc .vmem S512x128 .f32) (harg12 : arg12.IsWhole) (arg13 : Memref sig .tc .vmem S1x32x128 .i32) (harg13 : arg13.IsWhole) (arg14 : Memref sig .tc .vmem S1x8x128 .i32) (harg14 : arg14.IsWhole) (arg15 : Memref sig .tc .vmem S2048x2048 .bf16) (harg15 : arg15.IsWhole) (arg16 : Memref sig .tc .vmem S2048x2048 .bf16) (harg16 : arg16.IsWhole) (arg17 : Memref sig .tc .vmem S2x128x2048 .f32) (harg17 : arg17.IsWhole) (arg18 : DmaSems sig S2) (arg19 : Memref sig .tc .vmem S512x2048 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) :
    cc0_cross_block (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 harg22
      = if h : first i then loadProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 harg22 >>= fun _ => restProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 harg22 else restProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 harg22 := by
  simp only [cc0_cross_block_eq_skeleton]; unfold cc0_cross_block_skel
  simp only [k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
  unfold k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel
  by_cases h : first i
  · rw [dif_pos h]
    dsimp only
    rw [dif_pos h]
    unfold loadProg restProg
    simp only [bind_assoc, pure_bind]
  · rw [dif_neg h]
    dsimp only
    rw [dif_neg h]
    unfold restProg
    simp only [bind_assoc, pure_bind]

/-- The queries and the products are one function of what was loaded. -/
theorem pay39_eq (u : Vec F S256x2048 .bf16) (w : Vec F S2048x512 .bf16) : k0_pay39 (k0_pay38 u w) = k0_pay40 u w := rfl
theorem pay41_eq : k0_pay41 (F := F) = k0_pay40 := rfl
theorem pay42_eq : k0_pay42 (F := F) = k0_pay40 := rfl
theorem pay54_eq (u : Vec F S256x2048 .bf16) (w : Vec F S2048x512 .bf16) : k0_pay54 (k0_pay53 u w) = k0_pay40 u w := rfl
theorem pay55_eq : k0_pay55 (F := F) = k0_pay40 := rfl
theorem pay56_eq : k0_pay56 (F := F) = k0_pay40 := rfl
theorem pay57_eq : k0_pay57 (F := F) = k0_pay40 := rfl
theorem pay48_eq (h : Vec F S256x2048 .f32) (g : Vec F S1x2048 .f32) : k0_pay48 (k0_pay47 h g) = k0_pay37 h g := rfl
theorem pay50_eq : k0_pay50 (F := F) = k0_pay49 := rfl
theorem pay51_eq : k0_pay51 (F := F) = k0_pay49 := rfl
theorem pay52_eq : k0_pay52 (F := F) = k0_pay49 := rfl
theorem pay93_eq : k0_pay93 (F := F) = k0_pay49 := rfl
theorem pay94_eq : k0_pay94 (F := F) = k0_pay49 := rfl
theorem pay95_eq : k0_pay95 (F := F) = k0_pay49 := rfl
theorem pay96_eq : k0_pay96 (F := F) = k0_pay49 := rfl

/-- One head's attended values from its scores. -/
def att (s : FVec F S256x256 .f32) (v : Vec F S1x256x512 .bf16) : FVec F S256x512 .bf16 := k0_pay88 (k0_pay78 s) (k0_pay79 s) v

theorem att0_eq (s : FVec F S256x256 .f32) (v : Vec F S1x256x512 .bf16) : k0_pay88 (k0_pay78 s) (k0_pay79 s) v = att s v := rfl
theorem att1_eq (s : FVec F S256x256 .f32) (v : Vec F S1x256x512 .bf16) : k0_pay89 (k0_pay81 s) (k0_pay82 s) v = att s v := rfl
theorem att2_eq (s : FVec F S256x256 .f32) (v : Vec F S1x256x512 .bf16) : k0_pay90 (k0_pay84 s) (k0_pay85 s) v = att s v := rfl
theorem att3_eq (s : FVec F S256x256 .f32) (v : Vec F S1x256x512 .bf16) : k0_pay92 (k0_pay91 (k0_pay86 s) (k0_pay87 s) v) = att s v := rfl
theorem att4_eq (s : FVec F S256x256 .f32) (v : Vec F S1x256x512 .bf16) : k0_pay135 s v = att s v := rfl
theorem att5_eq (s : FVec F S256x256 .f32) (v : Vec F S1x256x512 .bf16) : k0_pay136 (k0_pay127 s) (k0_pay128 s) v = att s v := rfl
theorem att6_eq (s : FVec F S256x256 .f32) (v : Vec F S1x256x512 .bf16) : k0_pay137 (k0_pay130 s) (k0_pay131 s) v = att s v := rfl
theorem att7_eq (s : FVec F S256x256 .f32) (v : Vec F S1x256x512 .bf16) : k0_pay138 (k0_pay133 s) (k0_pay134 s) v = att s v := rfl

theorem pay97_eq : k0_pay97 (F := F) = k0_pay1 := rfl
theorem pay98_eq (x : FVec F S256x512 .f32) : k0_pay98 x = x := shapeCast_self x _
theorem pay99_eq : k0_pay99 (F := F) = k0_pay1 := rfl
theorem pay100_eq (x : Vec F S256x512 .f32) (a : Vec F S256x2048 .bf16) (w : Vec F S2048x512 .bf16) : k0_pay100 x a w = k0_pay1 x a w := shapeCast_self (k0_pay1 x a w) _
theorem pay101_eq : k0_pay101 (F := F) = k0_pay1 := rfl
theorem pay102_eq (x : Vec F S256x512 .f32) (a : Vec F S256x2048 .bf16) (w : Vec F S2048x512 .bf16) : k0_pay102 x a w = k0_pay1 x a w := shapeCast_self (k0_pay1 x a w) _
theorem pay103_eq : k0_pay103 (F := F) = k0_pay1 := rfl
theorem pay104_eq (x : Vec F S256x512 .f32) (a : Vec F S256x2048 .bf16) (w : Vec F S2048x512 .bf16) : k0_pay104 x a w = k0_pay1 x a w := shapeCast_self (k0_pay1 x a w) _
theorem pay139_eq : k0_pay139 (F := F) = k0_pay1 := rfl
theorem pay140_eq (x : FVec F S256x512 .f32) : k0_pay140 x = x := shapeCast_self x _
theorem pay141_eq : k0_pay141 (F := F) = k0_pay1 := rfl
theorem pay142_eq (x : Vec F S256x512 .f32) (a : Vec F S256x2048 .bf16) (w : Vec F S2048x512 .bf16) : k0_pay142 x a w = k0_pay1 x a w := shapeCast_self (k0_pay1 x a w) _
theorem pay143_eq : k0_pay143 (F := F) = k0_pay1 := rfl
theorem pay144_eq (x : Vec F S256x512 .f32) (a : Vec F S256x2048 .bf16) (w : Vec F S2048x512 .bf16) : k0_pay144 x a w = k0_pay1 x a w := shapeCast_self (k0_pay1 x a w) _
theorem pay2_eq (x : Vec F S256x512 .f32) (a : Vec F S256x2048 .bf16) (w : Vec F S2048x512 .bf16) : k0_pay2 x a w = k0_pay1 x a w := shapeCast_self (k0_pay1 x a w) _

/-- A vector read through a rectangle. -/
def ld {s : Shape} {e : EltTy} (X : s.Idx → Elt F e) (B : LoadRect s) : B.shape.Idx → Elt F e := fun j => X (B.idx j)

theorem ld_eq {s : Shape} {e : EltTy} {M : Memref sig .tc .vmem s e} (h : M.IsWhole) (X : s.Idx → Elt F e) (B : LoadRect s) :
    View.readAt (Elt F) M.view B (h.unread X) = ld X B := funext fun x => congrFun (h.read_unread X) _

/-- A column block of a head's queries for a half of the tile's rows. -/
def qry (h : Vec F S256x2048 .f32) (g : Vec F S1x2048 .f32) (w : Vec F S2048x512 .bf16) : FVec F S256x512 .bf16 := k0_pay40 (k0_pay37 h g) w

/-- A gain's row as loaded. -/
abbrev gn (x1 : Vec F S1x2048 .f32) : Vec F S1x2048 .f32 := ld x1 (Rect.unit (s := S1x2048) ![0, 0] S1x2048.size inb_S1x2048_S1x2048_0_0).toLoadRect

/-- The four heads' attended values of the upper half, as stored, last first. -/
def top (x0 : Vec F S512x2048 .f32) (x1 : Vec F S1x2048 .f32) (x2 : Vec F S1x256x2048 .bf16) (x3 : Vec F S1x256x2048 .bf16) (wq : Vec F S2048x2048 .bf16) : List (View.Piece (Elt F) S512x2048 .bf16) :=
  [⟨(Rect.unit (s := S512x2048) ![0, 1536] S256x512.size inb_S512x2048_S256x512_0_1536), att (k0_pay49 (qry (ld x0 (Rect.unit (s := S512x2048) ![0, 0] S256x2048.size inb_S512x2048_S256x2048_0_0).toLoadRect) (gn x1) (ld wq (Rect.unit (s := S2048x2048) ![0, 1536] S2048x512.size inb_S2048x2048_S2048x512_0_1536).toLoadRect)) (ld x2 (Rect.unit (s := S1x256x2048) ![0, 0, 1536] S1x256x512.size inb_S1x256x2048_S1x256x512_0_0_1536).toLoadRect)) (ld x3 (Rect.unit (s := S1x256x2048) ![0, 0, 1536] S1x256x512.size inb_S1x256x2048_S1x256x512_0_0_1536).toLoadRect)⟩,
   ⟨(Rect.unit (s := S512x2048) ![0, 1024] S256x512.size inb_S512x2048_S256x512_0_1024), att (k0_pay49 (qry (ld x0 (Rect.unit (s := S512x2048) ![0, 0] S256x2048.size inb_S512x2048_S256x2048_0_0).toLoadRect) (gn x1) (ld wq (Rect.unit (s := S2048x2048) ![0, 1024] S2048x512.size inb_S2048x2048_S2048x512_0_1024).toLoadRect)) (ld x2 (Rect.unit (s := S1x256x2048) ![0, 0, 1024] S1x256x512.size inb_S1x256x2048_S1x256x512_0_0_1024).toLoadRect)) (ld x3 (Rect.unit (s := S1x256x2048) ![0, 0, 1024] S1x256x512.size inb_S1x256x2048_S1x256x512_0_0_1024).toLoadRect)⟩,
   ⟨(Rect.unit (s := S512x2048) ![0, 512] S256x512.size inb_S512x2048_S256x512_0_512), att (k0_pay49 (qry (ld x0 (Rect.unit (s := S512x2048) ![0, 0] S256x2048.size inb_S512x2048_S256x2048_0_0).toLoadRect) (gn x1) (ld wq (Rect.unit (s := S2048x2048) ![0, 512] S2048x512.size inb_S2048x2048_S2048x512_0_512).toLoadRect)) (ld x2 (Rect.unit (s := S1x256x2048) ![0, 0, 512] S1x256x512.size inb_S1x256x2048_S1x256x512_0_0_512).toLoadRect)) (ld x3 (Rect.unit (s := S1x256x2048) ![0, 0, 512] S1x256x512.size inb_S1x256x2048_S1x256x512_0_0_512).toLoadRect)⟩,
   ⟨(Rect.unit (s := S512x2048) ![0, 0] S256x512.size inb_S512x2048_S256x512_0_0), att (k0_pay49 (qry (ld x0 (Rect.unit (s := S512x2048) ![0, 0] S256x2048.size inb_S512x2048_S256x2048_0_0).toLoadRect) (gn x1) (ld wq (Rect.unit (s := S2048x2048) ![0, 0] S2048x512.size inb_S2048x2048_S2048x512_0_0).toLoadRect)) (ld x2 (Rect.unit (s := S1x256x2048) ![0, 0, 0] S1x256x512.size inb_S1x256x2048_S1x256x512_0_0_0).toLoadRect)) (ld x3 (Rect.unit (s := S1x256x2048) ![0, 0, 0] S1x256x512.size inb_S1x256x2048_S1x256x512_0_0_0).toLoadRect)⟩]

/-- The four heads' attended values of the lower half, as stored, last first. -/
def bot (x0 : Vec F S512x2048 .f32) (x1 : Vec F S1x2048 .f32) (x2 : Vec F S1x256x2048 .bf16) (x3 : Vec F S1x256x2048 .bf16) (wq : Vec F S2048x2048 .bf16) : List (View.Piece (Elt F) S512x2048 .bf16) :=
  [⟨(Rect.unit (s := S512x2048) ![256, 1536] S256x512.size inb_S512x2048_S256x512_256_1536), att (k0_pay49 (qry (ld x0 (Rect.unit (s := S512x2048) ![256, 0] S256x2048.size inb_S512x2048_S256x2048_256_0).toLoadRect) (gn x1) (ld wq (Rect.unit (s := S2048x2048) ![0, 1536] S2048x512.size inb_S2048x2048_S2048x512_0_1536).toLoadRect)) (ld x2 (Rect.unit (s := S1x256x2048) ![0, 0, 1536] S1x256x512.size inb_S1x256x2048_S1x256x512_0_0_1536).toLoadRect)) (ld x3 (Rect.unit (s := S1x256x2048) ![0, 0, 1536] S1x256x512.size inb_S1x256x2048_S1x256x512_0_0_1536).toLoadRect)⟩,
   ⟨(Rect.unit (s := S512x2048) ![256, 1024] S256x512.size inb_S512x2048_S256x512_256_1024), att (k0_pay49 (qry (ld x0 (Rect.unit (s := S512x2048) ![256, 0] S256x2048.size inb_S512x2048_S256x2048_256_0).toLoadRect) (gn x1) (ld wq (Rect.unit (s := S2048x2048) ![0, 1024] S2048x512.size inb_S2048x2048_S2048x512_0_1024).toLoadRect)) (ld x2 (Rect.unit (s := S1x256x2048) ![0, 0, 1024] S1x256x512.size inb_S1x256x2048_S1x256x512_0_0_1024).toLoadRect)) (ld x3 (Rect.unit (s := S1x256x2048) ![0, 0, 1024] S1x256x512.size inb_S1x256x2048_S1x256x512_0_0_1024).toLoadRect)⟩,
   ⟨(Rect.unit (s := S512x2048) ![256, 512] S256x512.size inb_S512x2048_S256x512_256_512), att (k0_pay49 (qry (ld x0 (Rect.unit (s := S512x2048) ![256, 0] S256x2048.size inb_S512x2048_S256x2048_256_0).toLoadRect) (gn x1) (ld wq (Rect.unit (s := S2048x2048) ![0, 512] S2048x512.size inb_S2048x2048_S2048x512_0_512).toLoadRect)) (ld x2 (Rect.unit (s := S1x256x2048) ![0, 0, 512] S1x256x512.size inb_S1x256x2048_S1x256x512_0_0_512).toLoadRect)) (ld x3 (Rect.unit (s := S1x256x2048) ![0, 0, 512] S1x256x512.size inb_S1x256x2048_S1x256x512_0_0_512).toLoadRect)⟩,
   ⟨(Rect.unit (s := S512x2048) ![256, 0] S256x512.size inb_S512x2048_S256x512_256_0), att (k0_pay49 (qry (ld x0 (Rect.unit (s := S512x2048) ![256, 0] S256x2048.size inb_S512x2048_S256x2048_256_0).toLoadRect) (gn x1) (ld wq (Rect.unit (s := S2048x2048) ![0, 0] S2048x512.size inb_S2048x2048_S2048x512_0_0).toLoadRect)) (ld x2 (Rect.unit (s := S1x256x2048) ![0, 0, 0] S1x256x512.size inb_S1x256x2048_S1x256x512_0_0_0).toLoadRect)) (ld x3 (Rect.unit (s := S1x256x2048) ![0, 0, 0] S1x256x512.size inb_S1x256x2048_S1x256x512_0_0_0).toLoadRect)⟩]

/-- A half's attended values, read back. -/
def atop (x0 : Vec F S512x2048 .f32) (x1 : Vec F S1x2048 .f32) (x2 : Vec F S1x256x2048 .bf16) (x3 : Vec F S1x256x2048 .bf16) (wq : Vec F S2048x2048 .bf16) : Vec F S256x2048 .bf16 := fun y => View.canon (top x0 x1 x2 x3 wq) ((Rect.unit (s := S512x2048) ![0, 0] S256x2048.size inb_S512x2048_S256x2048_0_0).toLoadRect.idx y)
def abot (x0 : Vec F S512x2048 .f32) (x1 : Vec F S1x2048 .f32) (x2 : Vec F S1x256x2048 .bf16) (x3 : Vec F S1x256x2048 .bf16) (wq : Vec F S2048x2048 .bf16) : Vec F S256x2048 .bf16 := fun y => View.canon (bot x0 x1 x2 x3 wq ++ top x0 x1 x2 x3 wq) ((Rect.unit (s := S512x2048) ![256, 0] S256x2048.size inb_S512x2048_S256x2048_256_0).toLoadRect.idx y)

/-- The eight stores of a point's output, last first. -/
def pcs (x0 : Vec F S512x2048 .f32) (x1 : Vec F S1x2048 .f32) (x2 : Vec F S1x256x2048 .bf16) (x3 : Vec F S1x256x2048 .bf16) (wq : Vec F S2048x2048 .bf16) (wo : Vec F S2048x2048 .bf16) : List (View.Piece (Elt F) S512x2048 .f32) :=
  [⟨(Rect.unit (s := S512x2048) ![256, 1536] S256x512.size inb_S512x2048_S256x512_256_1536), k0_pay1 (ld x0 (Rect.unit (s := S512x2048) ![256, 1536] S256x512.size inb_S512x2048_S256x512_256_1536).toLoadRect) (abot x0 x1 x2 x3 wq) (ld wo (Rect.unit (s := S2048x2048) ![0, 1536] S2048x512.size inb_S2048x2048_S2048x512_0_1536).toLoadRect)⟩,
   ⟨(Rect.unit (s := S512x2048) ![256, 1024] S256x512.size inb_S512x2048_S256x512_256_1024), k0_pay1 (ld x0 (Rect.unit (s := S512x2048) ![256, 1024] S256x512.size inb_S512x2048_S256x512_256_1024).toLoadRect) (abot x0 x1 x2 x3 wq) (ld wo (Rect.unit (s := S2048x2048) ![0, 1024] S2048x512.size inb_S2048x2048_S2048x512_0_1024).toLoadRect)⟩,
   ⟨(Rect.unit (s := S512x2048) ![256, 512] S256x512.size inb_S512x2048_S256x512_256_512), k0_pay1 (ld x0 (Rect.unit (s := S512x2048) ![256, 512] S256x512.size inb_S512x2048_S256x512_256_512).toLoadRect) (abot x0 x1 x2 x3 wq) (ld wo (Rect.unit (s := S2048x2048) ![0, 512] S2048x512.size inb_S2048x2048_S2048x512_0_512).toLoadRect)⟩,
   ⟨(Rect.unit (s := S512x2048) ![256, 0] S256x512.size inb_S512x2048_S256x512_256_0), k0_pay1 (ld x0 (Rect.unit (s := S512x2048) ![256, 0] S256x512.size inb_S512x2048_S256x512_256_0).toLoadRect) (abot x0 x1 x2 x3 wq) (ld wo (Rect.unit (s := S2048x2048) ![0, 0] S2048x512.size inb_S2048x2048_S2048x512_0_0).toLoadRect)⟩,
   ⟨(Rect.unit (s := S512x2048) ![0, 1536] S256x512.size inb_S512x2048_S256x512_0_1536), k0_pay1 (ld x0 (Rect.unit (s := S512x2048) ![0, 1536] S256x512.size inb_S512x2048_S256x512_0_1536).toLoadRect) (atop x0 x1 x2 x3 wq) (ld wo (Rect.unit (s := S2048x2048) ![0, 1536] S2048x512.size inb_S2048x2048_S2048x512_0_1536).toLoadRect)⟩,
   ⟨(Rect.unit (s := S512x2048) ![0, 1024] S256x512.size inb_S512x2048_S256x512_0_1024), k0_pay1 (ld x0 (Rect.unit (s := S512x2048) ![0, 1024] S256x512.size inb_S512x2048_S256x512_0_1024).toLoadRect) (atop x0 x1 x2 x3 wq) (ld wo (Rect.unit (s := S2048x2048) ![0, 1024] S2048x512.size inb_S2048x2048_S2048x512_0_1024).toLoadRect)⟩,
   ⟨(Rect.unit (s := S512x2048) ![0, 512] S256x512.size inb_S512x2048_S256x512_0_512), k0_pay1 (ld x0 (Rect.unit (s := S512x2048) ![0, 512] S256x512.size inb_S512x2048_S256x512_0_512).toLoadRect) (atop x0 x1 x2 x3 wq) (ld wo (Rect.unit (s := S2048x2048) ![0, 512] S2048x512.size inb_S2048x2048_S2048x512_0_512).toLoadRect)⟩,
   ⟨(Rect.unit (s := S512x2048) ![0, 0] S256x512.size inb_S512x2048_S256x512_0_0), k0_pay1 (ld x0 (Rect.unit (s := S512x2048) ![0, 0] S256x512.size inb_S512x2048_S256x512_0_0).toLoadRect) (atop x0 x1 x2 x3 wq) (ld wo (Rect.unit (s := S2048x2048) ![0, 0] S2048x512.size inb_S2048x2048_S2048x512_0_0).toLoadRect)⟩]

theorem pcs_cover (x0 : Vec F S512x2048 .f32) (x1 : Vec F S1x2048 .f32) (x2 : Vec F S1x256x2048 .bf16) (x3 : Vec F S1x256x2048 .bf16) (wq : Vec F S2048x2048 .bf16) (wo : Vec F S2048x2048 .bf16) (y : S512x2048.Idx) :
    ∃ p ∈ pcs x0 x1 x2 x3 wq wo, y ∈ p.1.set :=
  View.cover_of_tiledL (s := S512x2048) _ S256x512.size (by sl_kernel_rfl) y

/-- What a point leaves in the output's buffer, and in the kept tile. -/
def out (x0 : Vec F S512x2048 .f32) (x1 : Vec F S1x2048 .f32) (x2 : Vec F S1x256x2048 .bf16) (x3 : Vec F S1x256x2048 .bf16) (wq : Vec F S2048x2048 .bf16) (wo : Vec F S2048x2048 .bf16) : Vec F S512x2048 .f32 := View.canon (pcs x0 x1 x2 x3 wq wo)

/-- The tile routed, normalised, as stored. -/
def hnOf (v3 : Vec F S512x2048 .f32) (v4 : Vec F S1x2048 .f32) : Vec F S512x2x1024 .bf16 :=
  have v5 : FVec F S1x2048 .f32 := k0_pay36 v4
  have v63 : FVec F S512x2048 .f32 := k0_pay43 v3
  (k0_pay45 v3 v5 v63)

/-- The tile's gates. -/
def gateOf (v3 : Vec F S512x2048 .f32) (v4 : Vec F S1x2048 .f32) (v80 : Vec F S2048x128 .bf16) (v83 : Vec F S1x128 .f32) : Vec F S512x128 .f32 :=
  have v159 : FVec F S512x128 .f32 := k0_pay58 (F := F)
  have v5 : FVec F S1x2048 .f32 := k0_pay36 v4
  have v63 : FVec F S512x2048 .f32 := k0_pay43 v3
  have v86 : FVec F S512x128 .f32 := k0_pay46 v3 v5 v63 v80 v83
  have cst_116 : F .f32 := Scalar.ofBits .f32 0x40800000#32
  have v180 : FVec F S512x1 .f32 := k0_pay62 v86 v159 cst_116
  have v193 : FVec F S512x128 .f32 := k0_pay63 v86 v159 cst_116
  have v195 : FVec F S512x1 .f32 := k0_pay64 v86 v159 cst_116
  have v203 : IVec S512x128 1 := k0_pay66 v86 v159 cst_116
  have v204 : FVec F S512x128 .f32 := k0_pay67 (F := F)
  (k0_pay70 v159 v180 v193 v195 v203 v204)

/-- The tile's routed order. -/
def orderOf (i : grid0.Coords) (v3 : Vec F S512x2048 .f32) (v4 : Vec F S1x2048 .f32) (v80 : Vec F S2048x128 .bf16) (v83 : Vec F S1x128 .f32) : Vec F S1x32x128 .i32 :=
  have arg0 : BitVec 32 := BitVec.ofNat 32 (i 0).val
  have v6 : BitVec 32 := Scalar.subi arg0 1#32
  have v7 : BitVec 32 := Scalar.maxsi v6 0#32
  have v159 : FVec F S512x128 .f32 := k0_pay58 (F := F)
  have v5 : FVec F S1x2048 .f32 := k0_pay36 v4
  have v63 : FVec F S512x2048 .f32 := k0_pay43 v3
  have v86 : FVec F S512x128 .f32 := k0_pay46 v3 v5 v63 v80 v83
  have cst_116 : F .f32 := Scalar.ofBits .f32 0x40800000#32
  have v201 : FVec F S512x1 .f32 := k0_pay65 v86 v159 cst_116
  have v238 : IVec S512x128 1 := k0_pay71 v159 v201
  have v193 : FVec F S512x128 .f32 := k0_pay63 v86 v159 cst_116
  have v203 : IVec S512x128 1 := k0_pay66 v86 v159 cst_116
  have v204 : FVec F S512x128 .f32 := k0_pay67 (F := F)
  have v247 : FVec F S512x128 .bf16 := k0_pay74 v159 v193 v201 v203 v204
  have v248 : IVec S512x512 32 := iota .tc S512x512 32 [1] iota_S512x512_d1_w32
  have v249 : IVec S512x512 32 := iota .tc S512x512 32 [0] iota_S512x512_d0_w32
  have v255 : FVec F S512x128 .f32 := k0_pay75 v247 v248 v249
  have v265 : FVec F S1x128 .f32 := k0_pay76 v247
  have v404 : FVec F S512x128 .f32 := k0_pay109 v159 v238 v255 v265
  have v413 : FVec F S512x128 .bf16 := k0_pay110 v159 v238 v255 v265
  have v415 : IVec S512x1 32 := k0_pay111
  have c32_i32 : BitVec 32 := 32#32
  have v417 : IVec S512x1 32 := k0_pay112
  have c0_i32_264 : BitVec 32 := 0#32
  have v460 : FVec F S128x128 .f32 := k0_pay113 v404 v413 v415 c32_i32 v417 c0_i32_264
  have v464 : FVec F S512x128 .bf16 := k0_pay114 v404 v415
  have cst_277 : FVec F S128x128 .f32 := constant S128x128 .f32 0x00000000#32
  have v465 : FVec F S128x128 .f32 := k0_pay115 v413 v464 cst_277
  have v242 : IVec S512x128 1 := k0_pay72 v159 v193 v203 v204
  have v395 : FVec F S512x1 .f32 := k0_pay107 v242 v255 v265
  have v473 : FVec F S512x128 .f32 := k0_pay117 v159 v395
  have v482 : FVec F S512x128 .bf16 := k0_pay118 v159 v395
  have v396 : IVec S512x1 32 := iota .tc S512x1 32 [0] iota_S512x1_d0_w32
  have v484 : IVec S512x1 32 := k0_pay119 v396
  have v508 : IVec S512x1 32 := k0_pay120 v396
  have c32_i32_291 : BitVec 32 := 32#32
  have c0_i32_292 : BitVec 32 := 0#32
  have v540 : IVec S128x128 32 := k0_pay121 v460 v465 v473 v482 v484 v508 c32_i32_291 c0_i32_292
  have c512_i32_300 : BitVec 32 := 512#32
  have v542 : IVec S128x128 32 := k0_pay122 v460 v465 v473 v482 v484 v508 c32_i32_291 c0_i32_292
  have v556 : IVec S128x128 1 := k0_pay123 v460 v465 v473 v482 v484 v508 c32_i32_291 c0_i32_292
  (k0_pay124 v7 v540 c512_i32_300 v542 v556)

/-- The tile's counts. -/
def countOf (v3 : Vec F S512x2048 .f32) (v4 : Vec F S1x2048 .f32) (v80 : Vec F S2048x128 .bf16) (v83 : Vec F S1x128 .f32) : Vec F S1x8x128 .i32 :=
  have v159 : FVec F S512x128 .f32 := k0_pay58 (F := F)
  have v5 : FVec F S1x2048 .f32 := k0_pay36 v4
  have v63 : FVec F S512x2048 .f32 := k0_pay43 v3
  have v86 : FVec F S512x128 .f32 := k0_pay46 v3 v5 v63 v80 v83
  have cst_116 : F .f32 := Scalar.ofBits .f32 0x40800000#32
  have v193 : FVec F S512x128 .f32 := k0_pay63 v86 v159 cst_116
  have v201 : FVec F S512x1 .f32 := k0_pay65 v86 v159 cst_116
  have v203 : IVec S512x128 1 := k0_pay66 v86 v159 cst_116
  have v204 : FVec F S512x128 .f32 := k0_pay67 (F := F)
  have v246 : FVec F S512x128 .f32 := k0_pay73 v159 v193 v201 v203 v204
  have v598 : IVec S1x8x128 32 := k0_pay125 v246
  v598

set_option maxHeartbeats 16000000 in
/-- The rest of the body: the output's buffer and the kept tile end at `out`, the routing's buffers at the functions of the tile kept before. -/
theorem rest_run (c : Dev nD) (i : grid0.Coords) (arg1 : Memref sig .tc .vmem S512x2048 .f32) (harg1 : arg1.IsWhole) (arg2 : Memref sig .tc .vmem S1x2048 .f32) (harg2 : arg2.IsWhole) (arg4 : Memref sig .tc .vmem S1x256x2048 .bf16) (harg4 : arg4.IsWhole) (arg5 : Memref sig .tc .vmem S1x256x2048 .bf16) (harg5 : arg5.IsWhole) (arg7 : Memref sig .tc .vmem S1x2048 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S512x2048 .f32) (harg10 : arg10.IsWhole) (arg11 : Memref sig .tc .vmem S512x2x1024 .bf16) (harg11 : arg11.IsWhole) (arg12 : Memref sig .tc .vmem S512x128 .f32) (harg12 : arg12.IsWhole) (arg13 : Memref sig .tc .vmem S1x32x128 .i32) (harg13 : arg13.IsWhole) (arg14 : Memref sig .tc .vmem S1x8x128 .i32) (harg14 : arg14.IsWhole) (arg15 : Memref sig .tc .vmem S2048x2048 .bf16) (harg15 : arg15.IsWhole) (arg16 : Memref sig .tc .vmem S2048x2048 .bf16) (harg16 : arg16.IsWhole) (arg17 : Memref sig .tc .vmem S2x128x2048 .f32) (harg17 : arg17.IsWhole) (arg19 : Memref sig .tc .vmem S512x2048 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole)
    (x0 : Vec F S512x2048 .f32) (x1 : Vec F S1x2048 .f32) (x2 : Vec F S1x256x2048 .bf16) (x3 : Vec F S1x256x2048 .bf16) (x4 : Vec F S1x2048 .f32) (x5 : Vec F S2048x128 .bf16) (x6 : Vec F S1x128 .f32) (wq wo : Vec F S2048x2048 .bf16) (pv : Vec F S512x2048 .f32) (K : PUnit → sProp 𝕄) :
        iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare wq ∗ owns (c : Thread nD τ) arg16 fullShare wo ∗ (∃ d, owns (c : Thread nD τ) arg19 fullShare d) ∗ (∃ d, owns (c : Thread nD τ) arg20 fullShare d) ∗ (∃ d, owns (c : Thread nD τ) arg21 fullShare d) ∗ owns (c : Thread nD τ) arg22 fullShare pv
            ∗ (iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg7 fullShare x4 ∗ owns (c : Thread nD τ) arg8 fullShare x5 ∗ owns (c : Thread nD τ) arg9 fullShare x6 ∗ owns (c : Thread nD τ) arg10 fullShare (out x0 x1 x2 x3 wq wo) ∗ owns (c : Thread nD τ) arg11 fullShare (hnOf (ld pv (Rect.unit (s := S512x2048) ![0, 0] S512x2048.size inb_S512x2048_S512x2048_0_0).toLoadRect) (gn x4)) ∗ owns (c : Thread nD τ) arg12 fullShare (gateOf (ld pv (Rect.unit (s := S512x2048) ![0, 0] S512x2048.size inb_S512x2048_S512x2048_0_0).toLoadRect) (gn x4) (ld x5 (Rect.unit (s := S2048x128) ![0, 0] S2048x128.size inb_S2048x128_S2048x128_0_0).toLoadRect) (ld x6 (Rect.unit (s := S1x128) ![0, 0] S1x128.size inb_S1x128_S1x128_0_0).toLoadRect)) ∗ owns (c : Thread nD τ) arg13 fullShare (orderOf i (ld pv (Rect.unit (s := S512x2048) ![0, 0] S512x2048.size inb_S512x2048_S512x2048_0_0).toLoadRect) (gn x4) (ld x5 (Rect.unit (s := S2048x128) ![0, 0] S2048x128.size inb_S2048x128_S2048x128_0_0).toLoadRect) (ld x6 (Rect.unit (s := S1x128) ![0, 0] S1x128.size inb_S1x128_S1x128_0_0).toLoadRect)) ∗ owns (c : Thread nD τ) arg14 fullShare (countOf (ld pv (Rect.unit (s := S512x2048) ![0, 0] S512x2048.size inb_S512x2048_S512x2048_0_0).toLoadRect) (gn x4) (ld x5 (Rect.unit (s := S2048x128) ![0, 0] S2048x128.size inb_S2048x128_S2048x128_0_0).toLoadRect) (ld x6 (Rect.unit (s := S1x128) ![0, 0] S1x128.size inb_S1x128_S1x128_0_0).toLoadRect)) ∗ owns (c : Thread nD τ) arg15 fullShare wq ∗ owns (c : Thread nD τ) arg16 fullShare wo ∗ (∃ d, owns (c : Thread nD τ) arg19 fullShare d) ∗ (∃ d, owns (c : Thread nD τ) arg20 fullShare d) ∗ (∃ d, owns (c : Thread nD τ) arg21 fullShare d) ∗ owns (c : Thread nD τ) arg22 fullShare (out x0 x1 x2 x3 wq wo)) -∗ K ⟨⟩))
          ⊢ wp frame (wpE (defs₀ (F := F)) Variants.none c none) Set.univ (restProg i arg1 harg1 arg2 harg2 (Memref.whole main_arg2) (Memref.isWhole_whole _) arg4 harg4 arg5 harg5 (Memref.whole main_arg5) (Memref.isWhole_whole _) arg7 harg7 arg8 harg8 arg9 harg9 arg10 harg10 arg11 harg11 arg12 harg12 arg13 harg13 arg14 harg14 arg15 harg15 arg16 harg16 arg17 harg17 cc0_scratch3 arg19 harg19 arg20 harg20 arg21 harg21 arg22 harg22) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%fs0, %hfs0, HS0⟩, ⟨%fs1, %hfs1, HS1⟩, ⟨%ds4, %fs4, -, HS4⟩, ⟨%ds5, %fs5, -, HS5⟩, ⟨%ds6, %fs6, -, HS6⟩, ⟨%fs7, %hfs7, HS7⟩, Hk⟩
  obtain rfl := harg1.eq_unread hf0; obtain rfl := harg2.eq_unread hf1; obtain rfl := harg4.eq_unread hf2; obtain rfl := harg5.eq_unread hf3; obtain rfl := harg7.eq_unread hf4; obtain rfl := harg8.eq_unread hf5; obtain rfl := harg9.eq_unread hf6; obtain rfl := harg15.eq_unread hfs0; obtain rfl := harg16.eq_unread hfs1; obtain rfl := harg22.eq_unread hfs7
  unfold restProg
  dsimp only
  sl_exec
  sl_step
  have hA : rest_run.sl.v351 arg1 harg1 arg2 harg2 arg4 harg4 arg5 harg5 arg15 harg15 arg19 arg20 arg21 x0 x1 x2 x3 wq = atop x0 x1 x2 x3 wq := by
    delta rest_run.sl.v351
    (try delta rest_run.sl.HS6_8); (try delta rest_run.sl.HS6_4); (try delta rest_run.sl.v334); (try delta rest_run.sl.v338); (try delta rest_run.sl.v342); (try delta rest_run.sl.v346); (try delta rest_run.sl.v106); (try delta rest_run.sl.v110); (try delta rest_run.sl.v114); (try delta rest_run.sl.v118); (try delta rest_run.sl.HS5_8); (try delta rest_run.sl.HS5_4); (try delta rest_run.sl.v122); (try delta rest_run.sl.HS4_2); (try delta rest_run.sl.v27); (try delta rest_run.sl.HS4_1)
    simp (disch := decide) only [↓ View.readCov_skip, View.readCov_cons_toLoadRect, ld_eq, pay39_eq, pay41_eq, pay42_eq, pay54_eq, pay55_eq, pay56_eq, pay57_eq, pay48_eq, pay50_eq, pay51_eq, pay52_eq, pay93_eq, pay94_eq, pay95_eq, pay96_eq, att0_eq, att1_eq, att2_eq, att3_eq, att4_eq, att5_eq, att6_eq, att7_eq, pay97_eq, pay98_eq, pay99_eq, pay100_eq, pay101_eq, pay102_eq, pay103_eq, pay104_eq, pay139_eq, pay140_eq, pay141_eq, pay142_eq, pay143_eq, pay144_eq, pay2_eq]
    exact View.readCov_eq_canon' _ _ _
  have hB : rest_run.sl.v668 arg1 harg1 arg2 harg2 arg4 harg4 arg5 harg5 arg15 harg15 arg19 arg20 arg21 x0 x1 x2 x3 wq = abot x0 x1 x2 x3 wq := by
    delta rest_run.sl.v668
    (try delta rest_run.sl.HS6_8); (try delta rest_run.sl.HS6_4); (try delta rest_run.sl.v334); (try delta rest_run.sl.v338); (try delta rest_run.sl.v342); (try delta rest_run.sl.v346); (try delta rest_run.sl.v106); (try delta rest_run.sl.v110); (try delta rest_run.sl.v114); (try delta rest_run.sl.v118); (try delta rest_run.sl.HS5_8); (try delta rest_run.sl.HS5_4); (try delta rest_run.sl.v122); (try delta rest_run.sl.HS4_2); (try delta rest_run.sl.v27); (try delta rest_run.sl.HS4_1)
    simp (disch := decide) only [↓ View.readCov_skip, View.readCov_cons_toLoadRect, ld_eq, pay39_eq, pay41_eq, pay42_eq, pay54_eq, pay55_eq, pay56_eq, pay57_eq, pay48_eq, pay50_eq, pay51_eq, pay52_eq, pay93_eq, pay94_eq, pay95_eq, pay96_eq, att0_eq, att1_eq, att2_eq, att3_eq, att4_eq, att5_eq, att6_eq, att7_eq, pay97_eq, pay98_eq, pay99_eq, pay100_eq, pay101_eq, pay102_eq, pay103_eq, pay104_eq, pay139_eq, pay140_eq, pay141_eq, pay142_eq, pay143_eq, pay144_eq, pay2_eq]
    exact View.readCov_eq_canon' _ _ _
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]
  · iexists _; isplitr; swap; · iexact H7
    ipureintro
    simp only [hA, hB, ld_eq, pay39_eq, pay41_eq, pay42_eq, pay54_eq, pay55_eq, pay56_eq, pay57_eq, pay48_eq, pay50_eq, pay51_eq, pay52_eq, pay93_eq, pay94_eq, pay95_eq, pay96_eq, pay97_eq, pay98_eq, pay99_eq, pay100_eq, pay101_eq, pay102_eq, pay103_eq, pay104_eq, pay139_eq, pay140_eq, pay141_eq, pay142_eq, pay143_eq, pay144_eq, pay2_eq]
    exact View.read_writes_eq_canon _ _ _ (pcs_cover x0 x1 x2 x3 wq wo)
  isplitl [H8]
  · iexists _; isplitr; swap; · iexact H8
    ipureintro
    simp only [ld_eq]
    exact View.read_writes_full arg11.view f8 _ _ _
  isplitl [H9]
  · iexists _; isplitr; swap; · iexact H9
    ipureintro
    simp only [ld_eq]
    exact View.read_writes_full arg12.view f9 _ _ _
  isplitl [H10]
  · iexists _; isplitr; swap; · iexact H10
    ipureintro
    simp only [ld_eq]
    exact View.read_writes_full arg13.view f10 _ _ _
  isplitl [H11]
  · iexists _; isplitr; swap; · iexact H11
    ipureintro
    simp only [ld_eq]
    exact View.read_writes_full arg14.view f11 _ _ _
  isplitl [HS0]; · iexists _; isplitr; · ipureintro; exact hfs0
                   iexact HS0
  isplitl [HS1]; · iexists _; isplitr; · ipureintro; exact hfs1
                   iexact HS1
  isplitl [HS4]; · iexists _, _; isplitr; swap; · iexact HS4
                   ipureintro; rfl
  isplitl [HS5]; · iexists _, _; isplitr; swap; · iexact HS5
                   ipureintro; rfl
  isplitl [HS6]; · iexists _, _; isplitr; swap; · iexact HS6
                   ipureintro; rfl
  iexists _; isplitr; swap; · iexact HS7
  ipureintro
  simp only [hA, hB, ld_eq, pay39_eq, pay41_eq, pay42_eq, pay54_eq, pay55_eq, pay56_eq, pay57_eq, pay48_eq, pay50_eq, pay51_eq, pay52_eq, pay93_eq, pay94_eq, pay95_eq, pay96_eq, pay97_eq, pay98_eq, pay99_eq, pay100_eq, pay101_eq, pay102_eq, pay103_eq, pay104_eq, pay139_eq, pay140_eq, pay141_eq, pay142_eq, pay143_eq, pay144_eq, pay2_eq]
  exact View.read_writes_eq_canon _ _ _ (pcs_cover x0 x1 x2 x3 wq wo)

end Cert.Kernel2Ideal.CrossRun
-- ==== Proof.CrossVal.lean ====
module

public import proofs.«01_k».proof.Proof.CrossMath
public import proofs.«01_k».proof.Proof.CrossRest
public import Idealize.ShloMosaic.Lib.Pipeline.Value
public import Idealize.ShloMosaic.Lib.Pipeline.ValueKit
public import Idealize.ShloMosaic.Lib.Pipeline.ReadBack
public import Idealize.ShloMosaic.Lib.Pointwise

@[expose] public section

set_option maxRecDepth 16384

noncomputable section

/-! What a point leaves in the output's buffer, at an index. -/

namespace Cert.Kernel2Ideal.CrossRun

open Cert.Kernel2Ideal Cert.Kernel2Ideal.Gen Idealize.ShloMosaic Idealize.ShloMosaic.TcCoe Idealize.SL.Sem

theorem named_scale : (Named.named κ "s" 1031967726#32 : Ideal .f32) = scale := rfl

theorem norm_at (h : Vec Ideal S256x2048 .f32) (g : Vec Ideal S1x2048 .f32) (r : Fin 256) (b : Fin 2048) :
    k0_pay37 h g (ix2 r b) = rowNorm (fun j => h (ix2 r j)) (fun j => g (ix2 0 j)) b := by
  pointwise [k0_pay37]
  rfl

theorem qry_at (h : Vec Ideal S256x2048 .f32) (g : Vec Ideal S1x2048 .f32) (w : Vec Ideal S2048x512 .bf16) (r : Fin 256) (l : Fin 512) :
    qry h g w (ix2 r l) = query (fun j => h (ix2 r j)) (fun j => g (ix2 0 j)) (fun j => w (ix2 j l)) * scale := by
  unfold qry
  pointwise [k0_pay40]
  rw [named_scale]
  simp only [norm_at]
  rfl

theorem score_at (q : Vec Ideal S256x512 .bf16) (k : Vec Ideal S1x256x512 .bf16) (r m : Fin 256) :
    k0_pay49 q k (ix2 r m) = ∑ x : Fin 512, q (ix2 r x) * k (ix3 0 m x) := by
  pointwise [k0_pay49]

theorem weight_at (s : FVec Ideal S256x256 .f32) (r m : Fin 256) :
    k0_pay77 s (ix2 r m) = Ideal.exp2 (s (ix2 r m) - Finset.univ.fold max (Ideal.ofBits .f32 4286578688#32) fun m' => s (ix2 r m')) := by
  pointwise [k0_pay77]
  rfl

theorem mix_at (s : FVec Ideal S256x256 .f32) (v : Vec Ideal S1x256x512 .bf16) (r : Fin 256) (l : Fin 512) :
    att s v (ix2 r l) = Ideal.div (∑ m, k0_pay77 s (ix2 r m) * v (ix3 0 m l)) (∑ m, k0_pay77 s (ix2 r m)) := by
  unfold att
  pointwise [k0_pay88, k0_pay78, k0_pay79]

/-- A head's attended value, at an index. -/
theorem att_at (h : Vec Ideal S256x2048 .f32) (g : Vec Ideal S1x2048 .f32) (w : Vec Ideal S2048x512 .bf16) (k v : Vec Ideal S1x256x512 .bf16) (r : Fin 256) (l : Fin 512) :
    att (k0_pay49 (qry h g w) k) v (ix2 r l)
      = attK (fun x => query (fun j => h (ix2 r j)) (fun j => g (ix2 0 j)) (fun j => w (ix2 j x))) (fun m x => k (ix3 0 m x)) (fun m => v (ix3 0 m l)) := by
  rw [mix_at]
  simp only [weight_at, score_at, qry_at]
  rfl

theorem out_at (x : Vec Ideal S256x512 .f32) (a : Vec Ideal S256x2048 .bf16) (w : Vec Ideal S2048x512 .bf16) (r : Fin 256) (l : Fin 512) :
    k0_pay1 x a w (ix2 r l) = x (ix2 r l) + ∑ k : Fin 2048, a (ix2 r k) * w (ix2 k l) := by
  pointwise [k0_pay1]

/-- The attended values of a tile. -/
def awant (x0 : Vec Ideal S512x2048 .f32) (x1 : Vec Ideal S1x2048 .f32) (x2 x3 : Vec Ideal S1x256x2048 .bf16) (wq : Vec Ideal S2048x2048 .bf16) : Vec Ideal S512x2048 .bf16 := fun y =>
  attK (fun l => query (fun j => x0 (ix2 (y 0) j)) (fun j => x1 (ix2 0 j)) (fun j => wq (ix2 j ⟨(y 1).val / 512 * 512 + l.val, by have : (y 1).val < 2048 := (y 1).isLt; omega⟩)))
    (fun m l => x2 (ix3 0 m ⟨(y 1).val / 512 * 512 + l.val, by have : (y 1).val < 2048 := (y 1).isLt; omega⟩)) (fun m => x3 (ix3 0 m (y 1)))

/-- One of the eight attended blocks, at an index. -/
theorem apiece_at (x0 : Vec Ideal S512x2048 .f32) (x1 : Vec Ideal S1x2048 .f32) (x2 x3 : Vec Ideal S1x256x2048 .bf16) (wq : Vec Ideal S2048x2048 .bf16) (ro off : ℕ) (hoff : off = off / 512 * 512)
    (h0 : ∀ a, ![ro, 0] a + S256x2048.size a ≤ S512x2048.size a) (h1 : ∀ a, ![0, off] a + S2048x512.size a ≤ S2048x2048.size a)
    (h2 : ∀ a, ![0, 0, off] a + S1x256x512.size a ≤ S1x256x2048.size a) (h3 : ∀ a, ![ro, off] a + S256x512.size a ≤ S512x2048.size a) (x : S256x512.Idx) :
    att (k0_pay49 (qry (ld x0 (Rect.unit (s := S512x2048) ![ro, 0] S256x2048.size h0).toLoadRect) (gn x1) (ld wq (Rect.unit (s := S2048x2048) ![0, off] S2048x512.size h1).toLoadRect))
        (ld x2 (Rect.unit (s := S1x256x2048) ![0, 0, off] S1x256x512.size h2).toLoadRect)) (ld x3 (Rect.unit (s := S1x256x2048) ![0, 0, off] S1x256x512.size h2).toLoadRect) x
      = awant x0 x1 x2 x3 wq ((Rect.unit (s := S512x2048) ![ro, off] S256x512.size h3).emb x) := by
  obtain ⟨r, l, rfl⟩ : ∃ (r : Fin 256) (l : Fin 512), x = ix2 r l := ⟨x 0, x 1, eq_ix2 x⟩
  refine (att_at _ _ _ _ _ r l).trans ?_
  have hl : l.val < 512 := l.isLt
  unfold awant gn ld
  congr 1
  · funext y
    congr 1
    · funext j; congr 1; ext a; fin_cases a <;> simp
    · funext j; congr 1; ext a; fin_cases a <;> simp
    · funext j; congr 1; ext a; fin_cases a <;> simp; omega
  · funext m y; congr 1; ext a; fin_cases a <;> simp; omega
  · funext m; congr 1; ext a; fin_cases a <;> simp

/-- Every store into the attended tile's upper half agrees with the tile. -/
theorem top_agree (x0 : Vec Ideal S512x2048 .f32) (x1 : Vec Ideal S1x2048 .f32) (x2 x3 : Vec Ideal S1x256x2048 .bf16) (wq : Vec Ideal S2048x2048 .bf16) :
    ∀ p ∈ top x0 x1 x2 x3 wq, ∀ x, p.2 x = awant x0 x1 x2 x3 wq (p.1.emb x) := by
  unfold top
  refine List.forall_mem_cons.mpr ⟨fun x => apiece_at x0 x1 x2 x3 wq 0 1536 rfl inb_S512x2048_S256x2048_0_0 inb_S2048x2048_S2048x512_0_1536 inb_S1x256x2048_S1x256x512_0_0_1536 inb_S512x2048_S256x512_0_1536 x, ?_⟩
  refine List.forall_mem_cons.mpr ⟨fun x => apiece_at x0 x1 x2 x3 wq 0 1024 rfl inb_S512x2048_S256x2048_0_0 inb_S2048x2048_S2048x512_0_1024 inb_S1x256x2048_S1x256x512_0_0_1024 inb_S512x2048_S256x512_0_1024 x, ?_⟩
  refine List.forall_mem_cons.mpr ⟨fun x => apiece_at x0 x1 x2 x3 wq 0 512 rfl inb_S512x2048_S256x2048_0_0 inb_S2048x2048_S2048x512_0_512 inb_S1x256x2048_S1x256x512_0_0_512 inb_S512x2048_S256x512_0_512 x, ?_⟩
  refine List.forall_mem_cons.mpr ⟨fun x => apiece_at x0 x1 x2 x3 wq 0 0 rfl inb_S512x2048_S256x2048_0_0 inb_S2048x2048_S2048x512_0_0 inb_S1x256x2048_S1x256x512_0_0_0 inb_S512x2048_S256x512_0_0 x, ?_⟩
  exact fun _ h => absurd h List.not_mem_nil

/-- Every store into the attended tile's lower half agrees with the tile. -/
theorem bot_agree (x0 : Vec Ideal S512x2048 .f32) (x1 : Vec Ideal S1x2048 .f32) (x2 x3 : Vec Ideal S1x256x2048 .bf16) (wq : Vec Ideal S2048x2048 .bf16) :
    ∀ p ∈ bot x0 x1 x2 x3 wq, ∀ x, p.2 x = awant x0 x1 x2 x3 wq (p.1.emb x) := by
  unfold bot
  refine List.forall_mem_cons.mpr ⟨fun x => apiece_at x0 x1 x2 x3 wq 256 1536 rfl inb_S512x2048_S256x2048_256_0 inb_S2048x2048_S2048x512_0_1536 inb_S1x256x2048_S1x256x512_0_0_1536 inb_S512x2048_S256x512_256_1536 x, ?_⟩
  refine List.forall_mem_cons.mpr ⟨fun x => apiece_at x0 x1 x2 x3 wq 256 1024 rfl inb_S512x2048_S256x2048_256_0 inb_S2048x2048_S2048x512_0_1024 inb_S1x256x2048_S1x256x512_0_0_1024 inb_S512x2048_S256x512_256_1024 x, ?_⟩
  refine List.forall_mem_cons.mpr ⟨fun x => apiece_at x0 x1 x2 x3 wq 256 512 rfl inb_S512x2048_S256x2048_256_0 inb_S2048x2048_S2048x512_0_512 inb_S1x256x2048_S1x256x512_0_0_512 inb_S512x2048_S256x512_256_512 x, ?_⟩
  refine List.forall_mem_cons.mpr ⟨fun x => apiece_at x0 x1 x2 x3 wq 256 0 rfl inb_S512x2048_S256x2048_256_0 inb_S2048x2048_S2048x512_0_0 inb_S1x256x2048_S1x256x512_0_0_0 inb_S512x2048_S256x512_256_0 x, ?_⟩
  exact fun _ h => absurd h List.not_mem_nil

theorem tile_cover (x0 : Vec Ideal S512x2048 .f32) (x1 : Vec Ideal S1x2048 .f32) (x2 x3 : Vec Ideal S1x256x2048 .bf16) (wq : Vec Ideal S2048x2048 .bf16) (y : S512x2048.Idx) :
    ∃ p ∈ bot x0 x1 x2 x3 wq ++ top x0 x1 x2 x3 wq, y ∈ p.1.set :=
  View.cover_of_tiledL (s := S512x2048) _ S256x512.size (by sl_kernel_rfl) y

/-- A lower block holds no row of the upper half. -/
theorem low {off : ℕ} {h : ∀ a, ![256, off] a + S256x512.size a ≤ S512x2048.size a} {y : S512x2048.Idx}
    (hy : y ∈ (Rect.unit (s := S512x2048) ![256, off] S256x512.size h).set) : 256 ≤ (y 0).val := ((Rect.mem_set_unit.mp hy) 0).1

theorem bot_low (x0 : Vec Ideal S512x2048 .f32) (x1 : Vec Ideal S1x2048 .f32) (x2 x3 : Vec Ideal S1x256x2048 .bf16) (wq : Vec Ideal S2048x2048 .bf16) (y : S512x2048.Idx) :
    ∀ p ∈ bot x0 x1 x2 x3 wq, y ∈ p.1.set → 256 ≤ (y 0).val := by
  unfold bot
  refine List.forall_mem_cons.mpr ⟨fun h => low (off := 1536) (h := inb_S512x2048_S256x512_256_1536) h, ?_⟩
  refine List.forall_mem_cons.mpr ⟨fun h => low (off := 1024) (h := inb_S512x2048_S256x512_256_1024) h, ?_⟩
  refine List.forall_mem_cons.mpr ⟨fun h => low (off := 512) (h := inb_S512x2048_S256x512_256_512) h, ?_⟩
  refine List.forall_mem_cons.mpr ⟨fun h => low (off := 0) (h := inb_S512x2048_S256x512_256_0) h, ?_⟩
  exact fun _ h => absurd h List.not_mem_nil

/-- Stores that all agree with one vector hold that vector wherever one of them lies. -/
theorem canon_agree {s : Shape} {e : EltTy} (W : s.Idx → Elt Ideal e) (y : s.Idx) :
    ∀ L : List (View.Piece (Elt Ideal) s e), (∀ p ∈ L, ∀ x, p.2 x = W (p.1.emb x)) → (∃ p ∈ L, y ∈ p.1.set) → View.canon L y = W y
  | [], _, h => by obtain ⟨_, hm, _⟩ := h; exact absurd hm List.not_mem_nil
  | p :: L, hp, h => by
    by_cases hy : y ∈ p.1.set
    · obtain ⟨x, rfl⟩ : ∃ x, p.1.emb x = y := p.1.exists_idx_of_mem hy
      exact (View.canon_cons_emb p.1 p.2 L x).trans (hp p (List.mem_cons_self ..) x)
    · refine (View.canon_cons_of_not_mem p L hy).trans ?_
      refine canon_agree W y L (fun q hq => hp q (List.mem_cons_of_mem _ hq)) ?_
      obtain ⟨q, hq, hyq⟩ := h
      rcases List.mem_cons.mp hq with rfl | hq
      · exact absurd hyq hy
      · exact ⟨q, hq, hyq⟩

theorem atop_at (x0 : Vec Ideal S512x2048 .f32) (x1 : Vec Ideal S1x2048 .f32) (x2 x3 : Vec Ideal S1x256x2048 .bf16) (wq : Vec Ideal S2048x2048 .bf16) (r : Fin 256) (k : Fin 2048) :
    atop x0 x1 x2 x3 wq (ix2 r k) = awant x0 x1 x2 x3 wq ((Rect.unit (s := S512x2048) ![0, 0] S256x2048.size inb_S512x2048_S256x2048_0_0).toLoadRect.idx (ix2 r k)) := by
  refine canon_agree (awant x0 x1 x2 x3 wq) _ _ (top_agree x0 x1 x2 x3 wq) ?_
  obtain ⟨p, hp, hy⟩ := tile_cover x0 x1 x2 x3 wq ((Rect.unit (s := S512x2048) ![0, 0] S256x2048.size inb_S512x2048_S256x2048_0_0).toLoadRect.idx (ix2 r k))
  rcases List.mem_append.mp hp with h | h
  · have := bot_low x0 x1 x2 x3 wq _ p h hy
    have hr : r.val < 256 := r.isLt
    simp at this
    omega
  · exact ⟨p, h, hy⟩

theorem abot_at (x0 : Vec Ideal S512x2048 .f32) (x1 : Vec Ideal S1x2048 .f32) (x2 x3 : Vec Ideal S1x256x2048 .bf16) (wq : Vec Ideal S2048x2048 .bf16) (r : Fin 256) (k : Fin 2048) :
    abot x0 x1 x2 x3 wq (ix2 r k) = awant x0 x1 x2 x3 wq ((Rect.unit (s := S512x2048) ![256, 0] S256x2048.size inb_S512x2048_S256x2048_256_0).toLoadRect.idx (ix2 r k)) :=
  canon_agree (awant x0 x1 x2 x3 wq) _ _ (List.forall_mem_append.mpr ⟨bot_agree x0 x1 x2 x3 wq, top_agree x0 x1 x2 x3 wq⟩) (tile_cover x0 x1 x2 x3 wq _)

/-- The output tile. -/
def want (x0 : Vec Ideal S512x2048 .f32) (x1 : Vec Ideal S1x2048 .f32) (x2 x3 : Vec Ideal S1x256x2048 .bf16) (wq wo : Vec Ideal S2048x2048 .bf16) : Vec Ideal S512x2048 .f32 := fun y =>
  x0 y + ∑ k : Fin 2048, awant x0 x1 x2 x3 wq (ix2 (y 0) k) * wo (ix2 k (y 1))

/-- One of the eight output blocks, at an index. -/
theorem piece_at (x0 : Vec Ideal S512x2048 .f32) (x1 : Vec Ideal S1x2048 .f32) (x2 x3 : Vec Ideal S1x256x2048 .bf16) (wq wo : Vec Ideal S2048x2048 .bf16) (A : Vec Ideal S256x2048 .bf16) (ro off : ℕ)
    (h0 : ∀ a, ![ro, 0] a + S256x2048.size a ≤ S512x2048.size a) (h1 : ∀ a, ![0, off] a + S2048x512.size a ≤ S2048x2048.size a)
    (h3 : ∀ a, ![ro, off] a + S256x512.size a ≤ S512x2048.size a)
    (hA : ∀ r k, A (ix2 r k) = awant x0 x1 x2 x3 wq ((Rect.unit (s := S512x2048) ![ro, 0] S256x2048.size h0).toLoadRect.idx (ix2 r k))) (x : S256x512.Idx) :
    k0_pay1 (ld x0 (Rect.unit (s := S512x2048) ![ro, off] S256x512.size h3).toLoadRect) A (ld wo (Rect.unit (s := S2048x2048) ![0, off] S2048x512.size h1).toLoadRect) x
      = want x0 x1 x2 x3 wq wo ((Rect.unit (s := S512x2048) ![ro, off] S256x512.size h3).emb x) := by
  obtain ⟨r, l, rfl⟩ : ∃ (r : Fin 256) (l : Fin 512), x = ix2 r l := ⟨x 0, x 1, eq_ix2 x⟩
  refine (out_at _ _ _ r l).trans ?_
  unfold want ld
  congr 1
  refine Finset.sum_congr rfl fun k _ => ?_
  rw [hA]
  congr 2
  · ext a; fin_cases a <;> simp
  · ext a; fin_cases a <;> simp

/-- What a point leaves in the output's buffer. -/
theorem out_eq (x0 : Vec Ideal S512x2048 .f32) (x1 : Vec Ideal S1x2048 .f32) (x2 x3 : Vec Ideal S1x256x2048 .bf16) (wq wo : Vec Ideal S2048x2048 .bf16) :
    out x0 x1 x2 x3 wq wo = want x0 x1 x2 x3 wq wo := by
  funext y
  refine canon_agree (want x0 x1 x2 x3 wq wo) y _ ?_ (pcs_cover x0 x1 x2 x3 wq wo y)
  unfold pcs
  refine List.forall_mem_cons.mpr ⟨fun x => piece_at x0 x1 x2 x3 wq wo (abot x0 x1 x2 x3 wq) 256 1536 inb_S512x2048_S256x2048_256_0 inb_S2048x2048_S2048x512_0_1536 inb_S512x2048_S256x512_256_1536 (abot_at x0 x1 x2 x3 wq) x, ?_⟩
  refine List.forall_mem_cons.mpr ⟨fun x => piece_at x0 x1 x2 x3 wq wo (abot x0 x1 x2 x3 wq) 256 1024 inb_S512x2048_S256x2048_256_0 inb_S2048x2048_S2048x512_0_1024 inb_S512x2048_S256x512_256_1024 (abot_at x0 x1 x2 x3 wq) x, ?_⟩
  refine List.forall_mem_cons.mpr ⟨fun x => piece_at x0 x1 x2 x3 wq wo (abot x0 x1 x2 x3 wq) 256 512 inb_S512x2048_S256x2048_256_0 inb_S2048x2048_S2048x512_0_512 inb_S512x2048_S256x512_256_512 (abot_at x0 x1 x2 x3 wq) x, ?_⟩
  refine List.forall_mem_cons.mpr ⟨fun x => piece_at x0 x1 x2 x3 wq wo (abot x0 x1 x2 x3 wq) 256 0 inb_S512x2048_S256x2048_256_0 inb_S2048x2048_S2048x512_0_0 inb_S512x2048_S256x512_256_0 (abot_at x0 x1 x2 x3 wq) x, ?_⟩
  refine List.forall_mem_cons.mpr ⟨fun x => piece_at x0 x1 x2 x3 wq wo (atop x0 x1 x2 x3 wq) 0 1536 inb_S512x2048_S256x2048_0_0 inb_S2048x2048_S2048x512_0_1536 inb_S512x2048_S256x512_0_1536 (atop_at x0 x1 x2 x3 wq) x, ?_⟩
  refine List.forall_mem_cons.mpr ⟨fun x => piece_at x0 x1 x2 x3 wq wo (atop x0 x1 x2 x3 wq) 0 1024 inb_S512x2048_S256x2048_0_0 inb_S2048x2048_S2048x512_0_1024 inb_S512x2048_S256x512_0_1024 (atop_at x0 x1 x2 x3 wq) x, ?_⟩
  refine List.forall_mem_cons.mpr ⟨fun x => piece_at x0 x1 x2 x3 wq wo (atop x0 x1 x2 x3 wq) 0 512 inb_S512x2048_S256x2048_0_0 inb_S2048x2048_S2048x512_0_512 inb_S512x2048_S256x512_0_512 (atop_at x0 x1 x2 x3 wq) x, ?_⟩
  refine List.forall_mem_cons.mpr ⟨fun x => piece_at x0 x1 x2 x3 wq wo (atop x0 x1 x2 x3 wq) 0 0 inb_S512x2048_S256x2048_0_0 inb_S2048x2048_S2048x512_0_0 inb_S512x2048_S256x512_0_0 (atop_at x0 x1 x2 x3 wq) x, ?_⟩
  exact fun _ h => absurd h List.not_mem_nil

end Cert.Kernel2Ideal.CrossRun

end
-- ==== Proof.CrossRef.lean ====
module

public import proofs.«01_k».proof.Proof.CrossMath
public import proofs.«01_k».proof.Proof.Gen.Reference2Ideal.Read
public import Idealize.ShloMosaic.Lib.Pipeline.Value
public import Idealize.ShloMosaic.Lib.Pipeline.ValueKit
public import Idealize.ShloMosaic.Lib.Pointwise

@[expose] public section

set_option maxRecDepth 16384

noncomputable section

/-! The reference's result at an index. -/

namespace Cert.Kernel2Ideal.CrossRun

open Cert.Reference2Ideal Cert.Reference2Ideal.Gen Cert.Reference2Ideal.Read Idealize.ShloMosaic Idealize.ShloMosaic.TcCoe Idealize.SL.Sem

abbrev X0 := (⟨S16384x2048, .f32⟩ : BufTy).Contents (Elt Ideal)
abbrev X1 := (⟨S1x2048, .f32⟩ : BufTy).Contents (Elt Ideal)
abbrev X2 := (⟨S1x2048x2048, .f32⟩ : BufTy).Contents (Elt Ideal)
abbrev X3 := (⟨S1024x2048, .bf16⟩ : BufTy).Contents (Elt Ideal)

/-- A query. -/
theorem ref_query (x0 : X0) (x1 : X1) (x2 : X2) (b : Fin 4) (s : Fin 4096) (n : Fin 2048) :
    val_main_v16 (F := Ideal) x0 x1 x2 (ix3 b s n)
      = query (fun j => x0 (ix2 ⟨b.val * 4096 + s.val, by omega⟩ j)) (fun j => x1 (ix2 0 j)) (fun j => x2 (ix3 0 j n)) := by
  unfold val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise []
  rfl

/-- A score. -/
theorem ref_score (x0 : X0) (x1 : X1) (x2 : X2) (x3 : X3) (b h : Fin 4) (s : Fin 4096) (m : Fin 256) :
    val_main_v24 (F := Ideal) x0 x1 x2 x3 (ix4 b h s m)
      = (∑ x : Fin 512, val_main_v16 (F := Ideal) x0 x1 x2 (ix3 b s ⟨h.val * 512 + x.val, by omega⟩) * x3 (ix2 ⟨b.val * 256 + m.val, by omega⟩ ⟨h.val * 512 + x.val, by omega⟩))
        * Ideal.ofBits .f32 1026884851#32 := by
  unfold val_main_v24 val_main_v23 val_main_v22 val_main_v19 val_main_v18 val_main_v17 val_main_cst_2
  generalize val_main_v16 (F := Ideal) x0 x1 x2 = y
  pointwise []

/-- A row's maximum. -/
theorem max_at (y : S4x4x4096x256.Idx → EReal) (v : S_.Idx → EReal) (b h : Fin 4) (s : Fin 4096) :
    Host.reduce (FloatOps.maximumf (F := Ideal) (φ := .f32)) y v reducesTo_S4x4x4096x256_S4x4x4096_d3 h_S_ (ix3 b h s)
      = Finset.univ.fold max (v (Shape.Idx.first h_S_)) fun m => y (ix4 b h s m) := by
  refine (Host.reduce_eq_fold_single (max : EReal → EReal → EReal) y v reducesTo_S4x4x4096x256_S4x4x4096_d3 (by decide) h_S_ (ix3 b h s)).trans ?_
  refine Finset.fold_congr fun m _ => ?_
  exact congrArg y (funext fun a => Fin.ext (by fin_cases a <;> rfl))

/-- The maxima. -/
theorem ref_max (x0 : X0) (x1 : X1) (x2 : X2) (x3 : X3) (b h : Fin 4) (s : Fin 4096) :
    val_main_v25 (F := Ideal) x0 x1 x2 x3 (ix3 b h s)
      = Finset.univ.fold max (Ideal.ofBits .f32 4286578688#32) fun m' => val_main_v24 (F := Ideal) x0 x1 x2 x3 (ix4 b h s m') := by
  have hc : val_main_cst_3 (F := Ideal) (Shape.Idx.first h_S_) = Ideal.ofBits .f32 4286578688#32 := rfl
  unfold val_main_v25
  generalize val_main_v24 (F := Ideal) x0 x1 x2 x3 = y
  rw [← hc]
  exact max_at y _ b h s

/-- A weight before its division. -/
theorem ref_weight (x0 : X0) (x1 : X1) (x2 : X2) (x3 : X3) (b h : Fin 4) (s : Fin 4096) (m : Fin 256) :
    val_main_v31 (F := Ideal) x0 x1 x2 x3 (ix4 b h s m)
      = Ideal.exp (val_main_v24 (F := Ideal) x0 x1 x2 x3 (ix4 b h s m)
          - max (Ideal.ofBits .f32 4286578688#32) (Finset.univ.fold max (Ideal.ofBits .f32 4286578688#32) fun m' => val_main_v24 (F := Ideal) x0 x1 x2 x3 (ix4 b h s m'))) := by
  have e : idx_main_v28 (idx_main_v29 (ix4 b h s m)) = ix3 b h s := funext fun a => match a with
    | ⟨0, _⟩ => rfl
    | ⟨1, _⟩ => rfl
    | ⟨2, _⟩ => rfl
  have hc (i : S_.Idx) : val_main_cst_4 (F := Ideal) i = Ideal.ofBits .f32 4286578688#32 := rfl
  rw [val_main_v31_apply, val_main_v30_apply, val_main_v29_apply, val_main_v28_apply, e, val_main_v27_apply, val_main_v26_apply, hc, ref_max]
  generalize val_main_v24 (F := Ideal) x0 x1 x2 x3 = y
  generalize (Finset.univ.fold max (Ideal.ofBits .f32 4286578688#32) fun m' => y (ix4 b h s m')) = z
  generalize y (ix4 b h s m) = w
  rfl

/-- An attended value. -/
theorem ref_att (x0 : X0) (x1 : X1) (x2 : X2) (x3 x4 : X3) (b : Fin 4) (s : Fin 4096) (n : Fin 2048) :
    val_main_v38 (F := Ideal) x0 x1 x2 x3 x4 (ix3 b s n)
      = ∑ m : Fin 256, x4 (ix2 ⟨b.val * 256 + m.val, by omega⟩ n) * Ideal.div (val_main_v31 (F := Ideal) x0 x1 x2 x3 (ix4 b ⟨n.val / 512, by omega⟩ s m))
          (∑ m' : Fin 256, val_main_v31 (F := Ideal) x0 x1 x2 x3 (ix4 b ⟨n.val / 512, by omega⟩ s m')) := by
  unfold val_main_v38 val_main_v37 val_main_v36 val_main_v35 val_main_v34 val_main_v33 val_main_v32 val_main_v21 val_main_v20 val_main_cst_5
  generalize val_main_v31 (F := Ideal) x0 x1 x2 x3 = y
  pointwise []

/-- The same, in the attention's form. -/
theorem ref_attR (x0 : X0) (x1 : X1) (x2 : X2) (x3 x4 : X3) (b : Fin 4) (s : Fin 4096) (n : Fin 2048) :
    val_main_v38 (F := Ideal) x0 x1 x2 x3 x4 (ix3 b s n)
      = attR (fun l => query (fun j => x0 (ix2 ⟨b.val * 4096 + s.val, by omega⟩ j)) (fun j => x1 (ix2 0 j)) (fun j => x2 (ix3 0 j ⟨n.val / 512 * 512 + l.val, by omega⟩)))
          (fun m l => x3 (ix2 ⟨b.val * 256 + m.val, by omega⟩ ⟨n.val / 512 * 512 + l.val, by omega⟩)) (fun m => x4 (ix2 ⟨b.val * 256 + m.val, by omega⟩ n)) := by
  rw [ref_att]
  simp only [ref_weight, ref_score, ref_query]
  rfl

/-- The result. -/
theorem ref_at (x0 : X0) (x1 : X1) (x2 : X2) (x3 x4 : X3) (x5 : X2) (a : Fin 16384) (n : Fin 2048) :
    val_main_v42 (F := Ideal) x0 x1 x2 x3 x4 x5 (ix2 a n)
      = x0 (ix2 a n) + ∑ k : Fin 2048, val_main_v38 (F := Ideal) x0 x1 x2 x3 x4 (ix3 ⟨a.val / 4096, by omega⟩ ⟨a.val % 4096, by omega⟩ k) * x5 (ix3 0 k n) := by
  unfold val_main_v42 val_main_v41 val_main_v40 val_main_v39 val_main_v0
  generalize val_main_v38 (F := Ideal) x0 x1 x2 x3 x4 = y
  pointwise []

end Cert.Kernel2Ideal.CrossRun

end
-- ==== Proof.CrossLoad.lean ====
module

public import proofs.«01_k».proof.Proof.CrossText
public import Idealize.ShloMosaic.Lib.VecWindow

@[expose] public section

set_option maxRecDepth 16384

noncomputable section

namespace Cert.Kernel2Ideal.CrossRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F] [Named F]

local notation "𝕄" => MT nD τ sig Unit (Elt F) ℕ (Pipeline.UD sig nD τ) ℕ

/-- The two cells of the body's own copies at zero. -/
abbrev cells0 (c : Dev nD) : sProp 𝕄 := iprop(semVal ((c : Thread nD τ), SemLoc.dma 20) 0 ∗ semVal ((c : Thread nD τ), SemLoc.dma 21) 0)

set_option maxHeartbeats 16000000 in
/-- The loads leave both weights narrowed in scratch and the kept tile at zero. -/
theorem load_run (c : Dev nD) (i : grid0.Coords) (arg1 : Memref sig .tc .vmem S512x2048 .f32) (harg1 : arg1.IsWhole) (arg2 : Memref sig .tc .vmem S1x2048 .f32) (harg2 : arg2.IsWhole) (arg4 : Memref sig .tc .vmem S1x256x2048 .bf16) (harg4 : arg4.IsWhole) (arg5 : Memref sig .tc .vmem S1x256x2048 .bf16) (harg5 : arg5.IsWhole) (arg7 : Memref sig .tc .vmem S1x2048 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S512x2048 .f32) (harg10 : arg10.IsWhole) (arg11 : Memref sig .tc .vmem S512x2x1024 .bf16) (harg11 : arg11.IsWhole) (arg12 : Memref sig .tc .vmem S512x128 .f32) (harg12 : arg12.IsWhole) (arg13 : Memref sig .tc .vmem S1x32x128 .i32) (harg13 : arg13.IsWhole) (arg14 : Memref sig .tc .vmem S1x8x128 .i32) (harg14 : arg14.IsWhole) (arg15 : Memref sig .tc .vmem S2048x2048 .bf16) (harg15 : arg15.IsWhole) (arg16 : Memref sig .tc .vmem S2048x2048 .bf16) (harg16 : arg16.IsWhole) (arg17 : Memref sig .tc .vmem S2x128x2048 .f32) (harg17 : arg17.IsWhole) (arg19 : Memref sig .tc .vmem S512x2048 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole)
    (fq : QBuf (F := F) c) (fo : OBuf (F := F) c)
    (W : Waits sig Unit) (K : PUnit → sProp 𝕄) :
        iprop((∃ d, owns (c : Thread nD τ) arg15 fullShare d) ∗ (∃ d, owns (c : Thread nD τ) arg16 fullShare d) ∗ (∃ d, owns (c : Thread nD τ) arg17 fullShare d) ∗ (∃ d, owns (c : Thread nD τ) arg22 fullShare d) ∗ semVal ((c : Thread nD τ), SemLoc.dma 20) 0 ∗ semVal ((c : Thread nD τ), SemLoc.dma 21) 0 ∗ hbPt0 c (Memref.whole main_arg2) fq ∗ hbPt0 c (Memref.whole main_arg5) fo ∗ owes (c : Thread nD τ) 0 W
            ∗ (iprop(owns (c : Thread nD τ) arg15 fullShare (Wq c fq) ∗ owns (c : Thread nD τ) arg16 fullShare (Wo c fo) ∗ (∃ d, owns (c : Thread nD τ) arg17 fullShare d) ∗ owns (c : Thread nD τ) arg22 fullShare (k0_pay35 (F := F)) ∗ semVal ((c : Thread nD τ), SemLoc.dma 20) 0 ∗ semVal ((c : Thread nD τ), SemLoc.dma 21) 0 ∗ hbPt0 c (Memref.whole main_arg2) fq ∗ hbPt0 c (Memref.whole main_arg5) fo ∗ (∃ W', owes (c : Thread nD τ) 0 W')) -∗ K ⟨⟩))
          ⊢ wp frame (wpE (defs₀ (F := F)) Variants.none c none) Set.univ (loadProg i arg1 harg1 arg2 harg2 (Memref.whole main_arg2) (Memref.isWhole_whole _) arg4 harg4 arg5 harg5 (Memref.whole main_arg5) (Memref.isWhole_whole _) arg7 harg7 arg8 harg8 arg9 harg9 arg10 harg10 arg11 harg11 arg12 harg12 arg13 harg13 arg14 harg14 arg15 harg15 arg16 harg16 arg17 harg17 cc0_scratch3 arg19 harg19 arg20 harg20 arg21 harg21 arg22 harg22) K := by
  unfold loadProg
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%ds0, %fs0, -, HS0⟩, ⟨%ds1, %fs1, -, HS1⟩, ⟨%ds2, %fs2, -, HS2⟩, ⟨%ds7, %fs7, -, HS7⟩, Hq0, Hq1, Hh0, Hh1, HW, Hk⟩
  set_option sl_exec.dmaWindow true in
  set_option sl_exec.dmaWindowSet true in
  sl_exec
  sl_step
  iapply Hk
  isplitl [HS0]
  · iexists _; isplitr; swap; · iexact HS0
    ipureintro
    funext y
    refine Slots.agree arg15.view _ (Wq c fq) y _ ?_ ?_
    swap; · exact View.cover_of_tiledL (s := S2048x2048) _ S128x2048.size (by sl_kernel_rfl) y
    refine List.forall_mem_cons.mpr ⟨fun x => slab (Memref.whole main_arg2) fq arg17 _ _ _ _ _ _ _ inb_S2048x2048_S128x2048_1920_0 x, ?_⟩
    refine List.forall_mem_cons.mpr ⟨fun x => slab_under (Memref.whole main_arg2) fq arg17 _ _ _ _ _ _ _ _ _ _ _ inb_S2048x2048_S128x2048_1792_0 (by decide) x, ?_⟩
    refine List.forall_mem_cons.mpr ⟨fun x => slab_under (Memref.whole main_arg2) fq arg17 _ _ _ _ _ _ _ _ _ _ _ inb_S2048x2048_S128x2048_1664_0 (by decide) x, ?_⟩
    refine List.forall_mem_cons.mpr ⟨fun x => slab_under (Memref.whole main_arg2) fq arg17 _ _ _ _ _ _ _ _ _ _ _ inb_S2048x2048_S128x2048_1536_0 (by decide) x, ?_⟩
    refine List.forall_mem_cons.mpr ⟨fun x => slab_under (Memref.whole main_arg2) fq arg17 _ _ _ _ _ _ _ _ _ _ _ inb_S2048x2048_S128x2048_1408_0 (by decide) x, ?_⟩
    refine List.forall_mem_cons.mpr ⟨fun x => slab_under (Memref.whole main_arg2) fq arg17 _ _ _ _ _ _ _ _ _ _ _ inb_S2048x2048_S128x2048_1280_0 (by decide) x, ?_⟩
    refine List.forall_mem_cons.mpr ⟨fun x => slab_under (Memref.whole main_arg2) fq arg17 _ _ _ _ _ _ _ _ _ _ _ inb_S2048x2048_S128x2048_1152_0 (by decide) x, ?_⟩
    refine List.forall_mem_cons.mpr ⟨fun x => slab_under (Memref.whole main_arg2) fq arg17 _ _ _ _ _ _ _ _ _ _ _ inb_S2048x2048_S128x2048_1024_0 (by decide) x, ?_⟩
    refine List.forall_mem_cons.mpr ⟨fun x => slab_under (Memref.whole main_arg2) fq arg17 _ _ _ _ _ _ _ _ _ _ _ inb_S2048x2048_S128x2048_896_0 (by decide) x, ?_⟩
    refine List.forall_mem_cons.mpr ⟨fun x => slab_under (Memref.whole main_arg2) fq arg17 _ _ _ _ _ _ _ _ _ _ _ inb_S2048x2048_S128x2048_768_0 (by decide) x, ?_⟩
    refine List.forall_mem_cons.mpr ⟨fun x => slab_under (Memref.whole main_arg2) fq arg17 _ _ _ _ _ _ _ _ _ _ _ inb_S2048x2048_S128x2048_640_0 (by decide) x, ?_⟩
    refine List.forall_mem_cons.mpr ⟨fun x => slab_under (Memref.whole main_arg2) fq arg17 _ _ _ _ _ _ _ _ _ _ _ inb_S2048x2048_S128x2048_512_0 (by decide) x, ?_⟩
    refine List.forall_mem_cons.mpr ⟨fun x => slab_under (Memref.whole main_arg2) fq arg17 _ _ _ _ _ _ _ _ _ _ _ inb_S2048x2048_S128x2048_384_0 (by decide) x, ?_⟩
    refine List.forall_mem_cons.mpr ⟨fun x => slab_under (Memref.whole main_arg2) fq arg17 _ _ _ _ _ _ _ _ _ _ _ inb_S2048x2048_S128x2048_256_0 (by decide) x, ?_⟩
    refine List.forall_mem_cons.mpr ⟨fun x => slab_under (Memref.whole main_arg2) fq arg17 _ _ _ _ _ _ _ _ _ _ _ inb_S2048x2048_S128x2048_128_0 (by decide) x, ?_⟩
    refine List.forall_mem_cons.mpr ⟨fun x => slab_under (Memref.whole main_arg2) fq arg17 _ _ _ _ _ _ _ _ _ _ _ inb_S2048x2048_S128x2048_0_0 (by decide) x, ?_⟩
    exact fun _ h => absurd h List.not_mem_nil
  isplitl [HS1]
  · iexists _; isplitr; swap; · iexact HS1
    ipureintro
    funext y
    refine Slots.agree arg16.view _ (Wo c fo) y _ ?_ ?_
    swap; · exact View.cover_of_tiledL (s := S2048x2048) _ S128x2048.size (by sl_kernel_rfl) y
    refine List.forall_mem_cons.mpr ⟨fun x => slab (Memref.whole main_arg5) fo arg17 _ _ _ _ _ _ _ inb_S2048x2048_S128x2048_1920_0 x, ?_⟩
    refine List.forall_mem_cons.mpr ⟨fun x => slab_under (Memref.whole main_arg5) fo arg17 _ _ _ _ _ _ _ _ _ _ _ inb_S2048x2048_S128x2048_1792_0 (by decide) x, ?_⟩
    refine List.forall_mem_cons.mpr ⟨fun x => slab_under (Memref.whole main_arg5) fo arg17 _ _ _ _ _ _ _ _ _ _ _ inb_S2048x2048_S128x2048_1664_0 (by decide) x, ?_⟩
    refine List.forall_mem_cons.mpr ⟨fun x => slab_under (Memref.whole main_arg5) fo arg17 _ _ _ _ _ _ _ _ _ _ _ inb_S2048x2048_S128x2048_1536_0 (by decide) x, ?_⟩
    refine List.forall_mem_cons.mpr ⟨fun x => slab_under (Memref.whole main_arg5) fo arg17 _ _ _ _ _ _ _ _ _ _ _ inb_S2048x2048_S128x2048_1408_0 (by decide) x, ?_⟩
    refine List.forall_mem_cons.mpr ⟨fun x => slab_under (Memref.whole main_arg5) fo arg17 _ _ _ _ _ _ _ _ _ _ _ inb_S2048x2048_S128x2048_1280_0 (by decide) x, ?_⟩
    refine List.forall_mem_cons.mpr ⟨fun x => slab_under (Memref.whole main_arg5) fo arg17 _ _ _ _ _ _ _ _ _ _ _ inb_S2048x2048_S128x2048_1152_0 (by decide) x, ?_⟩
    refine List.forall_mem_cons.mpr ⟨fun x => slab_under (Memref.whole main_arg5) fo arg17 _ _ _ _ _ _ _ _ _ _ _ inb_S2048x2048_S128x2048_1024_0 (by decide) x, ?_⟩
    refine List.forall_mem_cons.mpr ⟨fun x => slab_under (Memref.whole main_arg5) fo arg17 _ _ _ _ _ _ _ _ _ _ _ inb_S2048x2048_S128x2048_896_0 (by decide) x, ?_⟩
    refine List.forall_mem_cons.mpr ⟨fun x => slab_under (Memref.whole main_arg5) fo arg17 _ _ _ _ _ _ _ _ _ _ _ inb_S2048x2048_S128x2048_768_0 (by decide) x, ?_⟩
    refine List.forall_mem_cons.mpr ⟨fun x => slab_under (Memref.whole main_arg5) fo arg17 _ _ _ _ _ _ _ _ _ _ _ inb_S2048x2048_S128x2048_640_0 (by decide) x, ?_⟩
    refine List.forall_mem_cons.mpr ⟨fun x => slab_under (Memref.whole main_arg5) fo arg17 _ _ _ _ _ _ _ _ _ _ _ inb_S2048x2048_S128x2048_512_0 (by decide) x, ?_⟩
    refine List.forall_mem_cons.mpr ⟨fun x => slab_under (Memref.whole main_arg5) fo arg17 _ _ _ _ _ _ _ _ _ _ _ inb_S2048x2048_S128x2048_384_0 (by decide) x, ?_⟩
    refine List.forall_mem_cons.mpr ⟨fun x => slab_under (Memref.whole main_arg5) fo arg17 _ _ _ _ _ _ _ _ _ _ _ inb_S2048x2048_S128x2048_256_0 (by decide) x, ?_⟩
    refine List.forall_mem_cons.mpr ⟨fun x => slab_under (Memref.whole main_arg5) fo arg17 _ _ _ _ _ _ _ _ _ _ _ inb_S2048x2048_S128x2048_128_0 (by decide) x, ?_⟩
    refine List.forall_mem_cons.mpr ⟨fun x => slab_under (Memref.whole main_arg5) fo arg17 _ _ _ _ _ _ _ _ _ _ _ inb_S2048x2048_S128x2048_0_0 (by decide) x, ?_⟩
    exact fun _ h => absurd h List.not_mem_nil
  isplitl [HS2]
  · iexists _, _; isplitr; swap; · iexact HS2
    ipureintro; rfl
  isplitl [HS7]
  · iexists _; isplitr; swap; · iexact HS7
    ipureintro
    exact View.read_writes_full arg22.view fs7 _ _ _
  isplitl [Hq0]; · iexact Hq0
  isplitl [Hq1]; · iexact Hq1
  isplitl [Hh0]; · iexact Hh0
  isplitl [Hh1]; · iexact Hh1
  iexists _; iexact HW

end Cert.Kernel2Ideal.CrossRun
-- ==== Proof.CrossRun.lean ====
module

public import proofs.«01_k».proof.Proof.CrossLoad
public import proofs.«01_k».proof.Proof.CrossRest

@[expose] public section

set_option maxRecDepth 16384

noncomputable section

namespace Cert.Kernel2Ideal.CrossRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F] [Named F]

local notation "𝕄" => MT nD τ sig Unit (Elt F) ℕ (Pipeline.UD sig nD τ) ℕ

/-- The first point loads the weights and zeroes the kept tile; the others find both as they were left. -/
theorem load_or (c : Dev nD) (i : grid0.Coords) (arg1 : Memref sig .tc .vmem S512x2048 .f32) (harg1 : arg1.IsWhole) (arg2 : Memref sig .tc .vmem S1x2048 .f32) (harg2 : arg2.IsWhole) (arg4 : Memref sig .tc .vmem S1x256x2048 .bf16) (harg4 : arg4.IsWhole) (arg5 : Memref sig .tc .vmem S1x256x2048 .bf16) (harg5 : arg5.IsWhole) (arg7 : Memref sig .tc .vmem S1x2048 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S512x2048 .f32) (harg10 : arg10.IsWhole) (arg11 : Memref sig .tc .vmem S512x2x1024 .bf16) (harg11 : arg11.IsWhole) (arg12 : Memref sig .tc .vmem S512x128 .f32) (harg12 : arg12.IsWhole) (arg13 : Memref sig .tc .vmem S1x32x128 .i32) (harg13 : arg13.IsWhole) (arg14 : Memref sig .tc .vmem S1x8x128 .i32) (harg14 : arg14.IsWhole) (arg15 : Memref sig .tc .vmem S2048x2048 .bf16) (harg15 : arg15.IsWhole) (arg16 : Memref sig .tc .vmem S2048x2048 .bf16) (harg16 : arg16.IsWhole) (arg17 : Memref sig .tc .vmem S2x128x2048 .f32) (harg17 : arg17.IsWhole) (arg19 : Memref sig .tc .vmem S512x2048 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole)
    (fq : QBuf (F := F) c) (fo : OBuf (F := F) c) (W : Waits sig Unit) (w w' : Vec F S2048x2048 .bf16) (p pv : Vec F S512x2048 .f32)
    (hw : ¬ first i → w = Wq c fq ∧ w' = Wo c fo ∧ p = pv) (hz : first i → pv = k0_pay35) {β : Type} (k : PUnit → Prog (TpuEff nD τ sig (Elt F) Λ₀ .tc) β) (K : β → sProp 𝕄) :
        iprop(owns (c : Thread nD τ) arg15 fullShare w ∗ owns (c : Thread nD τ) arg16 fullShare w' ∗ (∃ d, owns (c : Thread nD τ) arg17 fullShare d) ∗ owns (c : Thread nD τ) arg22 fullShare p ∗ semVal ((c : Thread nD τ), SemLoc.dma 20) 0 ∗ semVal ((c : Thread nD τ), SemLoc.dma 21) 0 ∗ hbPt0 c (Memref.whole main_arg2) fq ∗ hbPt0 c (Memref.whole main_arg5) fo ∗ owes (c : Thread nD τ) 0 W
            ∗ (iprop(owns (c : Thread nD τ) arg15 fullShare (Wq c fq) ∗ owns (c : Thread nD τ) arg16 fullShare (Wo c fo) ∗ (∃ d, owns (c : Thread nD τ) arg17 fullShare d) ∗ owns (c : Thread nD τ) arg22 fullShare pv ∗ semVal ((c : Thread nD τ), SemLoc.dma 20) 0 ∗ semVal ((c : Thread nD τ), SemLoc.dma 21) 0 ∗ hbPt0 c (Memref.whole main_arg2) fq ∗ hbPt0 c (Memref.whole main_arg5) fo ∗ (∃ W', owes (c : Thread nD τ) 0 W')) -∗ wp frame (wpE (defs₀ (F := F)) Variants.none c none) Set.univ (k ⟨⟩) K))
          ⊢ wp frame (wpE (defs₀ (F := F)) Variants.none c none) Set.univ (if h : first i then loadProg i arg1 harg1 arg2 harg2 (Memref.whole main_arg2) (Memref.isWhole_whole _) arg4 harg4 arg5 harg5 (Memref.whole main_arg5) (Memref.isWhole_whole _) arg7 harg7 arg8 harg8 arg9 harg9 arg10 harg10 arg11 harg11 arg12 harg12 arg13 harg13 arg14 harg14 arg15 harg15 arg16 harg16 arg17 harg17 cc0_scratch3 arg19 harg19 arg20 harg20 arg21 harg21 arg22 harg22 >>= k else k ⟨⟩) K := by
  by_cases h : first i
  · rw [dif_pos h, wp_bind, hz h]
    refine BIBase.Entails.trans ?_ (load_run c i arg1 harg1 arg2 harg2 arg4 harg4 arg5 harg5 arg7 harg7 arg8 harg8 arg9 harg9 arg10 harg10 arg11 harg11 arg12 harg12 arg13 harg13 arg14 harg14 arg15 harg15 arg16 harg16 arg17 harg17 arg19 harg19 arg20 harg20 arg21 harg21 arg22 harg22 fq fo W _)
    iintro ⟨HS0, HS1, HS2, HS7, Hq0, Hq1, Hh0, Hh1, HW, Hk⟩
    isplitl [HS0]; · iexists _; iexact HS0
    isplitl [HS1]; · iexists _; iexact HS1
    isplitl [HS2]; · iexact HS2
    isplitl [HS7]; · iexists _; iexact HS7
    isplitl [Hq0]; · iexact Hq0
    isplitl [Hq1]; · iexact Hq1
    isplitl [Hh0]; · iexact Hh0
    isplitl [Hh1]; · iexact Hh1
    isplitl [HW]; · iexact HW
    iexact Hk
  · rw [dif_neg h, (hw h).1, (hw h).2.1, (hw h).2.2]
    iintro ⟨HS0, HS1, HS2, HS7, Hq0, Hq1, Hh0, Hh1, HW, Hk⟩
    iapply Hk
    isplitl [HS0]; · iexact HS0
    isplitl [HS1]; · iexact HS1
    isplitl [HS2]; · iexact HS2
    isplitl [HS7]; · iexact HS7
    isplitl [Hq0]; · iexact Hq0
    isplitl [Hq1]; · iexact Hq1
    isplitl [Hh0]; · iexact Hh0
    isplitl [Hh1]; · iexact Hh1
    iexists _; iexact HW

set_option maxHeartbeats 1000000 in
/-- The body at any point: the output's buffer and the kept tile end at `out` of the blocks and the narrowed weights, the routing's buffers at the functions of the tile kept before. -/
theorem body_run (c : Dev nD) (i : grid0.Coords) (arg1 : Memref sig .tc .vmem S512x2048 .f32) (harg1 : arg1.IsWhole) (arg2 : Memref sig .tc .vmem S1x2048 .f32) (harg2 : arg2.IsWhole) (arg4 : Memref sig .tc .vmem S1x256x2048 .bf16) (harg4 : arg4.IsWhole) (arg5 : Memref sig .tc .vmem S1x256x2048 .bf16) (harg5 : arg5.IsWhole) (arg7 : Memref sig .tc .vmem S1x2048 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S512x2048 .f32) (harg10 : arg10.IsWhole) (arg11 : Memref sig .tc .vmem S512x2x1024 .bf16) (harg11 : arg11.IsWhole) (arg12 : Memref sig .tc .vmem S512x128 .f32) (harg12 : arg12.IsWhole) (arg13 : Memref sig .tc .vmem S1x32x128 .i32) (harg13 : arg13.IsWhole) (arg14 : Memref sig .tc .vmem S1x8x128 .i32) (harg14 : arg14.IsWhole) (arg15 : Memref sig .tc .vmem S2048x2048 .bf16) (harg15 : arg15.IsWhole) (arg16 : Memref sig .tc .vmem S2048x2048 .bf16) (harg16 : arg16.IsWhole) (arg17 : Memref sig .tc .vmem S2x128x2048 .f32) (harg17 : arg17.IsWhole) (arg19 : Memref sig .tc .vmem S512x2048 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole)
    (x0 : Vec F S512x2048 .f32) (x1 : Vec F S1x2048 .f32) (x2 : Vec F S1x256x2048 .bf16) (x3 : Vec F S1x256x2048 .bf16) (x4 : Vec F S1x2048 .f32) (x5 : Vec F S2048x128 .bf16) (x6 : Vec F S1x128 .f32)
    (fq : QBuf (F := F) c) (fo : OBuf (F := F) c) (W : Waits sig Unit) (w w' : Vec F S2048x2048 .bf16) (p pv : Vec F S512x2048 .f32)
    (hw : ¬ first i → w = Wq c fq ∧ w' = Wo c fo ∧ p = pv) (hz : first i → pv = k0_pay35) (K : PUnit → sProp 𝕄) :
        iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ owns (c : Thread nD τ) arg15 fullShare w ∗ owns (c : Thread nD τ) arg16 fullShare w' ∗ (∃ d, owns (c : Thread nD τ) arg17 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare p ∗ semVal ((c : Thread nD τ), SemLoc.dma 20) 0 ∗ semVal ((c : Thread nD τ), SemLoc.dma 21) 0 ∗ hbPt0 c (Memref.whole main_arg2) fq ∗ hbPt0 c (Memref.whole main_arg5) fo ∗ owes (c : Thread nD τ) 0 W
            ∗ (iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg7 fullShare x4 ∗ owns (c : Thread nD τ) arg8 fullShare x5 ∗ owns (c : Thread nD τ) arg9 fullShare x6 ∗ owns (c : Thread nD τ) arg10 fullShare (out x0 x1 x2 x3 (Wq c fq) (Wo c fo)) ∗ owns (c : Thread nD τ) arg11 fullShare (hnOf (ld pv (Rect.unit (s := S512x2048) ![0, 0] S512x2048.size inb_S512x2048_S512x2048_0_0).toLoadRect) (gn x4)) ∗ owns (c : Thread nD τ) arg12 fullShare (gateOf (ld pv (Rect.unit (s := S512x2048) ![0, 0] S512x2048.size inb_S512x2048_S512x2048_0_0).toLoadRect) (gn x4) (ld x5 (Rect.unit (s := S2048x128) ![0, 0] S2048x128.size inb_S2048x128_S2048x128_0_0).toLoadRect) (ld x6 (Rect.unit (s := S1x128) ![0, 0] S1x128.size inb_S1x128_S1x128_0_0).toLoadRect)) ∗ owns (c : Thread nD τ) arg13 fullShare (orderOf i (ld pv (Rect.unit (s := S512x2048) ![0, 0] S512x2048.size inb_S512x2048_S512x2048_0_0).toLoadRect) (gn x4) (ld x5 (Rect.unit (s := S2048x128) ![0, 0] S2048x128.size inb_S2048x128_S2048x128_0_0).toLoadRect) (ld x6 (Rect.unit (s := S1x128) ![0, 0] S1x128.size inb_S1x128_S1x128_0_0).toLoadRect)) ∗ owns (c : Thread nD τ) arg14 fullShare (countOf (ld pv (Rect.unit (s := S512x2048) ![0, 0] S512x2048.size inb_S512x2048_S512x2048_0_0).toLoadRect) (gn x4) (ld x5 (Rect.unit (s := S2048x128) ![0, 0] S2048x128.size inb_S2048x128_S2048x128_0_0).toLoadRect) (ld x6 (Rect.unit (s := S1x128) ![0, 0] S1x128.size inb_S1x128_S1x128_0_0).toLoadRect))
              ∗ owns (c : Thread nD τ) arg15 fullShare (Wq c fq) ∗ owns (c : Thread nD τ) arg16 fullShare (Wo c fo) ∗ (∃ d, owns (c : Thread nD τ) arg17 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare (out x0 x1 x2 x3 (Wq c fq) (Wo c fo)) ∗ semVal ((c : Thread nD τ), SemLoc.dma 20) 0 ∗ semVal ((c : Thread nD τ), SemLoc.dma 21) 0 ∗ hbPt0 c (Memref.whole main_arg2) fq ∗ hbPt0 c (Memref.whole main_arg5) fo ∗ (∃ W', owes (c : Thread nD τ) 0 W')) -∗ K ⟨⟩))
          ⊢ wp frame (wpE (defs₀ (F := F)) Variants.none c none) Set.univ (cc0_cross_block i arg1 harg1 arg2 harg2 (Memref.whole main_arg2) (Memref.isWhole_whole _) arg4 harg4 arg5 harg5 (Memref.whole main_arg5) (Memref.isWhole_whole _) arg7 harg7 arg8 harg8 arg9 harg9 arg10 harg10 arg11 harg11 arg12 harg12 arg13 harg13 arg14 harg14 arg15 harg15 arg16 harg16 arg17 harg17 cc0_scratch3 arg19 harg19 arg20 harg20 arg21 harg21 arg22 harg22) K := by
  rw [body_eq]
  iintro ⟨H0, H1, H2, H3, H4, H5, H6, H7, H8, H9, H10, H11, HS0, HS1, HS2, HS4, HS5, HS6, HS7, Hq0, Hq1, Hh0, Hh1, HW, Hk⟩
  iapply (load_or c i arg1 harg1 arg2 harg2 arg4 harg4 arg5 harg5 arg7 harg7 arg8 harg8 arg9 harg9 arg10 harg10 arg11 harg11 arg12 harg12 arg13 harg13 arg14 harg14 arg15 harg15 arg16 harg16 arg17 harg17 arg19 harg19 arg20 harg20 arg21 harg21 arg22 harg22 fq fo W w w' p pv hw hz _ _)
  isplitl [HS0]; · iexact HS0
  isplitl [HS1]; · iexact HS1
  isplitl [HS2]; · iexact HS2
  isplitl [HS7]; · iexact HS7
  isplitl [Hq0]; · iexact Hq0
  isplitl [Hq1]; · iexact Hq1
  isplitl [Hh0]; · iexact Hh0
  isplitl [Hh1]; · iexact Hh1
  isplitl [HW]; · iexact HW
  iintro ⟨HS0, HS1, HS2, HS7, Hq0, Hq1, Hh0, Hh1, HW⟩
  iapply (rest_run c i arg1 harg1 arg2 harg2 arg4 harg4 arg5 harg5 arg7 harg7 arg8 harg8 arg9 harg9 arg10 harg10 arg11 harg11 arg12 harg12 arg13 harg13 arg14 harg14 arg15 harg15 arg16 harg16 arg17 harg17 arg19 harg19 arg20 harg20 arg21 harg21 arg22 harg22 x0 x1 x2 x3 x4 x5 x6 (Wq c fq) (Wo c fo) pv K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS4]; · iexact HS4
  isplitl [HS5]; · iexact HS5
  isplitl [HS6]; · iexact HS6
  isplitl [HS7]; · iexact HS7
  iintro ⟨H0, H1, H2, H3, H4, H5, H6, H7, H8, H9, H10, H11, HS0, HS1, HS4, HS5, HS6, HS7⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS4]; · iexact HS4
  isplitl [HS5]; · iexact HS5
  isplitl [HS6]; · iexact HS6
  isplitl [HS7]; · iexact HS7
  isplitl [Hq0]; · iexact Hq0
  isplitl [Hq1]; · iexact Hq1
  isplitl [Hh0]; · iexact Hh0
  isplitl [Hh1]; · iexact Hh1
  iexact HW

end Cert.Kernel2Ideal.CrossRun
-- ==== Proof.CrossFrame.lean ====
module

public import proofs.«01_k».proof.Proof.CrossRun
public import Idealize.ShloMosaic.Lib.Claim

@[expose] public section

set_option maxRecDepth 16384

noncomputable section

namespace Cert.Kernel2Ideal.CrossRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program is its host operations and then its one region. -/
theorem enters (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The weights load happens at the first point and at no other. -/
theorem first_iff : ∀ t : Fin cfg0.N, first (grid0.coords t) ↔ t.val = 0 :=
  (fun t => by
    have ht : t.val < 33 := Nat.lt_of_lt_of_eq t.isLt N_0
    have e0 : (grid0.coords t 0).val = t.val / 1 % 33 := Pipeline.Grid.coords_val t 0 (by decide) rfl
    rw [show (t.val = 0) = (t.val % 33 = 0) by rw [Nat.mod_eq_of_lt ht]]
    simp only [first, e0]
    word_cmp
   : ∀ t : Fin grid0.N, first (grid0.coords t) ↔ t.val = 0)

/-- The two cells of the body's own copies. -/
abbrev cells : Fin 2 → SemLoc sig := fun j => (![SemLoc.dma 20, SemLoc.dma 21] : Fin 2 → SemLoc sig) j
theorem cells_own : Pipeline.OwnSemFacts spec0 cells := by decide
theorem cells_eq (c : Dev nD) :
    (Pipeline.ownSems0 (Ix := Unit) (Name := ℕ) (U := Pipeline.UD sig nD τ) (Lvl := ℕ) (Val := Elt F) (τ := τ) cells c : sProp 𝕄)
      = iprop(semVal ((c : Thread nD τ), SemLoc.dma 20) 0 ∗ semVal ((c : Thread nD τ), SemLoc.dma 21) 0) := by
  rw [Pipeline.ownSems0_eq_of_list c cells [0, 1] (by decide) (by decide)]; rfl
/-- The two operands the body copies from. -/
def Hs : Finset (Ref sig .tc) := {main_arg2, main_arg5}
theorem Hs_sub : Hs ⊆ Pipeline.restRefs sig spec0 := by decide
theorem Hs_eq (c : Dev nD) :
    (bigSep Hs (fun b => ((c : Thread nD τ).loc b) ↦{fullShare} V m c b) : sProp 𝕄) = iprop(hbPt0 c (Memref.whole main_arg2) (V m c main_arg2) ∗ hbPt0 c (Memref.whole main_arg5) (V m c main_arg5)) := by
  rw [BI.bigSep_eq_bigSepL_of_eq [main_arg2, main_arg5] (by decide) (by decide)]; rfl

/-- What the body holds beside the windows, before the first point. -/
theorem start_eq (c : Dev nD) :
    (Pipeline.ΦD cells spec0 Hs (V m) c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r) ∗ iprop(semVal ((c : Thread nD τ), SemLoc.dma 20) 0 ∗ semVal ((c : Thread nD τ), SemLoc.dma 21) 0) ∗ iprop(hbPt0 c (Memref.whole main_arg2) (V m c main_arg2) ∗ hbPt0 c (Memref.whole main_arg5) (V m c main_arg5))) := by
  rw [Pipeline.ΦD_eq, scopedRest0_eq, cells_eq, Hs_eq]; simp only [owns_whole]; try rfl

/-- A point's tile of the output. -/
def outAt (c : Dev nD) (t : Fin cfg0.N) : Vec F S512x2048 .f32 := out (iblk m c 0 t) (iblk m c 1 t) (iblk m c 2 t) (iblk m c 3 t) (Wq c (V m c main_arg2)) (Wo c (V m c main_arg5))

/-- The tile kept before the `n`-th point: zero before the first, and then the point's before. -/
def prevAt (c : Dev nD) : ℕ → Vec F S512x2048 .f32
  | 0 => k0_pay35
  | n + 1 => if h : n < cfg0.N then outAt m c ⟨n, h⟩ else k0_pay35

theorem prevAt_succ (c : Dev nD) (t : Fin cfg0.N) : prevAt m c (t.val + 1) = outAt m c t := dif_pos t.isLt

/-- What the body holds beside the windows after a point: the narrowed weights, and the tile kept. -/
def held (c : Dev nD) (n : ℕ) : sProp 𝕄 :=
  iprop(iprop(owns (c : Thread nD τ) (Memref.whole cc0_scratch0) fullShare (Wq c (V m c main_arg2)) ∗ owns (c : Thread nD τ) (Memref.whole cc0_scratch1) fullShare (Wo c (V m c main_arg5)) ∗ (∃ d, owns (c : Thread nD τ) (Memref.whole cc0_scratch2) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ owns (c : Thread nD τ) (Memref.whole cc0_scratch7) fullShare (prevAt m c n)) ∗ (∃ r, prngReg c r) ∗ iprop(semVal ((c : Thread nD τ), SemLoc.dma 20) 0 ∗ semVal ((c : Thread nD τ), SemLoc.dma 21) 0) ∗ iprop(hbPt0 c (Memref.whole main_arg2) (V m c main_arg2) ∗ hbPt0 c (Memref.whole main_arg5) (V m c main_arg5)))

/-- The same at every position of the grid. -/
def Inv (c : Dev nD) : ℕ → sProp 𝕄
  | 0 => Pipeline.ΦD cells spec0 Hs (V m) c
  | n + 1 => held m c (n + 1)

/-- The proof data: each input's buffer at its block, the output's at `out`, the routing's at the functions of the tile kept before. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
    | ⟨8, _⟩ => hnOf (ld (prevAt m c t.val) (Rect.unit (s := S512x2048) ![0, 0] S512x2048.size inb_S512x2048_S512x2048_0_0).toLoadRect) (gn (iblk m c 4 t))
    | ⟨9, _⟩ => gateOf (ld (prevAt m c t.val) (Rect.unit (s := S512x2048) ![0, 0] S512x2048.size inb_S512x2048_S512x2048_0_0).toLoadRect) (gn (iblk m c 4 t)) (ld (iblk m c 5 t) (Rect.unit (s := S2048x128) ![0, 0] S2048x128.size inb_S2048x128_S2048x128_0_0).toLoadRect) (ld (iblk m c 6 t) (Rect.unit (s := S1x128) ![0, 0] S1x128.size inb_S1x128_S1x128_0_0).toLoadRect)
    | ⟨10, _⟩ => orderOf (grid0.coords t) (ld (prevAt m c t.val) (Rect.unit (s := S512x2048) ![0, 0] S512x2048.size inb_S512x2048_S512x2048_0_0).toLoadRect) (gn (iblk m c 4 t)) (ld (iblk m c 5 t) (Rect.unit (s := S2048x128) ![0, 0] S2048x128.size inb_S2048x128_S2048x128_0_0).toLoadRect) (ld (iblk m c 6 t) (Rect.unit (s := S1x128) ![0, 0] S1x128.size inb_S1x128_S1x128_0_0).toLoadRect)
    | ⟨11, _⟩ => countOf (ld (prevAt m c t.val) (Rect.unit (s := S512x2048) ![0, 0] S512x2048.size inb_S512x2048_S512x2048_0_0).toLoadRect) (gn (iblk m c 4 t)) (ld (iblk m c 5 t) (Rect.unit (s := S2048x128) ![0, 0] S2048x128.size inb_S2048x128_S2048x128_0_0).toLoadRect) (ld (iblk m c 6 t) (Rect.unit (s := S1x128) ![0, 0] S1x128.size inb_S1x128_S1x128_0_0).toLoadRect)
  Φ t := Inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt m c t := by dsimp only [dats]
theorem after_8 (c : Dev nD) (t : Fin cfg0.N) : (dats m 0 c).after 8 t = hnOf (ld (prevAt m c t.val) (Rect.unit (s := S512x2048) ![0, 0] S512x2048.size inb_S512x2048_S512x2048_0_0).toLoadRect) (gn (iblk m c 4 t)) := by dsimp only [dats]
theorem after_9 (c : Dev nD) (t : Fin cfg0.N) : (dats m 0 c).after 9 t = gateOf (ld (prevAt m c t.val) (Rect.unit (s := S512x2048) ![0, 0] S512x2048.size inb_S512x2048_S512x2048_0_0).toLoadRect) (gn (iblk m c 4 t)) (ld (iblk m c 5 t) (Rect.unit (s := S2048x128) ![0, 0] S2048x128.size inb_S2048x128_S2048x128_0_0).toLoadRect) (ld (iblk m c 6 t) (Rect.unit (s := S1x128) ![0, 0] S1x128.size inb_S1x128_S1x128_0_0).toLoadRect) := by dsimp only [dats]
theorem after_10 (c : Dev nD) (t : Fin cfg0.N) : (dats m 0 c).after 10 t = orderOf (grid0.coords t) (ld (prevAt m c t.val) (Rect.unit (s := S512x2048) ![0, 0] S512x2048.size inb_S512x2048_S512x2048_0_0).toLoadRect) (gn (iblk m c 4 t)) (ld (iblk m c 5 t) (Rect.unit (s := S2048x128) ![0, 0] S2048x128.size inb_S2048x128_S2048x128_0_0).toLoadRect) (ld (iblk m c 6 t) (Rect.unit (s := S1x128) ![0, 0] S1x128.size inb_S1x128_S1x128_0_0).toLoadRect) := by dsimp only [dats]
theorem after_11 (c : Dev nD) (t : Fin cfg0.N) : (dats m 0 c).after 11 t = countOf (ld (prevAt m c t.val) (Rect.unit (s := S512x2048) ![0, 0] S512x2048.size inb_S512x2048_S512x2048_0_0).toLoadRect) (gn (iblk m c 4 t)) (ld (iblk m c 5 t) (Rect.unit (s := S2048x128) ![0, 0] S2048x128.size inb_S2048x128_S2048x128_0_0).toLoadRect) (ld (iblk m c 6 t) (Rect.unit (s := S1x128) ![0, 0] S1x128.size inb_S1x128_S1x128_0_0).toLoadRect) := by dsimp only [dats]

/-- Every input's buffer holds its block when the body starts. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

/-- What the body finds, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it leaves. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- Before a point: the weights in scratch and the tile kept, unless it is the first. -/
theorem inv_open (c : Dev nD) (n : ℕ) :
    Inv m c n ⊢ iprop((∃ w w' p, ⌜n ≠ 0 → w = Wq c (V m c main_arg2) ∧ w' = Wo c (V m c main_arg5) ∧ p = prevAt m c n⌝ ∗ owns (c : Thread nD τ) (Memref.whole cc0_scratch0) fullShare w ∗ owns (c : Thread nD τ) (Memref.whole cc0_scratch1) fullShare w' ∗ owns (c : Thread nD τ) (Memref.whole cc0_scratch7) fullShare p) ∗ iprop((∃ d, owns (c : Thread nD τ) (Memref.whole cc0_scratch2) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r) ∗ iprop(semVal ((c : Thread nD τ), SemLoc.dma 20) 0 ∗ semVal ((c : Thread nD τ), SemLoc.dma 21) 0) ∗ iprop(hbPt0 c (Memref.whole main_arg2) (V m c main_arg2) ∗ hbPt0 c (Memref.whole main_arg5) (V m c main_arg5))) := by
  cases n with
  | zero =>
    rw [show Inv m c 0 = Pipeline.ΦD cells spec0 Hs (V m) c from rfl, start_eq]
    iintro ⟨⟨⟨%w, HS0⟩, ⟨%w', HS1⟩, HS2, HS4, HS5, HS6, ⟨%p, HS7⟩⟩, Hg, Hq, Hh⟩
    isplitl [HS0 HS1 HS7]
    · iexists w, w', p; isplitr; · ipureintro; exact fun h => absurd rfl h
      isplitl [HS0]; · iexact HS0
      isplitl [HS1]; · iexact HS1
      iexact HS7
    isplitl [HS2 HS4 HS5 HS6]
    · isplitl [HS2]; · iexact HS2
      isplitl [HS4]; · iexact HS4
      isplitl [HS5]; · iexact HS5
      iexact HS6
    isplitl [Hg]; · iexact Hg
    isplitl [Hq]; · iexact Hq
    iexact Hh
  | succ n =>
    rw [show Inv m c (n + 1) = held m c (n + 1) from rfl]; unfold held
    iintro ⟨⟨HS0, HS1, HS2, HS4, HS5, HS6, HS7⟩, Hg, Hq, Hh⟩
    isplitl [HS0 HS1 HS7]
    · iexists _, _, _; isplitr; swap
      · isplitl [HS0]; · iexact HS0
        isplitl [HS1]; · iexact HS1
        iexact HS7
      ipureintro; exact fun _ => ⟨rfl, rfl, rfl⟩
    isplitl [HS2 HS4 HS5 HS6]
    · isplitl [HS2]; · iexact HS2
      isplitl [HS4]; · iexact HS4
      isplitl [HS5]; · iexact HS5
      iexact HS6
    isplitl [Hg]; · iexact Hg
    isplitl [Hq]; · iexact Hq
    iexact Hh

set_option maxHeartbeats 4000000 in
/-- The body at any point. -/
theorem body_at (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6]
  rw [show (dats m 0 c).Φ t.succ = held m c (t.val + 1) from rfl, after_0, after_1, after_2, after_3, after_4, after_5, after_6, after_7, after_8, after_9, after_10, after_11]
  rw [show (dats m 0 c).Φ t.castSucc = Inv m c t.val from rfl]
  unfold Dat.owesAt Pipeline.owesWithin
  rw [show (dats m 0 c).owed t.castSucc = 0 from rfl, show (dats m 0 c).owed t.succ = 0 from rfl]
  refine BIBase.Entails.trans (Laws.sep_mono (inv_open m c t.val) .rfl) ?_
  unfold held
  rw [prevAt_succ]
  iintro ⟨⟨⟨%w, %w', %p, %hw, HS0, HS1, HS7⟩, ⟨HS2, HS4, HS5, HS6⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_run c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (V m c main_arg2) (V m c main_arg5) W w w' p (prevAt m c t.val) (fun h => hw fun hz => h ((first_iff t).mpr hz)) (fun h => by rw [(first_iff t).mp h]; rfl) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS4]; · iexact HS4
  isplitl [HS5]; · iexact HS5
  isplitl [HS6]; · iexact HS6
  isplitl [HS7]; · iexact HS7
  isplitl [Hq0]; · iexact Hq0
  isplitl [Hq1]; · iexact Hq1
  isplitl [Hh0]; · iexact Hh0
  isplitl [Hh1]; · iexact Hh1
  isplitl [HW]; · iexact HW
  iintro ⟨H0, H1, H2, H3, H4, H5, H6, H7, H8, H9, H10, H11, HS0, HS1, HS2, HS4, HS5, HS6, HS7, Hq0, Hq1, Hh0, Hh1, ⟨%W', HW'⟩⟩
  isplitl [HS0 HS1 HS2 HS4 HS5 HS6 HS7 Hg Hq0 Hq1 Hh0 Hh1]
  · isplitl [HS0 HS1 HS2 HS4 HS5 HS6 HS7]
    · isplitl [HS0]; · iexact HS0
      isplitl [HS1]; · iexact HS1
      isplitl [HS2]; · iexact HS2
      isplitl [HS4]; · iexact HS4
      isplitl [HS5]; · iexact HS5
      isplitl [HS6]; · iexact HS6
      iexact HS7
    isplitl [Hg]; · iexact Hg
    isplitl [Hq0 Hq1]
    · isplitl [Hq0]; · iexact Hq0
      iexact Hq1
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body_at m c t) rfl .rfl fun _ => .rfl

theorem ends (c : Dev nD) (n : ℕ) : held m c n ⊢ Pipeline.ΦD cells spec0 Hs (V m) c := by
  rw [start_eq]; unfold held
  iintro ⟨⟨HS0, HS1, HS2, HS4, HS5, HS6, HS7⟩, Hg, Hq, Hh⟩
  isplitl [HS0 HS1 HS2 HS4 HS5 HS6 HS7]
  · isplitl [HS0]; · iexists _; iexact HS0
    isplitl [HS1]; · iexists _; iexact HS1
    isplitl [HS2]; · iexact HS2
    isplitl [HS4]; · iexact HS4
    isplitl [HS5]; · iexact HS5
    isplitl [HS6]; · iexact HS6
    iexists _; iexact HS7
  isplitl [Hg]; · iexact Hg
  isplitl [Hq]; · iexact Hq
  iexact Hh

set_option backward.isDefEq.respectTransparency.types false in
/-- Every execution ends with the pipeline's arrays at what the proof data says, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 cells defs₀ Variants.none cells_own Hs Hs_sub m ρ main
    (hbody := fun c => (obligation m c).loose) (hshare := fun c => (dats m 0 c).share_full fun _ => rfl)
    (howed := fun _ _ => rfl) (V := V m) (hmain := enters m Variants.none) (hA := A_eq m)
    (hin := fun c => Idealize.SL.BI.Entails.refl _)
    (hout := fun c => by
      rw [show (dats m 0 c).Φ (Fin.last cfg0.N) = Inv m c cfg0.N from rfl, show cfg0.N = 32 + 1 from N_0]
      exact ends m c _)

theorem run : θ_run defs (onTc (τ := τ) (main (F := F))) (s₀ m ρ) (Pipeline.FramePost cfgs (dats m) 0 (V m)) :=
  (θ_run defs _ _).mono (fun _ h => h.1) (run_quiescent m ρ)

/-- The arguments end unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) (run m ρ)

/-- and the program is quiescent. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_quiescent m ρ))

end Cert.Kernel2Ideal.CrossRun
-- ==== Proof.CrossValue.lean ====
module

public import proofs.«01_k».proof.Proof.CrossVal
public import proofs.«01_k».proof.Proof.CrossRef
public import proofs.«01_k».proof.Proof.CrossFrame
public import Idealize.ShloMosaic.Lib.Pipeline.Value
public import Idealize.ShloMosaic.Lib.Pipeline.ValueKit
public import Idealize.ShloMosaic.Lib.Pipeline.ReadBack
public import Idealize.ShloMosaic.Lib.Pointwise

@[expose] public section

set_option maxRecDepth 16384

noncomputable section

/-! The result array of the cross-attention call is the reference's. -/

namespace Cert.Kernel2Ideal.CrossRun

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The tile a point computes: the last point computes the last tile again. -/
abbrev cur (t : Fin cfg0.N) : ℕ := min t.val 31

/-- Where each window's block lies at point `t`. -/
theorem idx : ∀ t : Fin cfg0.N, win0_0.index t = ![cur t, 0] ∧ win0_1.index t = ![0, 0] ∧ win0_2.index t = ![cur t / 8, 0, 0]
    ∧ win0_3.index t = ![cur t / 8, 0, 0] ∧ win0_7.index t = ![cur t, 0] :=
  (by decide +kernel : ∀ t : Fin grid0.N, _)

/-- The tile's rows. -/
theorem x0_at (c : Dev nD) (t : Fin cfg0.N) (r : Fin 512) (k : Fin 2048) : iblk m c 0 t (ix2 r k)
    = (m ((c : Thread nD τ).loc main_arg0)) (ix2 ⟨512 * cur t + r.val, by unfold cur; omega⟩ k) := by
  obtain ⟨e0, e1, e2, e3, e7⟩ := idx t
  have ht : cur t ≤ 31 := min_le_right _ _
  blk_simp [iblk, e0]
  have em : ((View.whole main_arg0).slice (win0_0.rect t)).emb (ix2 r k) = ix2 (⟨512 * cur t + r.val, by omega⟩ : Fin 16384) k := by
    blk_ext [e0]
  rw [em]
  exact congrFun (V_main_arg0 m c) _

/-- The gain. -/
theorem x1_at (c : Dev nD) (t : Fin cfg0.N) (k : Fin 2048) : iblk m c 1 t (ix2 0 k) = (m ((c : Thread nD τ).loc main_arg1)) (ix2 0 k) := by
  obtain ⟨e0, e1, e2, e3, e7⟩ := idx t
  blk_simp [iblk, e1]
  have em : ((View.whole main_v23).slice (win0_1.rect t)).emb (ix2 0 k) = ix2 0 k := by
    blk_ext [e1]
  rw [em]
  entry_read; pointwise

/-- The memory keys of the tile's batch. -/
theorem x2_at (c : Dev nD) (t : Fin cfg0.N) (p : Fin 256) (k : Fin 2048) : iblk m c 2 t (ix3 0 p k)
    = (m ((c : Thread nD τ).loc main_arg3)) (ix2 ⟨cur t / 8 * 256 + p.val, by unfold cur; omega⟩ k) := by
  obtain ⟨e0, e1, e2, e3, e7⟩ := idx t
  have ht : cur t ≤ 31 := min_le_right _ _
  blk_simp [iblk, e2]
  have em : ((View.whole main_v21).slice (win0_2.rect t)).emb (ix3 0 p k) = ix3 (⟨cur t / 8, by omega⟩ : Fin 4) p k := by
    blk_ext [e2]
  rw [em]
  entry_read; pointwise

/-- The memory values of the tile's batch. -/
theorem x3_at (c : Dev nD) (t : Fin cfg0.N) (p : Fin 256) (k : Fin 2048) : iblk m c 3 t (ix3 0 p k)
    = (m ((c : Thread nD τ).loc main_arg4)) (ix2 ⟨cur t / 8 * 256 + p.val, by unfold cur; omega⟩ k) := by
  obtain ⟨e0, e1, e2, e3, e7⟩ := idx t
  have ht : cur t ≤ 31 := min_le_right _ _
  blk_simp [iblk, e3]
  have em : ((View.whole main_v22).slice (win0_3.rect t)).emb (ix3 0 p k) = ix3 (⟨cur t / 8, by omega⟩ : Fin 4) p k := by
    blk_ext [e3]
  rw [em]
  entry_read; pointwise

/-- The query weights. -/
theorem wq_at (c : Dev nD) (k j : Fin 2048) : Wq c (V m c main_arg2) (ix2 k j) = (m ((c : Thread nD τ).loc main_arg2)) (ix3 0 k j) := rfl

/-- The output weights. -/
theorem wo_at (c : Dev nD) (k j : Fin 2048) : Wo c (V m c main_arg5) (ix2 k j) = (m ((c : Thread nD τ).loc main_arg5)) (ix3 0 k j) := rfl

/-- The arguments the scores depend on are finite. -/
structure Finite (x0 : X0) (x1 : X1) (x2 : X2) (x3 : X3) : Prop where
  h : ∀ i, ∃ r : ℝ, x0 i = r
  g : ∀ i, ∃ r : ℝ, x1 i = r
  w : ∀ i, ∃ r : ℝ, x2 i = r
  k : ∀ i, ∃ r : ℝ, x3 i = r

/-- What a tile's result holds, -/
theorem want_at (x0 : Vec Ideal S512x2048 .f32) (x1 : Vec Ideal S1x2048 .f32) (x2 x3 : Vec Ideal S1x256x2048 .bf16) (wq wo : Vec Ideal S2048x2048 .bf16) (r : Fin 512) (b : Fin 2048) :
    want x0 x1 x2 x3 wq wo (ix2 r b) = x0 (ix2 r b) + ∑ k : Fin 2048, awant x0 x1 x2 x3 wq (ix2 r k) * wo (ix2 k b) := rfl

/-- and what its attention holds. -/
theorem awant_at (x0 : Vec Ideal S512x2048 .f32) (x1 : Vec Ideal S1x2048 .f32) (x2 x3 : Vec Ideal S1x256x2048 .bf16) (wq : Vec Ideal S2048x2048 .bf16) (r : Fin 512) (k : Fin 2048) :
    awant x0 x1 x2 x3 wq (ix2 r k) = attK (fun l => query (fun j => x0 (ix2 r j)) (fun j => x1 (ix2 0 j)) (fun j => wq (ix2 j ⟨k.val / 512 * 512 + l.val, by omega⟩)))
      (fun p l => x2 (ix3 0 p ⟨k.val / 512 * 512 + l.val, by omega⟩)) (fun p => x3 (ix3 0 p k)) := rfl

/-- A tile whose blocks are the arguments' holds the reference's rows. -/
theorem tile_eq (a0 : X0) (a1 : X1) (a2 : X2) (a3 a4 : X3) (a5 : X2) (fin : Finite a0 a1 a2 a3) (n : ℕ) (hn : n ≤ 31)
    (x0 : Vec Ideal S512x2048 .f32) (x1 : Vec Ideal S1x2048 .f32) (x2 x3 : Vec Ideal S1x256x2048 .bf16) (wq wo : Vec Ideal S2048x2048 .bf16)
    (h0 : ∀ (r : Fin 512) (k : Fin 2048), x0 (ix2 r k) = a0 (ix2 ⟨512 * n + r.val, by omega⟩ k))
    (h1 : ∀ k : Fin 2048, x1 (ix2 0 k) = a1 (ix2 0 k))
    (h2 : ∀ (p : Fin 256) (k : Fin 2048), x2 (ix3 0 p k) = a3 (ix2 ⟨n / 8 * 256 + p.val, by omega⟩ k))
    (h3 : ∀ (p : Fin 256) (k : Fin 2048), x3 (ix3 0 p k) = a4 (ix2 ⟨n / 8 * 256 + p.val, by omega⟩ k))
    (hq : ∀ k j : Fin 2048, wq (ix2 k j) = a2 (ix3 0 k j)) (ho : ∀ k j : Fin 2048, wo (ix2 k j) = a5 (ix3 0 k j)) (r : Fin 512) (b : Fin 2048) :
    want x0 x1 x2 x3 wq wo (ix2 r b) = Cert.Reference2Ideal.Read.val_main_v42 (F := Ideal) a0 a1 a2 a3 a4 a5 (ix2 ⟨512 * n + r.val, by omega⟩ b) := by
  rw [want_at, ref_at, h0]
  refine congrArg _ (Finset.sum_congr rfl fun k _ => ?_)
  have hr : r.val < 512 := r.isLt
  have hb : (512 * n + r.val) / 4096 = n / 8 := by omega
  have hs : n / 8 * 4096 + (512 * n + r.val) % 4096 = 512 * n + r.val := by omega
  rw [ho, ref_attR, ← att_eq _ _ _ (fun x => query_real _ _ _ (fun _ => fin.h _) (fun _ => fin.g _) (fun _ => fin.w _)) (fun _ _ => fin.k _), awant_at]
  simp only [h0, h1, h2, h3, hq, hb, hs]

/-- The result array is the reference's. -/
theorem arr (c : Dev nD) (fin : Finite (m ((c : Thread nD τ).loc main_arg0)) (m ((c : Thread nD τ).loc main_arg1)) (m ((c : Thread nD τ).loc main_arg2)) (m ((c : Thread nD τ).loc main_arg3))) :
    (dats m 0 c).arrAt 7 cfg0.N
    = Cert.Reference2Ideal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  generalize hR : Cert.Reference2Ideal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = R
  blk_simp
  rw [after_7]
  unfold outAt
  rw [out_eq]
  obtain ⟨r, b, rfl⟩ : ∃ (r : Fin 512) (b : Fin 2048), y = ix2 r b := ⟨y 0, y 1, eq_ix2 y⟩
  obtain ⟨e0, e1, e2, e3, e7⟩ := idx t
  have ht : cur t ≤ 31 := min_le_right _ _
  have em : ((View.whole main_v25_0).slice (win0_7.rect t)).emb (ix2 r b) = ix2 (⟨512 * cur t + r.val, by omega⟩ : Fin 16384) b := by
    blk_ext [e7]
  rw [em, ← hR]
  exact tile_eq _ _ _ _ _ _ fin (cur t) ht _ _ _ _ _ _ (x0_at m c t) (x1_at m c t) (x2_at m c t) (x3_at m c t) (wq_at m c) (wo_at m c) r b

/-- Every execution ends with the result at its array's value and the arguments unchanged. -/
theorem run_value : θ_run defs (onTc (τ := τ) (main (F := Ideal))) ⟨m, fun _ => 0, ρ⟩ (fun r => (∀ c : Dev nD,
      r.2.mem ((c.tc : Thread nD τ).loc main_v25_0) = (dats m 0 c).arrAt 7 cfg0.N)) :=
  (θ_run defs _ _).mono (fun _ h c => (h c).1 7) (run m ρ)

end Cert.Kernel2Ideal.CrossRun

end
-- ==== Proof.CrossRestBits.lean ====
module

public import proofs.«01_k».proof.Proof.CrossTextBits
public import Idealize.ShloMosaic.Lib.VecWindow
public import Idealize.ShloMosaic.Lib.Pipeline.ReadBack

@[expose] public section

set_option maxRecDepth 16384

noncomputable section

namespace Cert.Kernel2.CrossRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2.Gen

variable {F : FTy → Type} [BitOps F]

local notation "𝕄" => MT nD τ sig Unit (Elt F) ℕ (Pipeline.UD sig nD τ) ℕ

/-- What every point does: the routing of the kept tile, and the attention of a new one. -/
noncomputable def restProg (i : grid0.Coords) (arg1 : Memref sig .tc .vmem S512x2048 .f32) (harg1 : arg1.IsWhole) (arg2 : Memref sig .tc .vmem S1x2048 .f32) (harg2 : arg2.IsWhole) (arg3 : Memref sig .tc .hbm S1x2048x2048 .f32) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .hbm S1x2048x2048 .f32) (harg6 : arg6.IsWhole) (arg7 : Memref sig .tc .vmem S1x2048 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S512x2048 .f32) (harg10 : arg10.IsWhole) (arg11 : Memref sig .tc .vmem S512x1024 .i32) (harg11 : arg11.IsWhole) (arg12 : Memref sig .tc .vmem S512x128 .f32) (harg12 : arg12.IsWhole) (arg13 : Memref sig .tc .vmem S1x32x128 .i32) (harg13 : arg13.IsWhole) (arg14 : Memref sig .tc .vmem S1x8x128 .i32) (harg14 : arg14.IsWhole) (arg15 : Memref sig .tc .vmem S2048x2048 .bf16) (harg15 : arg15.IsWhole) (arg16 : Memref sig .tc .vmem S2048x2048 .bf16) (harg16 : arg16.IsWhole) (arg17 : Memref sig .tc .vmem S2x128x2048 .f32) (harg17 : arg17.IsWhole) (arg18 : DmaSems sig S2) (arg19 : Memref sig .tc .vmem S512x2048 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) :
    Prog (TpuEff nD τ sig (Elt F) Λ₀ .tc) PUnit := do
  let arg0 : BitVec 32 := BitVec.ofNat 32 (i 0).val
  let v3 : Vec F S512x2048 .f32 ← Prog.lift (.load arg22 (Rect.unit (s := S512x2048) ![0, 0] S512x2048.size inb_S512x2048_S512x2048_0_0).toLoadRect (View.loadsAt_vmem h_S512x2048))
  let v4 : Vec F S1x2048 .f32 ← Prog.lift (.load arg7 (Rect.unit (s := S1x2048) ![0, 0] S1x2048.size inb_S1x2048_S1x2048_0_0).toLoadRect (View.loadsAt_vmem h_S1x2048))
  let v6 : BitVec 32 := Scalar.subi arg0 1#32
  let v7 : BitVec 32 := Scalar.maxsi v6 0#32
  let v8 : Vec F S256x2048 .f32 ← Prog.lift (.load arg1 (Rect.unit (s := S512x2048) ![0, 0] S256x2048.size inb_S512x2048_S256x2048_0_0).toLoadRect (View.loadsAt_vmem h_S256x2048))
  let v9 : Vec F S1x2048 .f32 ← Prog.lift (.load arg2 (Rect.unit (s := S1x2048) ![0, 0] S1x2048.size inb_S1x2048_S1x2048_0_0).toLoadRect (View.loadsAt_vmem h_S1x2048))
  let v24 : Vec F S256x2048 .bf16 ← Prog.lift (.load arg19 (Rect.unit (s := S512x2048) ![0, 0] S256x2048.size inb_S512x2048_S256x2048_0_0).toLoadRect (View.loadsAt_vmem h_S256x2048))
  Prog.lift (.store arg19 (Rect.unit (s := S512x2048) ![0, 0] S256x2048.size inb_S512x2048_S256x2048_0_0) (k0_pay37 v8 v9) Finset.univ (View.stores_vmem h_S256x2048 (harg19.storeExact_slice rfl _ packedbf16_S512x2048_S256x2048_0_0) (fun _ => rfl)) (.inl rfl))
  let v27 : Vec F S256x2048 .bf16 ← Prog.lift (.load arg19 (Rect.unit (s := S512x2048) ![0, 0] S256x2048.size inb_S512x2048_S256x2048_0_0).toLoadRect (View.loadsAt_vmem h_S256x2048))
  let v28 : Vec F S2048x512 .bf16 ← Prog.lift (.load arg15 (Rect.unit (s := S2048x2048) ![0, 0] S2048x512.size inb_S2048x2048_S2048x512_0_0).toLoadRect (View.loadsAt_vmem h_S2048x512))
  let v5 : FVec F S1x2048 .f32 := k0_pay36 v4
  let v32 : FVec F S256x512 .bf16 := k0_pay38 v27 v28
  let v33 : Vec F S256x512 .bf16 ← Prog.lift (.load arg20 (Rect.unit (s := S512x2048) ![0, 0] S256x512.size inb_S512x2048_S256x512_0_0).toLoadRect (View.loadsAt_vmem h_S256x512))
  Prog.lift (.store arg20 (Rect.unit (s := S512x2048) ![0, 0] S256x512.size inb_S512x2048_S256x512_0_0) (k0_pay39 v32) Finset.univ (View.stores_vmem h_S256x512 (harg20.storeExact_slice rfl _ packedbf16_S512x2048_S256x512_0_0) (fun _ => rfl)) (.inl rfl))
  let v36 : Vec F S256x2048 .bf16 ← Prog.lift (.load arg19 (Rect.unit (s := S512x2048) ![0, 0] S256x2048.size inb_S512x2048_S256x2048_0_0).toLoadRect (View.loadsAt_vmem h_S256x2048))
  let v37 : Vec F S2048x512 .bf16 ← Prog.lift (.load arg15 (Rect.unit (s := S2048x2048) ![0, 512] S2048x512.size inb_S2048x2048_S2048x512_0_512).toLoadRect (View.loadsAt_vmem h_S2048x512))
  let v42 : Vec F S256x512 .bf16 ← Prog.lift (.load arg20 (Rect.unit (s := S512x2048) ![0, 512] S256x512.size inb_S512x2048_S256x512_0_512).toLoadRect (View.loadsAt_vmem h_S256x512))
  Prog.lift (.store arg20 (Rect.unit (s := S512x2048) ![0, 512] S256x512.size inb_S512x2048_S256x512_0_512) (k0_pay40 v36 v37) Finset.univ (View.stores_vmem h_S256x512 (harg20.storeExact_slice rfl _ packedbf16_S512x2048_S256x512_0_512) (fun _ => rfl)) (.inl rfl))
  let v45 : Vec F S256x2048 .bf16 ← Prog.lift (.load arg19 (Rect.unit (s := S512x2048) ![0, 0] S256x2048.size inb_S512x2048_S256x2048_0_0).toLoadRect (View.loadsAt_vmem h_S256x2048))
  let v46 : Vec F S2048x512 .bf16 ← Prog.lift (.load arg15 (Rect.unit (s := S2048x2048) ![0, 1024] S2048x512.size inb_S2048x2048_S2048x512_0_1024).toLoadRect (View.loadsAt_vmem h_S2048x512))
  let v51 : Vec F S256x512 .bf16 ← Prog.lift (.load arg20 (Rect.unit (s := S512x2048) ![0, 1024] S256x512.size inb_S512x2048_S256x512_0_1024).toLoadRect (View.loadsAt_vmem h_S256x512))
  Prog.lift (.store arg20 (Rect.unit (s := S512x2048) ![0, 1024] S256x512.size inb_S512x2048_S256x512_0_1024) (k0_pay41 v45 v46) Finset.univ (View.stores_vmem h_S256x512 (harg20.storeExact_slice rfl _ packedbf16_S512x2048_S256x512_0_1024) (fun _ => rfl)) (.inl rfl))
  let v54 : Vec F S256x2048 .bf16 ← Prog.lift (.load arg19 (Rect.unit (s := S512x2048) ![0, 0] S256x2048.size inb_S512x2048_S256x2048_0_0).toLoadRect (View.loadsAt_vmem h_S256x2048))
  let v55 : Vec F S2048x512 .bf16 ← Prog.lift (.load arg15 (Rect.unit (s := S2048x2048) ![0, 1536] S2048x512.size inb_S2048x2048_S2048x512_0_1536).toLoadRect (View.loadsAt_vmem h_S2048x512))
  let v60 : Vec F S256x512 .bf16 ← Prog.lift (.load arg20 (Rect.unit (s := S512x2048) ![0, 1536] S256x512.size inb_S512x2048_S256x512_0_1536).toLoadRect (View.loadsAt_vmem h_S256x512))
  Prog.lift (.store arg20 (Rect.unit (s := S512x2048) ![0, 1536] S256x512.size inb_S512x2048_S256x512_0_1536) (k0_pay42 v54 v55) Finset.univ (View.stores_vmem h_S256x512 (harg20.storeExact_slice rfl _ packedbf16_S512x2048_S256x512_0_1536) (fun _ => rfl)) (.inl rfl))
  let v63 : FVec F S512x2048 .f32 := k0_pay43 v3
  let v78 : Vec F S512x1024 .i32 ← Prog.lift (.load arg11 (Rect.unit (s := S512x1024) ![0, 0] S512x1024.size inb_S512x1024_S512x1024_0_0).toLoadRect (View.loadsAt_vmem h_S512x1024))
  Prog.lift (.store arg11 (Rect.unit (s := S512x1024) ![0, 0] S512x1024.size inb_S512x1024_S512x1024_0_0) (k0_pay45 v3 v5 v63) Finset.univ (View.stores_vmem_bits_univ h_S512x1024 rfl) (.inl rfl))
  let v80 : Vec F S2048x128 .bf16 ← Prog.lift (.load arg8 (Rect.unit (s := S2048x128) ![0, 0] S2048x128.size inb_S2048x128_S2048x128_0_0).toLoadRect (View.loadsAt_vmem h_S2048x128))
  let v83 : Vec F S1x128 .f32 ← Prog.lift (.load arg9 (Rect.unit (s := S1x128) ![0, 0] S1x128.size inb_S1x128_S1x128_0_0).toLoadRect (View.loadsAt_vmem h_S1x128))
  let v87 : Vec F S256x2048 .f32 ← Prog.lift (.load arg1 (Rect.unit (s := S512x2048) ![256, 0] S256x2048.size inb_S512x2048_S256x2048_256_0).toLoadRect (View.loadsAt_vmem h_S256x2048))
  let v88 : Vec F S1x2048 .f32 ← Prog.lift (.load arg2 (Rect.unit (s := S1x2048) ![0, 0] S1x2048.size inb_S1x2048_S1x2048_0_0).toLoadRect (View.loadsAt_vmem h_S1x2048))
  let v103 : Vec F S256x2048 .bf16 ← Prog.lift (.load arg19 (Rect.unit (s := S512x2048) ![256, 0] S256x2048.size inb_S512x2048_S256x2048_256_0).toLoadRect (View.loadsAt_vmem h_S256x2048))
  let v86 : FVec F S512x128 .f32 := k0_pay46 v3 v5 v63 v80 v83
  let v102 : FVec F S256x2048 .bf16 := k0_pay47 v87 v88
  Prog.lift (.store arg19 (Rect.unit (s := S512x2048) ![256, 0] S256x2048.size inb_S512x2048_S256x2048_256_0) (k0_pay48 v102) Finset.univ (View.stores_vmem h_S256x2048 (harg19.storeExact_slice rfl _ packedbf16_S512x2048_S256x2048_256_0) (fun _ => rfl)) (.inl rfl))
  let v106 : Vec F S256x512 .bf16 ← Prog.lift (.load arg20 (Rect.unit (s := S512x2048) ![0, 0] S256x512.size inb_S512x2048_S256x512_0_0).toLoadRect (View.loadsAt_vmem h_S256x512))
  let v107 : Vec F S1x256x512 .bf16 ← Prog.lift (.load arg4 (Rect.unit (s := S1x256x2048) ![0, 0, 0] S1x256x512.size inb_S1x256x2048_S1x256x512_0_0_0).toLoadRect (View.loadsAt_vmem h_S1x256x512))
  let v110 : Vec F S256x512 .bf16 ← Prog.lift (.load arg20 (Rect.unit (s := S512x2048) ![0, 512] S256x512.size inb_S512x2048_S256x512_0_512).toLoadRect (View.loadsAt_vmem h_S256x512))
  let v111 : Vec F S1x256x512 .bf16 ← Prog.lift (.load arg4 (Rect.unit (s := S1x256x2048) ![0, 0, 512] S1x256x512.size inb_S1x256x2048_S1x256x512_0_0_512).toLoadRect (View.loadsAt_vmem h_S1x256x512))
  let v114 : Vec F S256x512 .bf16 ← Prog.lift (.load arg20 (Rect.unit (s := S512x2048) ![0, 1024] S256x512.size inb_S512x2048_S256x512_0_1024).toLoadRect (View.loadsAt_vmem h_S256x512))
  let v115 : Vec F S1x256x512 .bf16 ← Prog.lift (.load arg4 (Rect.unit (s := S1x256x2048) ![0, 0, 1024] S1x256x512.size inb_S1x256x2048_S1x256x512_0_0_1024).toLoadRect (View.loadsAt_vmem h_S1x256x512))
  let v118 : Vec F S256x512 .bf16 ← Prog.lift (.load arg20 (Rect.unit (s := S512x2048) ![0, 1536] S256x512.size inb_S512x2048_S256x512_0_1536).toLoadRect (View.loadsAt_vmem h_S256x512))
  let v119 : Vec F S1x256x512 .bf16 ← Prog.lift (.load arg4 (Rect.unit (s := S1x256x2048) ![0, 0, 1536] S1x256x512.size inb_S1x256x2048_S1x256x512_0_0_1536).toLoadRect (View.loadsAt_vmem h_S1x256x512))
  let v122 : Vec F S256x2048 .bf16 ← Prog.lift (.load arg19 (Rect.unit (s := S512x2048) ![256, 0] S256x2048.size inb_S512x2048_S256x2048_256_0).toLoadRect (View.loadsAt_vmem h_S256x2048))
  let v123 : Vec F S2048x512 .bf16 ← Prog.lift (.load arg15 (Rect.unit (s := S2048x2048) ![0, 0] S2048x512.size inb_S2048x2048_S2048x512_0_0).toLoadRect (View.loadsAt_vmem h_S2048x512))
  let v128 : Vec F S256x512 .bf16 ← Prog.lift (.load arg20 (Rect.unit (s := S512x2048) ![256, 0] S256x512.size inb_S512x2048_S256x512_256_0).toLoadRect (View.loadsAt_vmem h_S256x512))
  let v109 : FVec F S256x256 .f32 := k0_pay49 v106 v107
  let v113 : FVec F S256x256 .f32 := k0_pay50 v110 v111
  let v117 : FVec F S256x256 .f32 := k0_pay51 v114 v115
  let v121 : FVec F S256x256 .f32 := k0_pay52 v118 v119
  let v130 : FVec F S256x512 .bf16 := k0_pay53 v122 v123
  Prog.lift (.store arg20 (Rect.unit (s := S512x2048) ![256, 0] S256x512.size inb_S512x2048_S256x512_256_0) v130 Finset.univ (View.stores_vmem h_S256x512 (harg20.storeExact_slice rfl _ packedbf16_S512x2048_S256x512_256_0) (fun _ => rfl)) (.inl rfl))
  let v131 : Vec F S256x2048 .bf16 ← Prog.lift (.load arg19 (Rect.unit (s := S512x2048) ![256, 0] S256x2048.size inb_S512x2048_S256x2048_256_0).toLoadRect (View.loadsAt_vmem h_S256x2048))
  let v132 : Vec F S2048x512 .bf16 ← Prog.lift (.load arg15 (Rect.unit (s := S2048x2048) ![0, 512] S2048x512.size inb_S2048x2048_S2048x512_0_512).toLoadRect (View.loadsAt_vmem h_S2048x512))
  let v137 : Vec F S256x512 .bf16 ← Prog.lift (.load arg20 (Rect.unit (s := S512x2048) ![256, 512] S256x512.size inb_S512x2048_S256x512_256_512).toLoadRect (View.loadsAt_vmem h_S256x512))
  Prog.lift (.store arg20 (Rect.unit (s := S512x2048) ![256, 512] S256x512.size inb_S512x2048_S256x512_256_512) (k0_pay54 v131 v132) Finset.univ (View.stores_vmem h_S256x512 (harg20.storeExact_slice rfl _ packedbf16_S512x2048_S256x512_256_512) (fun _ => rfl)) (.inl rfl))
  let v140 : Vec F S256x2048 .bf16 ← Prog.lift (.load arg19 (Rect.unit (s := S512x2048) ![256, 0] S256x2048.size inb_S512x2048_S256x2048_256_0).toLoadRect (View.loadsAt_vmem h_S256x2048))
  let v141 : Vec F S2048x512 .bf16 ← Prog.lift (.load arg15 (Rect.unit (s := S2048x2048) ![0, 1024] S2048x512.size inb_S2048x2048_S2048x512_0_1024).toLoadRect (View.loadsAt_vmem h_S2048x512))
  let v146 : Vec F S256x512 .bf16 ← Prog.lift (.load arg20 (Rect.unit (s := S512x2048) ![256, 1024] S256x512.size inb_S512x2048_S256x512_256_1024).toLoadRect (View.loadsAt_vmem h_S256x512))
  Prog.lift (.store arg20 (Rect.unit (s := S512x2048) ![256, 1024] S256x512.size inb_S512x2048_S256x512_256_1024) (k0_pay55 v140 v141) Finset.univ (View.stores_vmem h_S256x512 (harg20.storeExact_slice rfl _ packedbf16_S512x2048_S256x512_256_1024) (fun _ => rfl)) (.inl rfl))
  let v149 : Vec F S256x2048 .bf16 ← Prog.lift (.load arg19 (Rect.unit (s := S512x2048) ![256, 0] S256x2048.size inb_S512x2048_S256x2048_256_0).toLoadRect (View.loadsAt_vmem h_S256x2048))
  let v150 : Vec F S2048x512 .bf16 ← Prog.lift (.load arg15 (Rect.unit (s := S2048x2048) ![0, 1536] S2048x512.size inb_S2048x2048_S2048x512_0_1536).toLoadRect (View.loadsAt_vmem h_S2048x512))
  let v155 : Vec F S256x512 .bf16 ← Prog.lift (.load arg20 (Rect.unit (s := S512x2048) ![256, 1536] S256x512.size inb_S512x2048_S256x512_256_1536).toLoadRect (View.loadsAt_vmem h_S256x512))
  Prog.lift (.store arg20 (Rect.unit (s := S512x2048) ![256, 1536] S256x512.size inb_S512x2048_S256x512_256_1536) (k0_pay56 v149 v150) Finset.univ (View.stores_vmem h_S256x512 (harg20.storeExact_slice rfl _ packedbf16_S512x2048_S256x512_256_1536) (fun _ => rfl)) (.inl rfl))
  let v159 : FVec F S512x128 .f32 := k0_pay57 (F := F)
  let v161 : IVec S512x128 1 := k0_pay58 (F := F)
  let v180 : FVec F S512x1 .f32 := k0_pay61 v86 v161
  let v195 : FVec F S512x1 .f32 := k0_pay63 v86 v159 v161
  let v201 : FVec F S512x1 .f32 := k0_pay64 v86 v159 v161
  let v205 : FVec F S512x128 .f32 := k0_pay65 v86 v159 v161
  let v234 : Vec F S512x128 .f32 ← Prog.lift (.load arg12 (Rect.unit (s := S512x128) ![0, 0] S512x128.size inb_S512x128_S512x128_0_0).toLoadRect (View.loadsAt_vmem h_S512x128))
  Prog.lift (.store arg12 (Rect.unit (s := S512x128) ![0, 0] S512x128.size inb_S512x128_S512x128_0_0) (k0_pay67 v159 v180 v195 v205) Finset.univ (View.stores_vmem_bits_univ h_S512x128 rfl) (.inl rfl))
  have cst_146 : F .f32 := Scalar.ofBits .f32 0x3F800000#32
  let v238 : IVec S512x128 1 := k0_pay68 v159 v201
  let v242 : IVec S512x128 1 := k0_pay69 v159 v205
  let v246 : FVec F S512x128 .f32 := k0_pay70 v159 v201 v205
  let v247 : FVec F S512x128 .bf16 := k0_pay71 v159 v201 v205
  let v250 : IVec S512x512 1 := k0_pay72
  let v255 : FVec F S512x128 .f32 := k0_pay73 v247 v250 cst_146
  let v265 : FVec F S1x128 .f32 := k0_pay74 v247
  let v271 : FVec F S256x256 .bf16 := k0_pay76 v109
  let v273 : FVec F S256x1 .f32 := k0_pay77 v109
  let v279 : FVec F S256x256 .bf16 := k0_pay79 v113
  let v281 : FVec F S256x1 .f32 := k0_pay80 v113
  let v287 : FVec F S256x256 .bf16 := k0_pay82 v117
  let v289 : FVec F S256x1 .f32 := k0_pay83 v117
  let v295 : FVec F S256x256 .bf16 := k0_pay85 v121
  let v296 : FVec F S256 .f32 := k0_pay86 v121
  let v298 : Vec F S1x256x512 .bf16 ← Prog.lift (.load arg5 (Rect.unit (s := S1x256x2048) ![0, 0, 0] S1x256x512.size inb_S1x256x2048_S1x256x512_0_0_0).toLoadRect (View.loadsAt_vmem h_S1x256x512))
  let v304 : Vec F S256x512 .bf16 ← Prog.lift (.load arg21 (Rect.unit (s := S512x2048) ![0, 0] S256x512.size inb_S512x2048_S256x512_0_0).toLoadRect (View.loadsAt_vmem h_S256x512))
  Prog.lift (.store arg21 (Rect.unit (s := S512x2048) ![0, 0] S256x512.size inb_S512x2048_S256x512_0_0) (k0_pay87 v271 v273 v298) Finset.univ (View.stores_vmem h_S256x512 (harg21.storeExact_slice rfl _ packedbf16_S512x2048_S256x512_0_0) (fun _ => rfl)) (.inl rfl))
  let v307 : Vec F S1x256x512 .bf16 ← Prog.lift (.load arg5 (Rect.unit (s := S1x256x2048) ![0, 0, 512] S1x256x512.size inb_S1x256x2048_S1x256x512_0_0_512).toLoadRect (View.loadsAt_vmem h_S1x256x512))
  let v313 : Vec F S256x512 .bf16 ← Prog.lift (.load arg21 (Rect.unit (s := S512x2048) ![0, 512] S256x512.size inb_S512x2048_S256x512_0_512).toLoadRect (View.loadsAt_vmem h_S256x512))
  Prog.lift (.store arg21 (Rect.unit (s := S512x2048) ![0, 512] S256x512.size inb_S512x2048_S256x512_0_512) (k0_pay88 v279 v281 v307) Finset.univ (View.stores_vmem h_S256x512 (harg21.storeExact_slice rfl _ packedbf16_S512x2048_S256x512_0_512) (fun _ => rfl)) (.inl rfl))
  let v316 : Vec F S1x256x512 .bf16 ← Prog.lift (.load arg5 (Rect.unit (s := S1x256x2048) ![0, 0, 1024] S1x256x512.size inb_S1x256x2048_S1x256x512_0_0_1024).toLoadRect (View.loadsAt_vmem h_S1x256x512))
  let v322 : Vec F S256x512 .bf16 ← Prog.lift (.load arg21 (Rect.unit (s := S512x2048) ![0, 1024] S256x512.size inb_S512x2048_S256x512_0_1024).toLoadRect (View.loadsAt_vmem h_S256x512))
  Prog.lift (.store arg21 (Rect.unit (s := S512x2048) ![0, 1024] S256x512.size inb_S512x2048_S256x512_0_1024) (k0_pay89 v287 v289 v316) Finset.univ (View.stores_vmem h_S256x512 (harg21.storeExact_slice rfl _ packedbf16_S512x2048_S256x512_0_1024) (fun _ => rfl)) (.inl rfl))
  let v325 : Vec F S1x256x512 .bf16 ← Prog.lift (.load arg5 (Rect.unit (s := S1x256x2048) ![0, 0, 1536] S1x256x512.size inb_S1x256x2048_S1x256x512_0_0_1536).toLoadRect (View.loadsAt_vmem h_S1x256x512))
  let v330 : FVec F S256x512 .bf16 := k0_pay90 v295 v296 v325
  let v331 : Vec F S256x512 .bf16 ← Prog.lift (.load arg21 (Rect.unit (s := S512x2048) ![0, 1536] S256x512.size inb_S512x2048_S256x512_0_1536).toLoadRect (View.loadsAt_vmem h_S256x512))
  Prog.lift (.store arg21 (Rect.unit (s := S512x2048) ![0, 1536] S256x512.size inb_S512x2048_S256x512_0_1536) (k0_pay91 v330) Finset.univ (View.stores_vmem h_S256x512 (harg21.storeExact_slice rfl _ packedbf16_S512x2048_S256x512_0_1536) (fun _ => rfl)) (.inl rfl))
  let v334 : Vec F S256x512 .bf16 ← Prog.lift (.load arg20 (Rect.unit (s := S512x2048) ![256, 0] S256x512.size inb_S512x2048_S256x512_256_0).toLoadRect (View.loadsAt_vmem h_S256x512))
  let v335 : Vec F S1x256x512 .bf16 ← Prog.lift (.load arg4 (Rect.unit (s := S1x256x2048) ![0, 0, 0] S1x256x512.size inb_S1x256x2048_S1x256x512_0_0_0).toLoadRect (View.loadsAt_vmem h_S1x256x512))
  let v338 : Vec F S256x512 .bf16 ← Prog.lift (.load arg20 (Rect.unit (s := S512x2048) ![256, 512] S256x512.size inb_S512x2048_S256x512_256_512).toLoadRect (View.loadsAt_vmem h_S256x512))
  let v339 : Vec F S1x256x512 .bf16 ← Prog.lift (.load arg4 (Rect.unit (s := S1x256x2048) ![0, 0, 512] S1x256x512.size inb_S1x256x2048_S1x256x512_0_0_512).toLoadRect (View.loadsAt_vmem h_S1x256x512))
  let v342 : Vec F S256x512 .bf16 ← Prog.lift (.load arg20 (Rect.unit (s := S512x2048) ![256, 1024] S256x512.size inb_S512x2048_S256x512_256_1024).toLoadRect (View.loadsAt_vmem h_S256x512))
  let v343 : Vec F S1x256x512 .bf16 ← Prog.lift (.load arg4 (Rect.unit (s := S1x256x2048) ![0, 0, 1024] S1x256x512.size inb_S1x256x2048_S1x256x512_0_0_1024).toLoadRect (View.loadsAt_vmem h_S1x256x512))
  let v346 : Vec F S256x512 .bf16 ← Prog.lift (.load arg20 (Rect.unit (s := S512x2048) ![256, 1536] S256x512.size inb_S512x2048_S256x512_256_1536).toLoadRect (View.loadsAt_vmem h_S256x512))
  let v347 : Vec F S1x256x512 .bf16 ← Prog.lift (.load arg4 (Rect.unit (s := S1x256x2048) ![0, 0, 1536] S1x256x512.size inb_S1x256x2048_S1x256x512_0_0_1536).toLoadRect (View.loadsAt_vmem h_S1x256x512))
  let v350 : Vec F S256x512 .f32 ← Prog.lift (.load arg1 (Rect.unit (s := S512x2048) ![0, 0] S256x512.size inb_S512x2048_S256x512_0_0).toLoadRect (View.loadsAt_vmem h_S256x512))
  let v351 : Vec F S256x2048 .bf16 ← Prog.lift (.load arg21 (Rect.unit (s := S512x2048) ![0, 0] S256x2048.size inb_S512x2048_S256x2048_0_0).toLoadRect (View.loadsAt_vmem h_S256x2048))
  let v352 : Vec F S2048x512 .bf16 ← Prog.lift (.load arg16 (Rect.unit (s := S2048x2048) ![0, 0] S2048x512.size inb_S2048x2048_S2048x512_0_0).toLoadRect (View.loadsAt_vmem h_S2048x512))
  let v355 : Vec F S256x512 .f32 ← Prog.lift (.load arg10 (Rect.unit (s := S512x2048) ![0, 0] S256x512.size inb_S512x2048_S256x512_0_0).toLoadRect (View.loadsAt_vmem h_S256x512))
  let v337 : FVec F S256x256 .f32 := k0_pay92 v334 v335
  let v341 : FVec F S256x256 .f32 := k0_pay93 v338 v339
  let v345 : FVec F S256x256 .f32 := k0_pay94 v342 v343
  let v349 : FVec F S256x256 .f32 := k0_pay95 v346 v347
  let v354 : FVec F S256x512 .f32 := k0_pay96 v350 v351 v352
  Prog.lift (.store arg10 (Rect.unit (s := S512x2048) ![0, 0] S256x512.size inb_S512x2048_S256x512_0_0) v354 Finset.univ (View.stores_vmem_bits_univ h_S256x512 rfl) (.inl rfl))
  let v356 : Vec F S256x512 .f32 ← Prog.lift (.load arg22 (Rect.unit (s := S512x2048) ![0, 0] S256x512.size inb_S512x2048_S256x512_0_0).toLoadRect (View.loadsAt_vmem h_S256x512))
  Prog.lift (.store arg22 (Rect.unit (s := S512x2048) ![0, 0] S256x512.size inb_S512x2048_S256x512_0_0) (k0_pay97 v354) Finset.univ (View.stores_vmem_bits_univ h_S256x512 rfl) (.inl rfl))
  let v359 : Vec F S256x512 .f32 ← Prog.lift (.load arg1 (Rect.unit (s := S512x2048) ![0, 512] S256x512.size inb_S512x2048_S256x512_0_512).toLoadRect (View.loadsAt_vmem h_S256x512))
  let v360 : Vec F S256x2048 .bf16 ← Prog.lift (.load arg21 (Rect.unit (s := S512x2048) ![0, 0] S256x2048.size inb_S512x2048_S256x2048_0_0).toLoadRect (View.loadsAt_vmem h_S256x2048))
  let v361 : Vec F S2048x512 .bf16 ← Prog.lift (.load arg16 (Rect.unit (s := S2048x2048) ![0, 512] S2048x512.size inb_S2048x2048_S2048x512_0_512).toLoadRect (View.loadsAt_vmem h_S2048x512))
  let v364 : Vec F S256x512 .f32 ← Prog.lift (.load arg10 (Rect.unit (s := S512x2048) ![0, 512] S256x512.size inb_S512x2048_S256x512_0_512).toLoadRect (View.loadsAt_vmem h_S256x512))
  Prog.lift (.store arg10 (Rect.unit (s := S512x2048) ![0, 512] S256x512.size inb_S512x2048_S256x512_0_512) (k0_pay98 v359 v360 v361) Finset.univ (View.stores_vmem_bits_univ h_S256x512 rfl) (.inl rfl))
  let v365 : Vec F S256x512 .f32 ← Prog.lift (.load arg22 (Rect.unit (s := S512x2048) ![0, 512] S256x512.size inb_S512x2048_S256x512_0_512).toLoadRect (View.loadsAt_vmem h_S256x512))
  Prog.lift (.store arg22 (Rect.unit (s := S512x2048) ![0, 512] S256x512.size inb_S512x2048_S256x512_0_512) (k0_pay99 v359 v360 v361) Finset.univ (View.stores_vmem_bits_univ h_S256x512 rfl) (.inl rfl))
  let v368 : Vec F S256x512 .f32 ← Prog.lift (.load arg1 (Rect.unit (s := S512x2048) ![0, 1024] S256x512.size inb_S512x2048_S256x512_0_1024).toLoadRect (View.loadsAt_vmem h_S256x512))
  let v369 : Vec F S256x2048 .bf16 ← Prog.lift (.load arg21 (Rect.unit (s := S512x2048) ![0, 0] S256x2048.size inb_S512x2048_S256x2048_0_0).toLoadRect (View.loadsAt_vmem h_S256x2048))
  let v370 : Vec F S2048x512 .bf16 ← Prog.lift (.load arg16 (Rect.unit (s := S2048x2048) ![0, 1024] S2048x512.size inb_S2048x2048_S2048x512_0_1024).toLoadRect (View.loadsAt_vmem h_S2048x512))
  let v373 : Vec F S256x512 .f32 ← Prog.lift (.load arg10 (Rect.unit (s := S512x2048) ![0, 1024] S256x512.size inb_S512x2048_S256x512_0_1024).toLoadRect (View.loadsAt_vmem h_S256x512))
  Prog.lift (.store arg10 (Rect.unit (s := S512x2048) ![0, 1024] S256x512.size inb_S512x2048_S256x512_0_1024) (k0_pay100 v368 v369 v370) Finset.univ (View.stores_vmem_bits_univ h_S256x512 rfl) (.inl rfl))
  let v374 : Vec F S256x512 .f32 ← Prog.lift (.load arg22 (Rect.unit (s := S512x2048) ![0, 1024] S256x512.size inb_S512x2048_S256x512_0_1024).toLoadRect (View.loadsAt_vmem h_S256x512))
  Prog.lift (.store arg22 (Rect.unit (s := S512x2048) ![0, 1024] S256x512.size inb_S512x2048_S256x512_0_1024) (k0_pay101 v368 v369 v370) Finset.univ (View.stores_vmem_bits_univ h_S256x512 rfl) (.inl rfl))
  let v377 : Vec F S256x512 .f32 ← Prog.lift (.load arg1 (Rect.unit (s := S512x2048) ![0, 1536] S256x512.size inb_S512x2048_S256x512_0_1536).toLoadRect (View.loadsAt_vmem h_S256x512))
  let v378 : Vec F S256x2048 .bf16 ← Prog.lift (.load arg21 (Rect.unit (s := S512x2048) ![0, 0] S256x2048.size inb_S512x2048_S256x2048_0_0).toLoadRect (View.loadsAt_vmem h_S256x2048))
  let v379 : Vec F S2048x512 .bf16 ← Prog.lift (.load arg16 (Rect.unit (s := S2048x2048) ![0, 1536] S2048x512.size inb_S2048x2048_S2048x512_0_1536).toLoadRect (View.loadsAt_vmem h_S2048x512))
  let v382 : Vec F S256x512 .f32 ← Prog.lift (.load arg10 (Rect.unit (s := S512x2048) ![0, 1536] S256x512.size inb_S512x2048_S256x512_0_1536).toLoadRect (View.loadsAt_vmem h_S256x512))
  Prog.lift (.store arg10 (Rect.unit (s := S512x2048) ![0, 1536] S256x512.size inb_S512x2048_S256x512_0_1536) (k0_pay102 v377 v378 v379) Finset.univ (View.stores_vmem_bits_univ h_S256x512 rfl) (.inl rfl))
  let v383 : Vec F S256x512 .f32 ← Prog.lift (.load arg22 (Rect.unit (s := S512x2048) ![0, 1536] S256x512.size inb_S512x2048_S256x512_0_1536).toLoadRect (View.loadsAt_vmem h_S256x512))
  Prog.lift (.store arg22 (Rect.unit (s := S512x2048) ![0, 1536] S256x512.size inb_S512x2048_S256x512_0_1536) (k0_pay103 v377 v378 v379) Finset.univ (View.stores_vmem_bits_univ h_S256x512 rfl) (.inl rfl))
  have v396 : IVec S512x1 32 := iota .tc S512x1 32 [0] iota_S512x1_d0_w32
  let v395 : FVec F S512x1 .f32 := k0_pay106 v242 v255 v265
  let v404 : FVec F S512x128 .f32 := k0_pay108 v159 v238 v255 v265
  let v413 : FVec F S512x128 .bf16 := k0_pay109 v159 v238 v255 v265
  let v415 : IVec S512x1 32 := k0_pay110
  let c32_i32 : BitVec 32 := 32#32
  let v417 : IVec S512x1 32 := k0_pay111
  let v419 : IVec S512x1 1 := k0_pay112
  have cst_278 : F .f32 := Scalar.ofBits .f32 0x42000000#32
  let v460 : FVec F S128x128 .f32 := k0_pay113 v404 v413 v415 c32_i32 v417 v419
  let v465 : FVec F S128x128 .f32 := k0_pay114 v404 v413 v415
  let v509 : BitVec 1 := Scalar.cmpi .eq 32#32 0#32
  let v473 : FVec F S512x128 .f32 := k0_pay116 v159 v395 cst_278
  let v482 : FVec F S512x128 .bf16 := k0_pay117 v159 v395 cst_278
  let v484 : IVec S512x1 32 := k0_pay118 v396
  let v508 : IVec S512x1 32 := k0_pay119 v396
  let c32_i32_291 : BitVec 32 := 32#32
  let c1_i32_293 : BitVec 32 := 1#32
  let v540 : IVec S128x128 32 := k0_pay120 v460 v465 v473 v482 v484 v508 c32_i32_291 v509 c1_i32_293
  let v542 : IVec S128x128 32 := k0_pay121 v460 v465 v473 v482 v484 v508 c32_i32_291 v509 c1_i32_293
  let v556 : IVec S128x128 1 := k0_pay122 v460 v465 v473 v482 v484 v508 c32_i32_291 v509 c1_i32_293
  let v558 : IVec S128x128 32 := k0_pay123 v460 v465 v473 v482 v484 v508 c32_i32_291 v509 c1_i32_293
  let v588 : Vec F S1x32x128 .i32 ← Prog.lift (.load arg13 (Rect.unit (s := S1x32x128) ![0, 0, 0] S1x32x128.size inb_S1x32x128_S1x32x128_0_0_0).toLoadRect (View.loadsAt_vmem h_S1x32x128))
  Prog.lift (.store arg13 (Rect.unit (s := S1x32x128) ![0, 0, 0] S1x32x128.size inb_S1x32x128_S1x32x128_0_0_0) (k0_pay124 v7 v540 v542 v556 v558) Finset.univ (View.stores_vmem_bits_univ h_S1x32x128 rfl) (.inl rfl))
  let v596 : Vec F S1x8x128 .i32 ← Prog.lift (.load arg14 (Rect.unit (s := S1x8x128) ![0, 0, 0] S1x8x128.size inb_S1x8x128_S1x8x128_0_0_0).toLoadRect (View.loadsAt_vmem h_S1x8x128))
  Prog.lift (.store arg14 (Rect.unit (s := S1x8x128) ![0, 0, 0] S1x8x128.size inb_S1x8x128_S1x8x128_0_0_0) (k0_pay125 v246) Finset.univ (View.stores_vmem_bits_univ h_S1x8x128 rfl) (.inl rfl))
  let v631 : Vec F S1x256x512 .bf16 ← Prog.lift (.load arg5 (Rect.unit (s := S1x256x2048) ![0, 0, 0] S1x256x512.size inb_S1x256x2048_S1x256x512_0_0_0).toLoadRect (View.loadsAt_vmem h_S1x256x512))
  let v637 : Vec F S256x512 .bf16 ← Prog.lift (.load arg21 (Rect.unit (s := S512x2048) ![256, 0] S256x512.size inb_S512x2048_S256x512_256_0).toLoadRect (View.loadsAt_vmem h_S256x512))
  Prog.lift (.store arg21 (Rect.unit (s := S512x2048) ![256, 0] S256x512.size inb_S512x2048_S256x512_256_0) (k0_pay135 v337 v631) Finset.univ (View.stores_vmem h_S256x512 (harg21.storeExact_slice rfl _ packedbf16_S512x2048_S256x512_256_0) (fun _ => rfl)) (.inl rfl))
  let v640 : Vec F S1x256x512 .bf16 ← Prog.lift (.load arg5 (Rect.unit (s := S1x256x2048) ![0, 0, 512] S1x256x512.size inb_S1x256x2048_S1x256x512_0_0_512).toLoadRect (View.loadsAt_vmem h_S1x256x512))
  let v612 : FVec F S256x256 .bf16 := k0_pay127 v341
  let v614 : FVec F S256x1 .f32 := k0_pay128 v341
  let v620 : FVec F S256x256 .bf16 := k0_pay130 v345
  let v622 : FVec F S256x1 .f32 := k0_pay131 v345
  let v628 : FVec F S256x256 .bf16 := k0_pay133 v349
  let v630 : FVec F S256x1 .f32 := k0_pay134 v349
  let v641 : FVec F S256x512 .bf16 := k0_pay136 v640
  let v646 : Vec F S256x512 .bf16 ← Prog.lift (.load arg21 (Rect.unit (s := S512x2048) ![256, 512] S256x512.size inb_S512x2048_S256x512_256_512).toLoadRect (View.loadsAt_vmem h_S256x512))
  Prog.lift (.store arg21 (Rect.unit (s := S512x2048) ![256, 512] S256x512.size inb_S512x2048_S256x512_256_512) (k0_pay137 v612 v614 v641) Finset.univ (View.stores_vmem h_S256x512 (harg21.storeExact_slice rfl _ packedbf16_S512x2048_S256x512_256_512) (fun _ => rfl)) (.inl rfl))
  let v649 : Vec F S1x256x512 .bf16 ← Prog.lift (.load arg5 (Rect.unit (s := S1x256x2048) ![0, 0, 1024] S1x256x512.size inb_S1x256x2048_S1x256x512_0_0_1024).toLoadRect (View.loadsAt_vmem h_S1x256x512))
  let v655 : Vec F S256x512 .bf16 ← Prog.lift (.load arg21 (Rect.unit (s := S512x2048) ![256, 1024] S256x512.size inb_S512x2048_S256x512_256_1024).toLoadRect (View.loadsAt_vmem h_S256x512))
  Prog.lift (.store arg21 (Rect.unit (s := S512x2048) ![256, 1024] S256x512.size inb_S512x2048_S256x512_256_1024) (k0_pay138 v620 v622 v649) Finset.univ (View.stores_vmem h_S256x512 (harg21.storeExact_slice rfl _ packedbf16_S512x2048_S256x512_256_1024) (fun _ => rfl)) (.inl rfl))
  let v658 : Vec F S1x256x512 .bf16 ← Prog.lift (.load arg5 (Rect.unit (s := S1x256x2048) ![0, 0, 1536] S1x256x512.size inb_S1x256x2048_S1x256x512_0_0_1536).toLoadRect (View.loadsAt_vmem h_S1x256x512))
  let v664 : Vec F S256x512 .bf16 ← Prog.lift (.load arg21 (Rect.unit (s := S512x2048) ![256, 1536] S256x512.size inb_S512x2048_S256x512_256_1536).toLoadRect (View.loadsAt_vmem h_S256x512))
  Prog.lift (.store arg21 (Rect.unit (s := S512x2048) ![256, 1536] S256x512.size inb_S512x2048_S256x512_256_1536) (k0_pay139 v628 v630 v658) Finset.univ (View.stores_vmem h_S256x512 (harg21.storeExact_slice rfl _ packedbf16_S512x2048_S256x512_256_1536) (fun _ => rfl)) (.inl rfl))
  let v667 : Vec F S256x512 .f32 ← Prog.lift (.load arg1 (Rect.unit (s := S512x2048) ![256, 0] S256x512.size inb_S512x2048_S256x512_256_0).toLoadRect (View.loadsAt_vmem h_S256x512))
  let v668 : Vec F S256x2048 .bf16 ← Prog.lift (.load arg21 (Rect.unit (s := S512x2048) ![256, 0] S256x2048.size inb_S512x2048_S256x2048_256_0).toLoadRect (View.loadsAt_vmem h_S256x2048))
  let v669 : Vec F S2048x512 .bf16 ← Prog.lift (.load arg16 (Rect.unit (s := S2048x2048) ![0, 0] S2048x512.size inb_S2048x2048_S2048x512_0_0).toLoadRect (View.loadsAt_vmem h_S2048x512))
  let v672 : Vec F S256x512 .f32 ← Prog.lift (.load arg10 (Rect.unit (s := S512x2048) ![256, 0] S256x512.size inb_S512x2048_S256x512_256_0).toLoadRect (View.loadsAt_vmem h_S256x512))
  Prog.lift (.store arg10 (Rect.unit (s := S512x2048) ![256, 0] S256x512.size inb_S512x2048_S256x512_256_0) (k0_pay140 v667 v668 v669) Finset.univ (View.stores_vmem_bits_univ h_S256x512 rfl) (.inl rfl))
  let v671 : FVec F S256x512 .f32 := k0_pay140 v667 v668 v669
  let v673 : Vec F S256x512 .f32 ← Prog.lift (.load arg22 (Rect.unit (s := S512x2048) ![256, 0] S256x512.size inb_S512x2048_S256x512_256_0).toLoadRect (View.loadsAt_vmem h_S256x512))
  Prog.lift (.store arg22 (Rect.unit (s := S512x2048) ![256, 0] S256x512.size inb_S512x2048_S256x512_256_0) (k0_pay141 v671) Finset.univ (View.stores_vmem_bits_univ h_S256x512 rfl) (.inl rfl))
  let v676 : Vec F S256x512 .f32 ← Prog.lift (.load arg1 (Rect.unit (s := S512x2048) ![256, 512] S256x512.size inb_S512x2048_S256x512_256_512).toLoadRect (View.loadsAt_vmem h_S256x512))
  let v677 : Vec F S256x2048 .bf16 ← Prog.lift (.load arg21 (Rect.unit (s := S512x2048) ![256, 0] S256x2048.size inb_S512x2048_S256x2048_256_0).toLoadRect (View.loadsAt_vmem h_S256x2048))
  let v678 : Vec F S2048x512 .bf16 ← Prog.lift (.load arg16 (Rect.unit (s := S2048x2048) ![0, 512] S2048x512.size inb_S2048x2048_S2048x512_0_512).toLoadRect (View.loadsAt_vmem h_S2048x512))
  let v681 : Vec F S256x512 .f32 ← Prog.lift (.load arg10 (Rect.unit (s := S512x2048) ![256, 512] S256x512.size inb_S512x2048_S256x512_256_512).toLoadRect (View.loadsAt_vmem h_S256x512))
  Prog.lift (.store arg10 (Rect.unit (s := S512x2048) ![256, 512] S256x512.size inb_S512x2048_S256x512_256_512) (k0_pay142 v676 v677 v678) Finset.univ (View.stores_vmem_bits_univ h_S256x512 rfl) (.inl rfl))
  let v682 : Vec F S256x512 .f32 ← Prog.lift (.load arg22 (Rect.unit (s := S512x2048) ![256, 512] S256x512.size inb_S512x2048_S256x512_256_512).toLoadRect (View.loadsAt_vmem h_S256x512))
  Prog.lift (.store arg22 (Rect.unit (s := S512x2048) ![256, 512] S256x512.size inb_S512x2048_S256x512_256_512) (k0_pay143 v676 v677 v678) Finset.univ (View.stores_vmem_bits_univ h_S256x512 rfl) (.inl rfl))
  let v685 : Vec F S256x512 .f32 ← Prog.lift (.load arg1 (Rect.unit (s := S512x2048) ![256, 1024] S256x512.size inb_S512x2048_S256x512_256_1024).toLoadRect (View.loadsAt_vmem h_S256x512))
  let v686 : Vec F S256x2048 .bf16 ← Prog.lift (.load arg21 (Rect.unit (s := S512x2048) ![256, 0] S256x2048.size inb_S512x2048_S256x2048_256_0).toLoadRect (View.loadsAt_vmem h_S256x2048))
  let v687 : Vec F S2048x512 .bf16 ← Prog.lift (.load arg16 (Rect.unit (s := S2048x2048) ![0, 1024] S2048x512.size inb_S2048x2048_S2048x512_0_1024).toLoadRect (View.loadsAt_vmem h_S2048x512))
  let v690 : Vec F S256x512 .f32 ← Prog.lift (.load arg10 (Rect.unit (s := S512x2048) ![256, 1024] S256x512.size inb_S512x2048_S256x512_256_1024).toLoadRect (View.loadsAt_vmem h_S256x512))
  Prog.lift (.store arg10 (Rect.unit (s := S512x2048) ![256, 1024] S256x512.size inb_S512x2048_S256x512_256_1024) (k0_pay144 v685 v686 v687) Finset.univ (View.stores_vmem_bits_univ h_S256x512 rfl) (.inl rfl))
  let v691 : Vec F S256x512 .f32 ← Prog.lift (.load arg22 (Rect.unit (s := S512x2048) ![256, 1024] S256x512.size inb_S512x2048_S256x512_256_1024).toLoadRect (View.loadsAt_vmem h_S256x512))
  Prog.lift (.store arg22 (Rect.unit (s := S512x2048) ![256, 1024] S256x512.size inb_S512x2048_S256x512_256_1024) (k0_pay145 v685 v686 v687) Finset.univ (View.stores_vmem_bits_univ h_S256x512 rfl) (.inl rfl))
  let v694 : Vec F S256x512 .f32 ← Prog.lift (.load arg1 (Rect.unit (s := S512x2048) ![256, 1536] S256x512.size inb_S512x2048_S256x512_256_1536).toLoadRect (View.loadsAt_vmem h_S256x512))
  let v695 : Vec F S256x2048 .bf16 ← Prog.lift (.load arg21 (Rect.unit (s := S512x2048) ![256, 0] S256x2048.size inb_S512x2048_S256x2048_256_0).toLoadRect (View.loadsAt_vmem h_S256x2048))
  let v696 : Vec F S2048x512 .bf16 ← Prog.lift (.load arg16 (Rect.unit (s := S2048x2048) ![0, 1536] S2048x512.size inb_S2048x2048_S2048x512_0_1536).toLoadRect (View.loadsAt_vmem h_S2048x512))
  let v697 : FVec F S256x512 .f32 := k0_pay146 v695 v696
  let v699 : Vec F S256x512 .f32 ← Prog.lift (.load arg10 (Rect.unit (s := S512x2048) ![256, 1536] S256x512.size inb_S512x2048_S256x512_256_1536).toLoadRect (View.loadsAt_vmem h_S256x512))
  Prog.lift (.store arg10 (Rect.unit (s := S512x2048) ![256, 1536] S256x512.size inb_S512x2048_S256x512_256_1536) (k0_pay1 v694 v697) Finset.univ (View.stores_vmem_bits_univ h_S256x512 rfl) (.inl rfl))
  let v700 : Vec F S256x512 .f32 ← Prog.lift (.load arg22 (Rect.unit (s := S512x2048) ![256, 1536] S256x512.size inb_S512x2048_S256x512_256_1536).toLoadRect (View.loadsAt_vmem h_S256x512))
  Prog.lift (.store arg22 (Rect.unit (s := S512x2048) ![256, 1536] S256x512.size inb_S512x2048_S256x512_256_1536) (k0_pay2 v694 v697) Finset.univ (View.stores_vmem_bits_univ h_S256x512 rfl) (.inl rfl))
  pure ⟨⟩

set_option maxHeartbeats 4000000 in
/-- The body is the loads, at the first point only, and then the rest. -/
theorem body_eq (i : grid0.Coords) (arg1 : Memref sig .tc .vmem S512x2048 .f32) (harg1 : arg1.IsWhole) (arg2 : Memref sig .tc .vmem S1x2048 .f32) (harg2 : arg2.IsWhole) (arg3 : Memref sig .tc .hbm S1x2048x2048 .f32) (harg3 : arg3.IsWhole) (arg4 : Memref sig .tc .vmem S1x256x2048 .bf16) (harg4 : arg4.IsWhole) (arg5 : Memref sig .tc .vmem S1x256x2048 .bf16) (harg5 : arg5.IsWhole) (arg6 : Memref sig .tc .hbm S1x2048x2048 .f32) (harg6 : arg6.IsWhole) (arg7 : Memref sig .tc .vmem S1x2048 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S512x2048 .f32) (harg10 : arg10.IsWhole) (arg11 : Memref sig .tc .vmem S512x1024 .i32) (harg11 : arg11.IsWhole) (arg12 : Memref sig .tc .vmem S512x128 .f32) (harg12 : arg12.IsWhole) (arg13 : Memref sig .tc .vmem S1x32x128 .i32) (harg13 : arg13.IsWhole) (arg14 : Memref sig .tc .vmem S1x8x128 .i32) (harg14 : arg14.IsWhole) (arg15 : Memref sig .tc .vmem S2048x2048 .bf16) (harg15 : arg15.IsWhole) (arg16 : Memref sig .tc .vmem S2048x2048 .bf16) (harg16 : arg16.IsWhole) (arg17 : Memref sig .tc .vmem S2x128x2048 .f32) (harg17 : arg17.IsWhole) (arg18 : DmaSems sig S2) (arg19 : Memref sig .tc .vmem S512x2048 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole) :
    cc0_cross_block (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 harg22
      = if h : first i then loadProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 harg22 >>= fun _ => restProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 harg22 else restProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 harg19 arg20 harg20 arg21 harg21 arg22 harg22 := by
  simp only [cc0_cross_block_eq_skeleton]; unfold cc0_cross_block_skel
  simp only [k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
  unfold k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel
  by_cases h : first i
  · rw [dif_pos h]
    dsimp only
    rw [dif_pos h]
    unfold loadProg restProg
    simp only [bind_assoc, pure_bind]
  · rw [dif_neg h]
    dsimp only
    rw [dif_neg h]
    unfold restProg
    simp only [bind_assoc, pure_bind]

/-- The queries and the products are one function of what was loaded. -/
theorem pay39_eq (u : Vec F S256x2048 .bf16) (w : Vec F S2048x512 .bf16) : k0_pay39 (k0_pay38 u w) = k0_pay40 u w := rfl
theorem pay41_eq : k0_pay41 (F := F) = k0_pay40 := rfl
theorem pay42_eq : k0_pay42 (F := F) = k0_pay40 := rfl
theorem pay53_eq : k0_pay53 (F := F) = k0_pay40 := rfl
theorem pay54_eq : k0_pay54 (F := F) = k0_pay40 := rfl
theorem pay55_eq : k0_pay55 (F := F) = k0_pay40 := rfl
theorem pay56_eq : k0_pay56 (F := F) = k0_pay40 := rfl
theorem pay48_eq (h : Vec F S256x2048 .f32) (g : Vec F S1x2048 .f32) : k0_pay48 (k0_pay47 h g) = k0_pay37 h g := rfl
theorem pay50_eq : k0_pay50 (F := F) = k0_pay49 := rfl
theorem pay51_eq : k0_pay51 (F := F) = k0_pay49 := rfl
theorem pay52_eq : k0_pay52 (F := F) = k0_pay49 := rfl
theorem pay92_eq : k0_pay92 (F := F) = k0_pay49 := rfl
theorem pay93_eq : k0_pay93 (F := F) = k0_pay49 := rfl
theorem pay94_eq : k0_pay94 (F := F) = k0_pay49 := rfl
theorem pay95_eq : k0_pay95 (F := F) = k0_pay49 := rfl

/-- One head's attended values from its scores. -/
def att (s : FVec F S256x256 .f32) (v : Vec F S1x256x512 .bf16) : FVec F S256x512 .bf16 := k0_pay87 (k0_pay76 s) (k0_pay77 s) v

theorem att0_eq (s : FVec F S256x256 .f32) (v : Vec F S1x256x512 .bf16) : k0_pay87 (k0_pay76 s) (k0_pay77 s) v = att s v := rfl
theorem att1_eq (s : FVec F S256x256 .f32) (v : Vec F S1x256x512 .bf16) : k0_pay88 (k0_pay79 s) (k0_pay80 s) v = att s v := rfl
theorem att2_eq (s : FVec F S256x256 .f32) (v : Vec F S1x256x512 .bf16) : k0_pay89 (k0_pay82 s) (k0_pay83 s) v = att s v := rfl
theorem att3_eq (s : FVec F S256x256 .f32) (v : Vec F S1x256x512 .bf16) : k0_pay91 (k0_pay90 (k0_pay85 s) (k0_pay86 s) v) = att s v := rfl
theorem att4_eq (s : FVec F S256x256 .f32) (v : Vec F S1x256x512 .bf16) : k0_pay135 s v = att s v := rfl
theorem att5_eq (s : FVec F S256x256 .f32) (v : Vec F S1x256x512 .bf16) : k0_pay137 (k0_pay127 s) (k0_pay128 s) (k0_pay136 v) = att s v := rfl
theorem att6_eq (s : FVec F S256x256 .f32) (v : Vec F S1x256x512 .bf16) : k0_pay138 (k0_pay130 s) (k0_pay131 s) v = att s v := rfl
theorem att7_eq (s : FVec F S256x256 .f32) (v : Vec F S1x256x512 .bf16) : k0_pay139 (k0_pay133 s) (k0_pay134 s) v = att s v := rfl

/-- A block of the residual plus its product. -/
def prd (x : Vec F S256x512 .f32) (a : Vec F S256x2048 .bf16) (w : Vec F S2048x512 .bf16) : FVec F S256x512 .f32 := k0_pay98 x a w

theorem pay96_eq : k0_pay96 (F := F) = prd := rfl
theorem pay98_eq : k0_pay98 (F := F) = prd := rfl
theorem pay100_eq : k0_pay100 (F := F) = prd := rfl
theorem pay102_eq : k0_pay102 (F := F) = prd := rfl
theorem pay140_eq : k0_pay140 (F := F) = prd := rfl
theorem pay142_eq : k0_pay142 (F := F) = prd := rfl
theorem pay144_eq : k0_pay144 (F := F) = prd := rfl
theorem pay97_eq (x : FVec F S256x512 .f32) : k0_pay97 x = x := shapeCast_self x _
theorem pay141_eq (x : FVec F S256x512 .f32) : k0_pay141 x = x := shapeCast_self x _
theorem pay99_eq (x : Vec F S256x512 .f32) (a : Vec F S256x2048 .bf16) (w : Vec F S2048x512 .bf16) : k0_pay99 x a w = prd x a w := shapeCast_self (prd x a w) _
theorem pay101_eq (x : Vec F S256x512 .f32) (a : Vec F S256x2048 .bf16) (w : Vec F S2048x512 .bf16) : k0_pay101 x a w = prd x a w := shapeCast_self (prd x a w) _
theorem pay103_eq (x : Vec F S256x512 .f32) (a : Vec F S256x2048 .bf16) (w : Vec F S2048x512 .bf16) : k0_pay103 x a w = prd x a w := shapeCast_self (prd x a w) _
theorem pay143_eq (x : Vec F S256x512 .f32) (a : Vec F S256x2048 .bf16) (w : Vec F S2048x512 .bf16) : k0_pay143 x a w = prd x a w := shapeCast_self (prd x a w) _
theorem pay145_eq (x : Vec F S256x512 .f32) (a : Vec F S256x2048 .bf16) (w : Vec F S2048x512 .bf16) : k0_pay145 x a w = prd x a w := shapeCast_self (prd x a w) _
theorem pay1_eq (x : Vec F S256x512 .f32) (a : Vec F S256x2048 .bf16) (w : Vec F S2048x512 .bf16) : k0_pay1 x (k0_pay146 a w) = prd x a w := rfl
theorem pay2_eq (x : Vec F S256x512 .f32) (a : Vec F S256x2048 .bf16) (w : Vec F S2048x512 .bf16) : k0_pay2 x (k0_pay146 a w) = prd x a w := shapeCast_self (prd x a w) _

/-- A vector read through a rectangle. -/
def ld {s : Shape} {e : EltTy} (X : s.Idx → Elt F e) (B : LoadRect s) : B.shape.Idx → Elt F e := fun j => X (B.idx j)

theorem ld_eq {s : Shape} {e : EltTy} {M : Memref sig .tc .vmem s e} (h : M.IsWhole) (X : s.Idx → Elt F e) (B : LoadRect s) :
    View.readAt (Elt F) M.view B (h.unread X) = ld X B := funext fun x => congrFun (h.read_unread X) _

/-- A column block of a head's queries for a half of the tile's rows. -/
def qry (h : Vec F S256x2048 .f32) (g : Vec F S1x2048 .f32) (w : Vec F S2048x512 .bf16) : FVec F S256x512 .bf16 := k0_pay40 (k0_pay37 h g) w

/-- A gain's row as loaded. -/
abbrev gn (x1 : Vec F S1x2048 .f32) : Vec F S1x2048 .f32 := ld x1 (Rect.unit (s := S1x2048) ![0, 0] S1x2048.size inb_S1x2048_S1x2048_0_0).toLoadRect

/-- The four heads' attended values of the upper half, as stored, last first. -/
def top (x0 : Vec F S512x2048 .f32) (x1 : Vec F S1x2048 .f32) (x2 : Vec F S1x256x2048 .bf16) (x3 : Vec F S1x256x2048 .bf16) (wq : Vec F S2048x2048 .bf16) : List (View.Piece (Elt F) S512x2048 .bf16) :=
  [⟨(Rect.unit (s := S512x2048) ![0, 1536] S256x512.size inb_S512x2048_S256x512_0_1536), att (k0_pay49 (qry (ld x0 (Rect.unit (s := S512x2048) ![0, 0] S256x2048.size inb_S512x2048_S256x2048_0_0).toLoadRect) (gn x1) (ld wq (Rect.unit (s := S2048x2048) ![0, 1536] S2048x512.size inb_S2048x2048_S2048x512_0_1536).toLoadRect)) (ld x2 (Rect.unit (s := S1x256x2048) ![0, 0, 1536] S1x256x512.size inb_S1x256x2048_S1x256x512_0_0_1536).toLoadRect)) (ld x3 (Rect.unit (s := S1x256x2048) ![0, 0, 1536] S1x256x512.size inb_S1x256x2048_S1x256x512_0_0_1536).toLoadRect)⟩,
   ⟨(Rect.unit (s := S512x2048) ![0, 1024] S256x512.size inb_S512x2048_S256x512_0_1024), att (k0_pay49 (qry (ld x0 (Rect.unit (s := S512x2048) ![0, 0] S256x2048.size inb_S512x2048_S256x2048_0_0).toLoadRect) (gn x1) (ld wq (Rect.unit (s := S2048x2048) ![0, 1024] S2048x512.size inb_S2048x2048_S2048x512_0_1024).toLoadRect)) (ld x2 (Rect.unit (s := S1x256x2048) ![0, 0, 1024] S1x256x512.size inb_S1x256x2048_S1x256x512_0_0_1024).toLoadRect)) (ld x3 (Rect.unit (s := S1x256x2048) ![0, 0, 1024] S1x256x512.size inb_S1x256x2048_S1x256x512_0_0_1024).toLoadRect)⟩,
   ⟨(Rect.unit (s := S512x2048) ![0, 512] S256x512.size inb_S512x2048_S256x512_0_512), att (k0_pay49 (qry (ld x0 (Rect.unit (s := S512x2048) ![0, 0] S256x2048.size inb_S512x2048_S256x2048_0_0).toLoadRect) (gn x1) (ld wq (Rect.unit (s := S2048x2048) ![0, 512] S2048x512.size inb_S2048x2048_S2048x512_0_512).toLoadRect)) (ld x2 (Rect.unit (s := S1x256x2048) ![0, 0, 512] S1x256x512.size inb_S1x256x2048_S1x256x512_0_0_512).toLoadRect)) (ld x3 (Rect.unit (s := S1x256x2048) ![0, 0, 512] S1x256x512.size inb_S1x256x2048_S1x256x512_0_0_512).toLoadRect)⟩,
   ⟨(Rect.unit (s := S512x2048) ![0, 0] S256x512.size inb_S512x2048_S256x512_0_0), att (k0_pay49 (qry (ld x0 (Rect.unit (s := S512x2048) ![0, 0] S256x2048.size inb_S512x2048_S256x2048_0_0).toLoadRect) (gn x1) (ld wq (Rect.unit (s := S2048x2048) ![0, 0] S2048x512.size inb_S2048x2048_S2048x512_0_0).toLoadRect)) (ld x2 (Rect.unit (s := S1x256x2048) ![0, 0, 0] S1x256x512.size inb_S1x256x2048_S1x256x512_0_0_0).toLoadRect)) (ld x3 (Rect.unit (s := S1x256x2048) ![0, 0, 0] S1x256x512.size inb_S1x256x2048_S1x256x512_0_0_0).toLoadRect)⟩]

/-- The four heads' attended values of the lower half, as stored, last first. -/
def bot (x0 : Vec F S512x2048 .f32) (x1 : Vec F S1x2048 .f32) (x2 : Vec F S1x256x2048 .bf16) (x3 : Vec F S1x256x2048 .bf16) (wq : Vec F S2048x2048 .bf16) : List (View.Piece (Elt F) S512x2048 .bf16) :=
  [⟨(Rect.unit (s := S512x2048) ![256, 1536] S256x512.size inb_S512x2048_S256x512_256_1536), att (k0_pay49 (qry (ld x0 (Rect.unit (s := S512x2048) ![256, 0] S256x2048.size inb_S512x2048_S256x2048_256_0).toLoadRect) (gn x1) (ld wq (Rect.unit (s := S2048x2048) ![0, 1536] S2048x512.size inb_S2048x2048_S2048x512_0_1536).toLoadRect)) (ld x2 (Rect.unit (s := S1x256x2048) ![0, 0, 1536] S1x256x512.size inb_S1x256x2048_S1x256x512_0_0_1536).toLoadRect)) (ld x3 (Rect.unit (s := S1x256x2048) ![0, 0, 1536] S1x256x512.size inb_S1x256x2048_S1x256x512_0_0_1536).toLoadRect)⟩,
   ⟨(Rect.unit (s := S512x2048) ![256, 1024] S256x512.size inb_S512x2048_S256x512_256_1024), att (k0_pay49 (qry (ld x0 (Rect.unit (s := S512x2048) ![256, 0] S256x2048.size inb_S512x2048_S256x2048_256_0).toLoadRect) (gn x1) (ld wq (Rect.unit (s := S2048x2048) ![0, 1024] S2048x512.size inb_S2048x2048_S2048x512_0_1024).toLoadRect)) (ld x2 (Rect.unit (s := S1x256x2048) ![0, 0, 1024] S1x256x512.size inb_S1x256x2048_S1x256x512_0_0_1024).toLoadRect)) (ld x3 (Rect.unit (s := S1x256x2048) ![0, 0, 1024] S1x256x512.size inb_S1x256x2048_S1x256x512_0_0_1024).toLoadRect)⟩,
   ⟨(Rect.unit (s := S512x2048) ![256, 512] S256x512.size inb_S512x2048_S256x512_256_512), att (k0_pay49 (qry (ld x0 (Rect.unit (s := S512x2048) ![256, 0] S256x2048.size inb_S512x2048_S256x2048_256_0).toLoadRect) (gn x1) (ld wq (Rect.unit (s := S2048x2048) ![0, 512] S2048x512.size inb_S2048x2048_S2048x512_0_512).toLoadRect)) (ld x2 (Rect.unit (s := S1x256x2048) ![0, 0, 512] S1x256x512.size inb_S1x256x2048_S1x256x512_0_0_512).toLoadRect)) (ld x3 (Rect.unit (s := S1x256x2048) ![0, 0, 512] S1x256x512.size inb_S1x256x2048_S1x256x512_0_0_512).toLoadRect)⟩,
   ⟨(Rect.unit (s := S512x2048) ![256, 0] S256x512.size inb_S512x2048_S256x512_256_0), att (k0_pay49 (qry (ld x0 (Rect.unit (s := S512x2048) ![256, 0] S256x2048.size inb_S512x2048_S256x2048_256_0).toLoadRect) (gn x1) (ld wq (Rect.unit (s := S2048x2048) ![0, 0] S2048x512.size inb_S2048x2048_S2048x512_0_0).toLoadRect)) (ld x2 (Rect.unit (s := S1x256x2048) ![0, 0, 0] S1x256x512.size inb_S1x256x2048_S1x256x512_0_0_0).toLoadRect)) (ld x3 (Rect.unit (s := S1x256x2048) ![0, 0, 0] S1x256x512.size inb_S1x256x2048_S1x256x512_0_0_0).toLoadRect)⟩]

/-- A half's attended values, read back. -/
def atop (x0 : Vec F S512x2048 .f32) (x1 : Vec F S1x2048 .f32) (x2 : Vec F S1x256x2048 .bf16) (x3 : Vec F S1x256x2048 .bf16) (wq : Vec F S2048x2048 .bf16) : Vec F S256x2048 .bf16 := fun y => View.canon (top x0 x1 x2 x3 wq) ((Rect.unit (s := S512x2048) ![0, 0] S256x2048.size inb_S512x2048_S256x2048_0_0).toLoadRect.idx y)
def abot (x0 : Vec F S512x2048 .f32) (x1 : Vec F S1x2048 .f32) (x2 : Vec F S1x256x2048 .bf16) (x3 : Vec F S1x256x2048 .bf16) (wq : Vec F S2048x2048 .bf16) : Vec F S256x2048 .bf16 := fun y => View.canon (bot x0 x1 x2 x3 wq ++ top x0 x1 x2 x3 wq) ((Rect.unit (s := S512x2048) ![256, 0] S256x2048.size inb_S512x2048_S256x2048_256_0).toLoadRect.idx y)

/-- The eight stores of a point's output, last first. -/
def pcs (x0 : Vec F S512x2048 .f32) (x1 : Vec F S1x2048 .f32) (x2 : Vec F S1x256x2048 .bf16) (x3 : Vec F S1x256x2048 .bf16) (wq : Vec F S2048x2048 .bf16) (wo : Vec F S2048x2048 .bf16) : List (View.Piece (Elt F) S512x2048 .f32) :=
  [⟨(Rect.unit (s := S512x2048) ![256, 1536] S256x512.size inb_S512x2048_S256x512_256_1536), prd (ld x0 (Rect.unit (s := S512x2048) ![256, 1536] S256x512.size inb_S512x2048_S256x512_256_1536).toLoadRect) (abot x0 x1 x2 x3 wq) (ld wo (Rect.unit (s := S2048x2048) ![0, 1536] S2048x512.size inb_S2048x2048_S2048x512_0_1536).toLoadRect)⟩,
   ⟨(Rect.unit (s := S512x2048) ![256, 1024] S256x512.size inb_S512x2048_S256x512_256_1024), prd (ld x0 (Rect.unit (s := S512x2048) ![256, 1024] S256x512.size inb_S512x2048_S256x512_256_1024).toLoadRect) (abot x0 x1 x2 x3 wq) (ld wo (Rect.unit (s := S2048x2048) ![0, 1024] S2048x512.size inb_S2048x2048_S2048x512_0_1024).toLoadRect)⟩,
   ⟨(Rect.unit (s := S512x2048) ![256, 512] S256x512.size inb_S512x2048_S256x512_256_512), prd (ld x0 (Rect.unit (s := S512x2048) ![256, 512] S256x512.size inb_S512x2048_S256x512_256_512).toLoadRect) (abot x0 x1 x2 x3 wq) (ld wo (Rect.unit (s := S2048x2048) ![0, 512] S2048x512.size inb_S2048x2048_S2048x512_0_512).toLoadRect)⟩,
   ⟨(Rect.unit (s := S512x2048) ![256, 0] S256x512.size inb_S512x2048_S256x512_256_0), prd (ld x0 (Rect.unit (s := S512x2048) ![256, 0] S256x512.size inb_S512x2048_S256x512_256_0).toLoadRect) (abot x0 x1 x2 x3 wq) (ld wo (Rect.unit (s := S2048x2048) ![0, 0] S2048x512.size inb_S2048x2048_S2048x512_0_0).toLoadRect)⟩,
   ⟨(Rect.unit (s := S512x2048) ![0, 1536] S256x512.size inb_S512x2048_S256x512_0_1536), prd (ld x0 (Rect.unit (s := S512x2048) ![0, 1536] S256x512.size inb_S512x2048_S256x512_0_1536).toLoadRect) (atop x0 x1 x2 x3 wq) (ld wo (Rect.unit (s := S2048x2048) ![0, 1536] S2048x512.size inb_S2048x2048_S2048x512_0_1536).toLoadRect)⟩,
   ⟨(Rect.unit (s := S512x2048) ![0, 1024] S256x512.size inb_S512x2048_S256x512_0_1024), prd (ld x0 (Rect.unit (s := S512x2048) ![0, 1024] S256x512.size inb_S512x2048_S256x512_0_1024).toLoadRect) (atop x0 x1 x2 x3 wq) (ld wo (Rect.unit (s := S2048x2048) ![0, 1024] S2048x512.size inb_S2048x2048_S2048x512_0_1024).toLoadRect)⟩,
   ⟨(Rect.unit (s := S512x2048) ![0, 512] S256x512.size inb_S512x2048_S256x512_0_512), prd (ld x0 (Rect.unit (s := S512x2048) ![0, 512] S256x512.size inb_S512x2048_S256x512_0_512).toLoadRect) (atop x0 x1 x2 x3 wq) (ld wo (Rect.unit (s := S2048x2048) ![0, 512] S2048x512.size inb_S2048x2048_S2048x512_0_512).toLoadRect)⟩,
   ⟨(Rect.unit (s := S512x2048) ![0, 0] S256x512.size inb_S512x2048_S256x512_0_0), prd (ld x0 (Rect.unit (s := S512x2048) ![0, 0] S256x512.size inb_S512x2048_S256x512_0_0).toLoadRect) (atop x0 x1 x2 x3 wq) (ld wo (Rect.unit (s := S2048x2048) ![0, 0] S2048x512.size inb_S2048x2048_S2048x512_0_0).toLoadRect)⟩]

theorem pcs_cover (x0 : Vec F S512x2048 .f32) (x1 : Vec F S1x2048 .f32) (x2 : Vec F S1x256x2048 .bf16) (x3 : Vec F S1x256x2048 .bf16) (wq : Vec F S2048x2048 .bf16) (wo : Vec F S2048x2048 .bf16) (y : S512x2048.Idx) :
    ∃ p ∈ pcs x0 x1 x2 x3 wq wo, y ∈ p.1.set :=
  View.cover_of_tiledL (s := S512x2048) _ S256x512.size (by sl_kernel_rfl) y

/-- What a point leaves in the output's buffer, and in the kept tile. -/
def out (x0 : Vec F S512x2048 .f32) (x1 : Vec F S1x2048 .f32) (x2 : Vec F S1x256x2048 .bf16) (x3 : Vec F S1x256x2048 .bf16) (wq : Vec F S2048x2048 .bf16) (wo : Vec F S2048x2048 .bf16) : Vec F S512x2048 .f32 := View.canon (pcs x0 x1 x2 x3 wq wo)

/-- The tile routed, normalised, as stored. -/
def hnOf (v3 : Vec F S512x2048 .f32) (v4 : Vec F S1x2048 .f32) : Vec F S512x1024 .i32 :=
  have v5 : FVec F S1x2048 .f32 := k0_pay36 v4
  have v63 : FVec F S512x2048 .f32 := k0_pay43 v3
  (k0_pay45 v3 v5 v63)

/-- The tile's gates. -/
def gateOf (v3 : Vec F S512x2048 .f32) (v4 : Vec F S1x2048 .f32) (v80 : Vec F S2048x128 .bf16) (v83 : Vec F S1x128 .f32) : Vec F S512x128 .f32 :=
  have v159 : FVec F S512x128 .f32 := k0_pay57 (F := F)
  have v5 : FVec F S1x2048 .f32 := k0_pay36 v4
  have v63 : FVec F S512x2048 .f32 := k0_pay43 v3
  have v86 : FVec F S512x128 .f32 := k0_pay46 v3 v5 v63 v80 v83
  have v161 : IVec S512x128 1 := k0_pay58 (F := F)
  have v180 : FVec F S512x1 .f32 := k0_pay61 v86 v161
  have v195 : FVec F S512x1 .f32 := k0_pay63 v86 v159 v161
  have v205 : FVec F S512x128 .f32 := k0_pay65 v86 v159 v161
  (k0_pay67 v159 v180 v195 v205)

/-- The tile's routed order. -/
def orderOf (i : grid0.Coords) (v3 : Vec F S512x2048 .f32) (v4 : Vec F S1x2048 .f32) (v80 : Vec F S2048x128 .bf16) (v83 : Vec F S1x128 .f32) : Vec F S1x32x128 .i32 :=
  have arg0 : BitVec 32 := BitVec.ofNat 32 (i 0).val
  have v6 : BitVec 32 := Scalar.subi arg0 1#32
  have v7 : BitVec 32 := Scalar.maxsi v6 0#32
  have v159 : FVec F S512x128 .f32 := k0_pay57 (F := F)
  have v5 : FVec F S1x2048 .f32 := k0_pay36 v4
  have v63 : FVec F S512x2048 .f32 := k0_pay43 v3
  have v86 : FVec F S512x128 .f32 := k0_pay46 v3 v5 v63 v80 v83
  have v161 : IVec S512x128 1 := k0_pay58 (F := F)
  have v201 : FVec F S512x1 .f32 := k0_pay64 v86 v159 v161
  have v238 : IVec S512x128 1 := k0_pay68 v159 v201
  have v205 : FVec F S512x128 .f32 := k0_pay65 v86 v159 v161
  have v247 : FVec F S512x128 .bf16 := k0_pay71 v159 v201 v205
  have v250 : IVec S512x512 1 := k0_pay72
  have cst_146 : F .f32 := Scalar.ofBits .f32 0x3F800000#32
  have v255 : FVec F S512x128 .f32 := k0_pay73 v247 v250 cst_146
  have v265 : FVec F S1x128 .f32 := k0_pay74 v247
  have v404 : FVec F S512x128 .f32 := k0_pay108 v159 v238 v255 v265
  have v413 : FVec F S512x128 .bf16 := k0_pay109 v159 v238 v255 v265
  have v415 : IVec S512x1 32 := k0_pay110
  have c32_i32 : BitVec 32 := 32#32
  have v417 : IVec S512x1 32 := k0_pay111
  have v419 : IVec S512x1 1 := k0_pay112
  have v460 : FVec F S128x128 .f32 := k0_pay113 v404 v413 v415 c32_i32 v417 v419
  have v465 : FVec F S128x128 .f32 := k0_pay114 v404 v413 v415
  have v242 : IVec S512x128 1 := k0_pay69 v159 v205
  have v395 : FVec F S512x1 .f32 := k0_pay106 v242 v255 v265
  have cst_278 : F .f32 := Scalar.ofBits .f32 0x42000000#32
  have v473 : FVec F S512x128 .f32 := k0_pay116 v159 v395 cst_278
  have v482 : FVec F S512x128 .bf16 := k0_pay117 v159 v395 cst_278
  have v396 : IVec S512x1 32 := iota .tc S512x1 32 [0] iota_S512x1_d0_w32
  have v484 : IVec S512x1 32 := k0_pay118 v396
  have v508 : IVec S512x1 32 := k0_pay119 v396
  have c32_i32_291 : BitVec 32 := 32#32
  have v509 : BitVec 1 := Scalar.cmpi .eq 32#32 0#32
  have c1_i32_293 : BitVec 32 := 1#32
  have v540 : IVec S128x128 32 := k0_pay120 v460 v465 v473 v482 v484 v508 c32_i32_291 v509 c1_i32_293
  have v542 : IVec S128x128 32 := k0_pay121 v460 v465 v473 v482 v484 v508 c32_i32_291 v509 c1_i32_293
  have v556 : IVec S128x128 1 := k0_pay122 v460 v465 v473 v482 v484 v508 c32_i32_291 v509 c1_i32_293
  have v558 : IVec S128x128 32 := k0_pay123 v460 v465 v473 v482 v484 v508 c32_i32_291 v509 c1_i32_293
  (k0_pay124 v7 v540 v542 v556 v558)

/-- The tile's counts. -/
def countOf (v3 : Vec F S512x2048 .f32) (v4 : Vec F S1x2048 .f32) (v80 : Vec F S2048x128 .bf16) (v83 : Vec F S1x128 .f32) : Vec F S1x8x128 .i32 :=
  have v159 : FVec F S512x128 .f32 := k0_pay57 (F := F)
  have v5 : FVec F S1x2048 .f32 := k0_pay36 v4
  have v63 : FVec F S512x2048 .f32 := k0_pay43 v3
  have v86 : FVec F S512x128 .f32 := k0_pay46 v3 v5 v63 v80 v83
  have v161 : IVec S512x128 1 := k0_pay58 (F := F)
  have v201 : FVec F S512x1 .f32 := k0_pay64 v86 v159 v161
  have v205 : FVec F S512x128 .f32 := k0_pay65 v86 v159 v161
  have v246 : FVec F S512x128 .f32 := k0_pay70 v159 v201 v205
  (k0_pay125 v246)

set_option maxHeartbeats 16000000 in
/-- The rest of the body: the output's buffer and the kept tile end at `out`, the routing's buffers at the functions of the tile kept before. -/
theorem rest_run (c : Dev nD) (i : grid0.Coords) (arg1 : Memref sig .tc .vmem S512x2048 .f32) (harg1 : arg1.IsWhole) (arg2 : Memref sig .tc .vmem S1x2048 .f32) (harg2 : arg2.IsWhole) (arg4 : Memref sig .tc .vmem S1x256x2048 .bf16) (harg4 : arg4.IsWhole) (arg5 : Memref sig .tc .vmem S1x256x2048 .bf16) (harg5 : arg5.IsWhole) (arg7 : Memref sig .tc .vmem S1x2048 .f32) (harg7 : arg7.IsWhole) (arg8 : Memref sig .tc .vmem S2048x128 .bf16) (harg8 : arg8.IsWhole) (arg9 : Memref sig .tc .vmem S1x128 .f32) (harg9 : arg9.IsWhole) (arg10 : Memref sig .tc .vmem S512x2048 .f32) (harg10 : arg10.IsWhole) (arg11 : Memref sig .tc .vmem S512x1024 .i32) (harg11 : arg11.IsWhole) (arg12 : Memref sig .tc .vmem S512x128 .f32) (harg12 : arg12.IsWhole) (arg13 : Memref sig .tc .vmem S1x32x128 .i32) (harg13 : arg13.IsWhole) (arg14 : Memref sig .tc .vmem S1x8x128 .i32) (harg14 : arg14.IsWhole) (arg15 : Memref sig .tc .vmem S2048x2048 .bf16) (harg15 : arg15.IsWhole) (arg16 : Memref sig .tc .vmem S2048x2048 .bf16) (harg16 : arg16.IsWhole) (arg17 : Memref sig .tc .vmem S2x128x2048 .f32) (harg17 : arg17.IsWhole) (arg19 : Memref sig .tc .vmem S512x2048 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S512x2048 .f32) (harg22 : arg22.IsWhole)
    (x0 : Vec F S512x2048 .f32) (x1 : Vec F S1x2048 .f32) (x2 : Vec F S1x256x2048 .bf16) (x3 : Vec F S1x256x2048 .bf16) (x4 : Vec F S1x2048 .f32) (x5 : Vec F S2048x128 .bf16) (x6 : Vec F S1x128 .f32) (wq wo : Vec F S2048x2048 .bf16) (pv : Vec F S512x2048 .f32) (K : PUnit → sProp 𝕄) :
        iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare wq ∗ owns (c : Thread nD τ) arg16 fullShare wo ∗ (∃ d, owns (c : Thread nD τ) arg19 fullShare d) ∗ (∃ d, owns (c : Thread nD τ) arg20 fullShare d) ∗ (∃ d, owns (c : Thread nD τ) arg21 fullShare d) ∗ owns (c : Thread nD τ) arg22 fullShare pv
            ∗ (iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg7 fullShare x4 ∗ owns (c : Thread nD τ) arg8 fullShare x5 ∗ owns (c : Thread nD τ) arg9 fullShare x6 ∗ owns (c : Thread nD τ) arg10 fullShare (out x0 x1 x2 x3 wq wo) ∗ owns (c : Thread nD τ) arg11 fullShare (hnOf (ld pv (Rect.unit (s := S512x2048) ![0, 0] S512x2048.size inb_S512x2048_S512x2048_0_0).toLoadRect) (gn x4)) ∗ owns (c : Thread nD τ) arg12 fullShare (gateOf (ld pv (Rect.unit (s := S512x2048) ![0, 0] S512x2048.size inb_S512x2048_S512x2048_0_0).toLoadRect) (gn x4) (ld x5 (Rect.unit (s := S2048x128) ![0, 0] S2048x128.size inb_S2048x128_S2048x128_0_0).toLoadRect) (ld x6 (Rect.unit (s := S1x128) ![0, 0] S1x128.size inb_S1x128_S1x128_0_0).toLoadRect)) ∗ owns (c : Thread nD τ) arg13 fullShare (orderOf i (ld pv (Rect.unit (s := S512x2048) ![0, 0] S512x2048.size inb_S512x2048_S512x2048_0_0).toLoadRect) (gn x4) (ld x5 (Rect.unit (s := S2048x128) ![0, 0] S2048x128.size inb_S2048x128_S2048x128_0_0).toLoadRect) (ld x6 (Rect.unit (s := S1x128) ![0, 0] S1x128.size inb_S1x128_S1x128_0_0).toLoadRect)) ∗ owns (c : Thread nD τ) arg14 fullShare (countOf (ld pv (Rect.unit (s := S512x2048) ![0, 0] S512x2048.size inb_S512x2048_S512x2048_0_0).toLoadRect) (gn x4) (ld x5 (Rect.unit (s := S2048x128) ![0, 0] S2048x128.size inb_S2048x128_S2048x128_0_0).toLoadRect) (ld x6 (Rect.unit (s := S1x128) ![0, 0] S1x128.size inb_S1x128_S1x128_0_0).toLoadRect)) ∗ owns (c : Thread nD τ) arg15 fullShare wq ∗ owns (c : Thread nD τ) arg16 fullShare wo ∗ (∃ d, owns (c : Thread nD τ) arg19 fullShare d) ∗ (∃ d, owns (c : Thread nD τ) arg20 fullShare d) ∗ (∃ d, owns (c : Thread nD τ) arg21 fullShare d) ∗ owns (c : Thread nD τ) arg22 fullShare (out x0 x1 x2 x3 wq wo)) -∗ K ⟨⟩))
          ⊢ wp frame (wpE (defs₀ (F := F)) Variants.none c none) Set.univ (restProg i arg1 harg1 arg2 harg2 (Memref.whole main_arg2) (Memref.isWhole_whole _) arg4 harg4 arg5 harg5 (Memref.whole main_arg5) (Memref.isWhole_whole _) arg7 harg7 arg8 harg8 arg9 harg9 arg10 harg10 arg11 harg11 arg12 harg12 arg13 harg13 arg14 harg14 arg15 harg15 arg16 harg16 arg17 harg17 cc0_scratch3 arg19 harg19 arg20 harg20 arg21 harg21 arg22 harg22) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%fs0, %hfs0, HS0⟩, ⟨%fs1, %hfs1, HS1⟩, ⟨%ds4, %fs4, -, HS4⟩, ⟨%ds5, %fs5, -, HS5⟩, ⟨%ds6, %fs6, -, HS6⟩, ⟨%fs7, %hfs7, HS7⟩, Hk⟩
  obtain rfl := harg1.eq_unread hf0; obtain rfl := harg2.eq_unread hf1; obtain rfl := harg4.eq_unread hf2; obtain rfl := harg5.eq_unread hf3; obtain rfl := harg7.eq_unread hf4; obtain rfl := harg8.eq_unread hf5; obtain rfl := harg9.eq_unread hf6; obtain rfl := harg15.eq_unread hfs0; obtain rfl := harg16.eq_unread hfs1; obtain rfl := harg22.eq_unread hfs7
  unfold restProg
  dsimp only
  sl_exec
  sl_step
  have hA : rest_run.sl.v351 arg1 harg1 arg2 harg2 arg4 harg4 arg5 harg5 arg15 harg15 arg19 arg20 arg21 x0 x1 x2 x3 wq = atop x0 x1 x2 x3 wq := by
    delta rest_run.sl.v351
    (try delta rest_run.sl.HS6_8); (try delta rest_run.sl.HS6_4); (try delta rest_run.sl.v334); (try delta rest_run.sl.v338); (try delta rest_run.sl.v342); (try delta rest_run.sl.v346); (try delta rest_run.sl.v106); (try delta rest_run.sl.v110); (try delta rest_run.sl.v114); (try delta rest_run.sl.v118); (try delta rest_run.sl.HS5_8); (try delta rest_run.sl.HS5_4); (try delta rest_run.sl.v122); (try delta rest_run.sl.HS4_2); (try delta rest_run.sl.v27); (try delta rest_run.sl.HS4_1)
    simp (disch := decide) only [↓ View.readCov_skip, View.readCov_cons_toLoadRect, ld_eq, pay39_eq, pay41_eq, pay42_eq, pay53_eq, pay54_eq, pay55_eq, pay56_eq, pay48_eq, pay50_eq, pay51_eq, pay52_eq, pay92_eq, pay93_eq, pay94_eq, pay95_eq, att0_eq, att1_eq, att2_eq, att3_eq, att4_eq, att5_eq, att6_eq, att7_eq, pay96_eq, pay98_eq, pay100_eq, pay102_eq, pay140_eq, pay142_eq, pay144_eq, pay97_eq, pay141_eq, pay99_eq, pay101_eq, pay103_eq, pay143_eq, pay145_eq, pay1_eq, pay2_eq]
    exact View.readCov_eq_canon' _ _ _
  have hB : rest_run.sl.v668 arg1 harg1 arg2 harg2 arg4 harg4 arg5 harg5 arg15 harg15 arg19 arg20 arg21 x0 x1 x2 x3 wq = abot x0 x1 x2 x3 wq := by
    delta rest_run.sl.v668
    (try delta rest_run.sl.HS6_8); (try delta rest_run.sl.HS6_4); (try delta rest_run.sl.v334); (try delta rest_run.sl.v338); (try delta rest_run.sl.v342); (try delta rest_run.sl.v346); (try delta rest_run.sl.v106); (try delta rest_run.sl.v110); (try delta rest_run.sl.v114); (try delta rest_run.sl.v118); (try delta rest_run.sl.HS5_8); (try delta rest_run.sl.HS5_4); (try delta rest_run.sl.v122); (try delta rest_run.sl.HS4_2); (try delta rest_run.sl.v27); (try delta rest_run.sl.HS4_1)
    simp (disch := decide) only [↓ View.readCov_skip, View.readCov_cons_toLoadRect, ld_eq, pay39_eq, pay41_eq, pay42_eq, pay53_eq, pay54_eq, pay55_eq, pay56_eq, pay48_eq, pay50_eq, pay51_eq, pay52_eq, pay92_eq, pay93_eq, pay94_eq, pay95_eq, att0_eq, att1_eq, att2_eq, att3_eq, att4_eq, att5_eq, att6_eq, att7_eq, pay96_eq, pay98_eq, pay100_eq, pay102_eq, pay140_eq, pay142_eq, pay144_eq, pay97_eq, pay141_eq, pay99_eq, pay101_eq, pay103_eq, pay143_eq, pay145_eq, pay1_eq, pay2_eq]
    exact View.readCov_eq_canon' _ _ _
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]
  · iexists _; isplitr; swap; · iexact H7
    ipureintro
    simp only [hA, hB, ld_eq, pay39_eq, pay41_eq, pay42_eq, pay53_eq, pay54_eq, pay55_eq, pay56_eq, pay48_eq, pay50_eq, pay51_eq, pay52_eq, pay92_eq, pay93_eq, pay94_eq, pay95_eq, pay96_eq, pay98_eq, pay100_eq, pay102_eq, pay140_eq, pay142_eq, pay144_eq, pay97_eq, pay141_eq, pay99_eq, pay101_eq, pay103_eq, pay143_eq, pay145_eq, pay1_eq, pay2_eq]
    exact View.read_writes_eq_canon _ _ _ (pcs_cover x0 x1 x2 x3 wq wo)
  isplitl [H8]
  · iexists _; isplitr; swap; · iexact H8
    ipureintro
    simp only [ld_eq]
    exact View.read_writes_full arg11.view f8 _ _ _
  isplitl [H9]
  · iexists _; isplitr; swap; · iexact H9
    ipureintro
    simp only [ld_eq]
    exact View.read_writes_full arg12.view f9 _ _ _
  isplitl [H10]
  · iexists _; isplitr; swap; · iexact H10
    ipureintro
    simp only [ld_eq]
    exact View.read_writes_full arg13.view f10 _ _ _
  isplitl [H11]
  · iexists _; isplitr; swap; · iexact H11
    ipureintro
    simp only [ld_eq]
    exact View.read_writes_full arg14.view f11 _ _ _
  isplitl [HS0]; · iexists _; isplitr; · ipureintro; exact hfs0
                   iexact HS0
  isplitl [HS1]; · iexists _; isplitr; · ipureintro; exact hfs1
                   iexact HS1
  isplitl [HS4]; · iexists _, _; isplitr; swap; · iexact HS4
                   ipureintro; rfl
  isplitl [HS5]; · iexists _, _; isplitr; swap; · iexact HS5
                   ipureintro; rfl
  isplitl [HS6]; · iexists _, _; isplitr; swap; · iexact HS6
                   ipureintro; rfl
  iexists _; isplitr; swap; · iexact HS7
  ipureintro
  simp only [hA, hB, ld_eq, pay39_eq, pay41_eq, pay42_eq, pay53_eq, pay54_eq, pay55_eq, pay56_eq, pay48_eq, pay50_eq, pay51_eq, pay52_eq, pay92_eq, pay93_eq, pay94_eq, pay95_eq, pay96_eq, pay98_eq, pay100_eq, pay102_eq, pay140_eq, pay142_eq, pay144_eq, pay97_eq, pay141_eq, pay99_eq, pay101_eq, pay103_eq, pay143_eq, pay145_eq, pay1_eq, pay2_eq]
  exact View.read_writes_eq_canon _ _ _ (pcs_cover x0 x1 x2 x3 wq wo)

end Cert.Kernel2.CrossRun
-- ==== Proof.CrossClaims.lean ====
/- The claims about the cross-attention call, from `CrossFrame.lean`'s runs and `CrossValue.lean`'s value of the result array. -/
module

public import proofs.«01_k».proof.Defs
public import proofs.«01_k».proof.Proof.CrossValue
public import proofs.«01_k».proof.Proof.CrossFrameBits
public import proofs.«01_k».proof.Proof.Gen.Reference2Ideal.Run
public import Idealize.ShloMosaic.Lib.Bf16PairInverse
public import Idealize.ShloMosaic.Lib.ReduceAll
public import Idealize.ShloMosaic.Lib.Quiescent

@[expose] public section

noncomputable section

namespace Cert.Proof.CrossClaims

open Idealize.ShloMosaic Idealize.ShloMosaic.TcCoe Idealize.SL.Sem Cert.Kernel2Ideal.CrossRun

/-- The shape relations the precondition takes. -/
instance pre_facts : Cert.Pre_finite_inputs.Facts where
  bcast_S_S16384x2048 := by decide
  reducesTo_S16384x2048_S_d0_1 := by decide
  h_S_ := by decide
  bcast_S_S1x2048 := by decide
  reducesTo_S1x2048_S_d0_1 := by decide
  bcast_S_S1x2048x2048 := by decide
  reducesTo_S1x2048x2048_S_d0_1_2 := by decide
  bitsLt_bf16_f32 := by decide
  bcast_S_S1024x2048 := by decide
  reducesTo_S1024x2048_S_d0_1 := by decide

/-- A comparison of an absolute value with infinity that came out true: the value is real. -/
theorem real_of_cmp (x : EReal) (h : Ideal.cmp .olt (max x (-x)) (Ideal.ofBits .f32 0x7F800000#32) = 1#1) : ∃ r : ℝ, x = r := by
  rw [word_top] at h
  refine real_of_abs_lt x ?_
  by_contra hx
  simp [Ideal.cmp, hx] at h

/-- A reduction by `and` of comparisons with infinity that came out true: every element is real. -/
theorem real_of_all {s : Shape} {axes : List (Fin s.rank)} (x : FVec Ideal s .f32) (y : FVec Ideal s .f32) (hy : ∀ i, y i = Ideal.ofBits .f32 0x7F800000#32)
    (v : IVec Cert.Pre_finite_inputs.S_ 1) (h : s.ReducesTo axes Cert.Pre_finite_inputs.S_) (hu : 0 < Cert.Pre_finite_inputs.S_.numel) (j : Cert.Pre_finite_inputs.S_.Idx)
    (e : Host.reduce IntOp.andi (cmpf .olt (Host.absf x) y) v h hu j = 1#1) (i : s.Idx) : ∃ r : ℝ, x i = r := by
  have : Subsingleton Cert.Pre_finite_inputs.S_.Idx := ⟨fun a b => funext fun k => k.elim0⟩
  have e' := Host.reduce_andi_all _ _ _ _ j e i
  refine real_of_cmp _ ?_
  rw [← hy i]
  exact e'

/-- What the precondition says: the hidden state, the gain, the query weights and the memory keys are finite. -/
theorem finite_of_pre (a0 : X0) (a1 : X1) (a2 : X2) (a3 a4 : X3) (a5 : X2) (a6 : X1) (a7 : FVec Ideal Cert.Pre_finite_inputs.S1x2048x4 .f32) (a8 : FVec Ideal Cert.Pre_finite_inputs.S1x4 .f32)
    (a9 : FVec Ideal Cert.Pre_finite_inputs.S1x2048x32 .f32) (a10 : FVec Ideal Cert.Pre_finite_inputs.S1x32 .f32)
    (h : Cert.Pre_finite_inputs.fn (F := Ideal) a0 a1 a2 a3 a4 a5 a6 a7 a8 a9 a10 = (fun _ => 1#1)) : Finite a0 a1 a2 a3 := by
  have e := congrFun h (Shape.Idx.first pre_facts.h_S_)
  unfold Cert.Pre_finite_inputs.fn Cert.Pre_finite_inputs.fn_part1 at e
  dsimp only at e
  obtain ⟨e, e3⟩ := IntOp.andi_eq_one.1 e
  obtain ⟨e, e2⟩ := IntOp.andi_eq_one.1 e
  obtain ⟨e0, e1⟩ := IntOp.andi_eq_one.1 e
  exact ⟨real_of_all _ _ (fun _ => rfl) _ _ _ _ e0, real_of_all _ _ (fun _ => rfl) _ _ _ _ e1, real_of_all _ _ (fun _ => rfl) _ _ _ _ e2,
    real_of_all _ _ (fun _ => rfl) _ _ _ _ e3⟩

/-- The cross-attention at the machine's words runs, and leaves its arguments unchanged. -/
theorem frame_k : Cert.quiescent_Kernel2 := fun m ρ _ => Cert.Kernel2.CrossRun.frame m ρ

/-- The cross-attention at the extended reals runs, and leaves its arguments unchanged, -/
theorem frame_ki : Cert.quiescent_Kernel2Ideal := fun m ρ _ => Cert.Kernel2Ideal.CrossRun.frame m ρ

/-- on finite arguments too. -/
theorem frame_ki_pre : Cert.quiescent_Kernel2Ideal_pre_finite_inputs := fun m ρ _ => Cert.Kernel2Ideal.CrossRun.frame m ρ

/-- The reference runs, and leaves its arguments unchanged; it declares no semaphore. -/
theorem frame_ri : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The same on finite arguments. -/
theorem frame_ri_pre : Cert.quiescent_Reference2Ideal_pre_finite_inputs := fun m ρ _ => frame_ri m ρ trivial

/-- The idealized text differs from the printed one in how it holds the packed rows (as the bf16 values the words pack, in the
    result array and in its window), in the score's scale (the real number it rounds), in the pack of two halves and in the
    store of the packed words as the rows they hold. -/
theorem preserves : Cert.preserves_Kernel2_Kernel2Ideal :=
  open Cert.Kernel2Ideal IdealRules.bf16_pair in
  ⟨bufferStatement S16384x2x1024 S16384x1x1024, bufferStatement S512x2x1024 S512x1x1024,
    IdealRules.named_const.statement κ "s" .f32 0x3D8293EE#32 _ rfl, packStatement S512x1024, statement S512x2x1024 S512x1x1024⟩

/-- At the extended reals, for finite hidden state, gain, query weights and memory keys, the result array is the reference's,
    element by element. -/
theorem algebraic : Cert.algebraic_Kernel2Ideal_Reference2Ideal_pre_finite_inputs := by
  intro m ρ m' ρ' hpre hagree
  refine ⟨fun c => (Cert.Kernel2Ideal.CrossRun.dats m 0 c).arrAt 7 Cert.Kernel2Ideal.cfg0.N,
    θ_run_and (Cert.Kernel2Ideal.CrossRun.run_value m ρ) (Cert.Kernel2Ideal.CrossRun.unchanged m ρ) |> (θ_run Cert.Kernel2Ideal.defs _ _).mono (fun _ h c => ⟨h.1 c, h.2 c⟩), ?_⟩
  refine (θ_run Cert.Reference2Ideal.defs _ _).mono (fun _ h c => ⟨(h c).1.trans ?_, (h c).2⟩)
    (Cert.Reference2Ideal.Value.run (F := Ideal) m' ρ')
  obtain ⟨h0, h1, h2, h3, h4, h5, h6, h7, h8, h9, h10⟩ := hagree c
  rw [Cert.Reference2Ideal.Read.val_main_v42_eq, h0, h1, h2, h3, h4, h5]
  exact (Cert.Kernel2Ideal.CrossRun.arr m c (finite_of_pre _ _ _ _ _ _ _ _ _ _ _ (hpre c))).symm

end Cert.Proof.CrossClaims

end
-- ==== Proof.Final.lean ====
module

public import proofs.«01_k».proof.Proof.Gen.KernelIdeal.Value
public import proofs.«01_k».proof.Proof.Gen.ReferenceIdeal.Read
public import Idealize.ShloMosaic.Lib.Pipeline.ValueKit
public import Idealize.ShloMosaic.Lib.Pipeline.ReadBack
public import Idealize.ShloMosaic.Lib.Pointwise
public import Idealize.ShloMosaic.Lib.BitcastConvert

@[expose] public section

set_option maxRecDepth 16384

noncomputable section

namespace Cert.KernelIdeal.Final

open Cert.KernelIdeal Cert.KernelIdeal.Gen Idealize.ShloMosaic Idealize.ShloMosaic.TcCoe Idealize.SL.Sem
open Idealize.ShloMosaic.Pipeline (Dat)

/-- Column `b` of a row of packed words: the low half of word `b` for the first 1024 columns, the high half of word
    `b - 1024` for the others. -/
def unp (w : Fin 1024 → BitVec 32) (b : Fin 2048) : EReal :=
  if h : b.val < 1024 then Ideal.ofBits .bf16 ((w ⟨b.val, h⟩).extractLsb' 0 16)
  else Ideal.ofBits .bf16 ((w ⟨b.val - 1024, by omega⟩).extractLsb' 16 16)

/-- A row of the combination: the residual row plus the two gated expert rows. -/
def comb (h : Fin 2048 → EReal) (g0 g1 : EReal) (w0 w1 : Fin 1024 → BitVec 32) (b : Fin 2048) : EReal :=
  (h b + g0 * unp w0 b) + g1 * unp w1 b

/-- The root-mean-square normalization of a row `z`, with gain `g`. -/
def rowNorm (z g : Fin 2048 → EReal) (b : Fin 2048) : EReal :=
  z b * Ideal.rsqrt (Ideal.div (∑ x, z x * z x) (Ideal.ofBits .f32 1157627904#32) + Ideal.ofBits .f32 897988541#32) * g b

open Cert.ReferenceIdeal.Read in
/-- The reference's combined rows, at an index. -/
theorem ref_comb (x0 : (⟨S16384x2048, .f32⟩ : BufTy).Contents (Elt Ideal)) (x1 : (⟨S33536x1024, .i32⟩ : BufTy).Contents (Elt Ideal)) (x2 : (⟨S16384x128, .f32⟩ : BufTy).Contents (Elt Ideal)) (a : Fin 16384) (b : Fin 2048) :
    Cert.ReferenceIdeal.Read.val_main_v20 (F := Ideal) x0 x1 x2 (ix2 a b)
      = comb (fun b => x0 (ix2 a b)) (x2 (ix2 a 0)) (x2 (ix2 a 1)) (fun l => x1 (ix2 ⟨a.val, by omega⟩ l))
          (fun l => x1 (ix2 ⟨16384 + a.val, by omega⟩ l)) b := by
  unfold val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0
  pointwise []
  unfold comb unp
  rfl

open Cert.ReferenceIdeal.Read in
/-- The reference's result, at an index: the normalized combined row. -/
theorem ref_at (x0 : (⟨S16384x2048, .f32⟩ : BufTy).Contents (Elt Ideal)) (x1 : (⟨S33536x1024, .i32⟩ : BufTy).Contents (Elt Ideal)) (x2 : (⟨S16384x128, .f32⟩ : BufTy).Contents (Elt Ideal)) (x3 : (⟨S2048, .f32⟩ : BufTy).Contents (Elt Ideal)) (a : Fin 16384) (b : Fin 2048) :
    Cert.ReferenceIdeal.Read.val_main_v33 (F := Ideal) x0 x1 x2 x3 (ix2 a b)
      = rowNorm (comb (fun b => x0 (ix2 a b)) (x2 (ix2 a 0)) (x2 (ix2 a 1)) (fun l => x1 (ix2 ⟨a.val, by omega⟩ l))
          (fun l => x1 (ix2 ⟨16384 + a.val, by omega⟩ l))) (fun b => x3 (ix1 b)) b := by
  unfold val_main_v33 val_main_v32 val_main_v31 val_main_v30 val_main_v29 val_main_v28 val_main_v27 val_main_v26 val_main_v25 val_main_v24 val_main_v23 val_main_v22 val_main_v21 val_main_cst val_main_cst_0 val_main_cst_1
  pointwise []
  unfold rowNorm
  simp only [ref_comb, zero_add]

/-- What a grid point leaves in the result's block, as the pieces it stores, at an index of the block. -/
theorem block_at (v0 : Vec Ideal S512x2048 .f32) (v1 v2 : Vec Ideal S512x1024 .i32) (v3 : Vec Ideal S512x128 .f32)
    (v4 : Vec Ideal S1x2048 .f32) (r : Fin 512) (b : Fin 2048) :
    View.canon (Val := Elt Ideal) (s := S512x2048) (e := .f32)
      [⟨Rect.unit ![0, 1024] ![512, 1024] inb_S512x2048_S512x1024_0_1024,
          k0_pay2 (F := Ideal)
            (k0_pay4 v3 v1 v2
              (View.ld v0 (Rect.unit ![0, 1024] ![512, 1024] inb_S512x2048_S512x1024_0_1024)))
            (k0_pay5 v3 v1 v2
              (View.ld v0 (Rect.unit ![0, 0] ![512, 1024] inb_S512x2048_S512x1024_0_0))
              (View.ld v0 (Rect.unit ![0, 1024] ![512, 1024] inb_S512x2048_S512x1024_0_1024)))
            (View.ld v4 (Rect.unit ![0, 1024] ![1, 1024] inb_S1x2048_S1x1024_0_1024))⟩,
        ⟨Rect.unit ![0, 0] ![512, 1024] inb_S512x2048_S512x1024_0_0,
          k0_pay1 (F := Ideal)
            (k0_pay6 v3 v1 v2
              (View.ld v0 (Rect.unit ![0, 0] ![512, 1024] inb_S512x2048_S512x1024_0_0))
              (View.ld v0 (Rect.unit ![0, 1024] ![512, 1024] inb_S512x2048_S512x1024_0_1024)))
            (View.ld v4 (Rect.unit ![0, 0] ![1, 1024] inb_S1x2048_S1x1024_0_0))⟩] (ix2 r b)
      = rowNorm (comb (fun b => v0 (ix2 r b)) (v3 (ix2 r 0)) (v3 (ix2 r 1)) (fun l => v1 (ix2 r l)) (fun l => v2 (ix2 r l)))
          (fun b => v4 (ix2 0 b)) b := by
  have lo (l : Fin 1024) : k0_pay3 (F := Ideal) v3 v1 v2 (View.ld v0 (Rect.unit ![0, 0] ![512, 1024] inb_S512x2048_S512x1024_0_0)) (ix2 r l)
      = comb (fun b => v0 (ix2 r b)) (v3 (ix2 r 0)) (v3 (ix2 r 1)) (fun l => v1 (ix2 r l)) (fun l => v2 (ix2 r l)) ⟨l.val, by omega⟩ := by
    pointwise [k0_pay3]
    unfold comb unp
    rw [dif_pos l.isLt, dif_pos l.isLt]
  have hi (l : Fin 1024) : k0_pay4 (F := Ideal) v3 v1 v2 (View.ld v0 (Rect.unit ![0, 1024] ![512, 1024] inb_S512x2048_S512x1024_0_1024)) (ix2 r l)
      = comb (fun b => v0 (ix2 r b)) (v3 (ix2 r 0)) (v3 (ix2 r 1)) (fun l => v1 (ix2 r l)) (fun l => v2 (ix2 r l)) ⟨1024 + l.val, by omega⟩ := by
    pointwise [k0_pay4]
    unfold comb unp
    rw [dif_neg (by simp), dif_neg (by simp)]
    simp only [Nat.add_sub_cancel_left]
  have inv : k0_pay5 (F := Ideal) v3 v1 v2
              (View.ld v0 (Rect.unit ![0, 0] ![512, 1024] inb_S512x2048_S512x1024_0_0))
              (View.ld v0 (Rect.unit ![0, 1024] ![512, 1024] inb_S512x2048_S512x1024_0_1024)) (ix2 r 0)
      = Ideal.rsqrt (Ideal.div (∑ x, comb (fun b => v0 (ix2 r b)) (v3 (ix2 r 0)) (v3 (ix2 r 1)) (fun l => v1 (ix2 r l)) (fun l => v2 (ix2 r l)) x
          * comb (fun b => v0 (ix2 r b)) (v3 (ix2 r 0)) (v3 (ix2 r 1)) (fun l => v1 (ix2 r l)) (fun l => v2 (ix2 r l)) x) (Ideal.ofBits .f32 1157627904#32) + Ideal.ofBits .f32 897988541#32) := by
    pointwise [k0_pay5]
    simp only [lo, hi]
    rw [Fin.sum_univ_two_halves 1024 1024 rfl (fun x => comb (fun b => v0 (ix2 r b)) (v3 (ix2 r 0)) (v3 (ix2 r 1)) (fun l => v1 (ix2 r l)) (fun l => v2 (ix2 r l)) x
          * comb (fun b => v0 (ix2 r b)) (v3 (ix2 r 0)) (v3 (ix2 r 1)) (fun l => v1 (ix2 r l)) (fun l => v2 (ix2 r l)) x)]
  have p0 (l : Fin 1024) : k0_pay6 (F := Ideal) v3 v1 v2
              (View.ld v0 (Rect.unit ![0, 0] ![512, 1024] inb_S512x2048_S512x1024_0_0))
              (View.ld v0 (Rect.unit ![0, 1024] ![512, 1024] inb_S512x2048_S512x1024_0_1024)) (ix2 r l)
      = comb (fun b => v0 (ix2 r b)) (v3 (ix2 r 0)) (v3 (ix2 r 1)) (fun l => v1 (ix2 r l)) (fun l => v2 (ix2 r l)) ⟨l.val, by omega⟩
        * Ideal.rsqrt (Ideal.div (∑ x, comb (fun b => v0 (ix2 r b)) (v3 (ix2 r 0)) (v3 (ix2 r 1)) (fun l => v1 (ix2 r l)) (fun l => v2 (ix2 r l)) x
          * comb (fun b => v0 (ix2 r b)) (v3 (ix2 r 0)) (v3 (ix2 r 1)) (fun l => v1 (ix2 r l)) (fun l => v2 (ix2 r l)) x) (Ideal.ofBits .f32 1157627904#32) + Ideal.ofBits .f32 897988541#32) := by
    pointwise [k0_pay6]
    simp only [lo, inv]
  canon_tiles x h
  · obtain ⟨r', l, rfl⟩ : ∃ (r' : Fin 512) (l : Fin 1024), x = ix2 r' l := ⟨x 0, x 1, eq_ix2 x⟩
    obtain rfl : r = r' := Fin.ext h0
    obtain ⟨bv, hb⟩ := b
    obtain rfl : bv = 1024 + l.val := h1
    pointwise [k0_pay2]
    rw [hi, inv]
    rfl
  · obtain ⟨r', l, rfl⟩ : ∃ (r' : Fin 512) (l : Fin 1024), x = ix2 r' l := ⟨x 0, x 1, eq_ix2 x⟩
    obtain rfl : r = r' := Fin.ext h0
    obtain ⟨bv, hb⟩ := b
    obtain rfl : bv = l.val := h1
    pointwise [k0_pay1]
    rw [p0]
    rfl

/-- Where each window's block lies at point `t`. -/
theorem idx : ∀ t : Fin cfg0.N, win0_0.index t = ![t.val, 0] ∧ win0_1.index t = ![t.val, 0] ∧ win0_2.index t = ![t.val + 32, 0]
    ∧ win0_3.index t = ![t.val, 0] ∧ win0_4.index t = ![0, 0] ∧ win0_5.index t = ![t.val, 0] :=
  (by decide +kernel : ∀ t : Fin grid0.N, _)

variable (m : (ℓ : Loc nD τ sig) → Buf (Elt Ideal) ℓ)

theorem arr (c : Dev nD) : (dats m 0 c).arrAt 5 cfg0.N
    = Cert.ReferenceIdeal.Read.val_main_v33 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  unfold outsAt0
  frame_out
  obtain ⟨r, b, rfl⟩ : ∃ (r : Fin 512) (b : Fin 2048), y = ix2 r b := ⟨y 0, y 1, eq_ix2 y⟩
  refine (block_at _ _ _ _ _ r b).trans ?_
  obtain ⟨e0, e1, e2, e3, e4, e5⟩ := idx t
  have ht : t.val < 32 := t.isLt
  have em : ((View.whole main_v1).slice (win0_5.rect t)).emb (ix2 r b) = ix2 (⟨512 * t.val + r.val, by omega⟩ : Fin 16384) b := by
    blk_ext [e5]
  rw [em, Cert.KernelIdeal.Final.ref_at]
  congr 1
  · congr 1
    · funext b; blk_ext [iblk, V, e0]
    · blk_ext [iblk, V, e3]
    · blk_ext [iblk, V, e3]
    · funext l; unfold X0_1 Pipeline.Window.fill; rw [dif_pos (moved0_1 t _)]; blk_ext [iblk, V, e1]
    · funext l; unfold X0_2 Pipeline.Window.fill; rw [dif_pos (moved0_2 t _)]; blk_ext [iblk, V, e2]
  · funext b; blk_simp [iblk, e4]; entry_read; pointwise; blk_ext [e4]

end Cert.KernelIdeal.Final

end
-- ==== Proof.FinalClaims.lean ====
/- The claims about `combine_final_norm`, from the generated runs and `Final.lean`'s value of the result array. -/
module

public import proofs.«01_k».proof.Defs
public import proofs.«01_k».proof.Proof.Final
public import proofs.«01_k».proof.Proof.Gen.Kernel.Frame
public import Idealize.ShloMosaic.Lib.Quiescent

@[expose] public section

noncomputable section

namespace Cert.Proof.FinalClaims

open Idealize.ShloMosaic Idealize.ShloMosaic.TcCoe Idealize.SL.Sem

/-- The kernel at the machine's words runs, and leaves its arguments unchanged. -/
theorem frame_k : Cert.quiescent_Kernel := fun m ρ _ => Cert.Kernel.Gen.frame m ρ

/-- The kernel at the extended reals runs, and leaves its arguments unchanged. -/
theorem frame_ki : Cert.quiescent_KernelIdeal := fun m ρ _ => Cert.KernelIdeal.Gen.frame m ρ

/-- The reference runs, and leaves its arguments unchanged; it declares no semaphore. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- No operation of this kernel was rewritten. -/
theorem preserves : Cert.preserves_Kernel_KernelIdeal := trivial

/-- At the extended reals the kernel's result array is the reference's, element by element. -/
theorem algebraic : Cert.algebraic_KernelIdeal_ReferenceIdeal := by
  intro m ρ m' ρ' _ hagree
  refine ⟨fun c => (Cert.KernelIdeal.Gen.dats m 0 c).arrAt 5 Cert.KernelIdeal.cfg0.N,
    Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := hagree c
  rw [Cert.ReferenceIdeal.Read.val_main_v33_eq, h0, h1, h2, h3]
  exact (Cert.KernelIdeal.Final.arr m c).symm

end Cert.Proof.FinalClaims

end
-- ==== Proof.InProj.lean ====
module

public import proofs.«01_k».proof.Proof.Gen.Kernel3Ideal.Value
public import proofs.«01_k».proof.Proof.Gen.Reference3Ideal.Read
public import Idealize.ShloMosaic.Lib.Pipeline.ValueKit
public import Idealize.ShloMosaic.Lib.Pipeline.ReadBack
public import Idealize.ShloMosaic.Lib.Pointwise
public import Idealize.ShloMosaic.Lib.Routing.OpsSet
public import Idealize.ShloMosaic.Lib.Routing.OpsOne

@[expose] public section

set_option maxRecDepth 16384

noncomputable section

namespace Cert.Kernel3Ideal.InProj

open Cert.Kernel3Ideal Cert.Kernel3Ideal.Gen Idealize.ShloMosaic Idealize.ShloMosaic.TcCoe Idealize.SL.Sem
open Idealize.ShloMosaic.Pipeline (Dat)

/-- A load after one store of the whole buffer reads the stored vector. -/
theorem readCov_whole {sig : RefSig} {κ : Kind} {sp : Space} {s : Shape} {e : EltTy} (v : View sig κ sp s e) (w : s.Idx → Elt Ideal e)
    (r : Rect s) : v.readCov (Val := Elt Ideal) [⟨Rect.whole s, w⟩] r.toLoadRect = View.ld (Val := Elt Ideal) (S := s) (e' := e) w r := by
  rw [View.readCov_eq_canon']
  funext j
  refine (congrArg _ (Rect.emb_whole_apply s _).symm).trans (View.canon_cons_emb (Rect.whole s) w [] (r.toLoadRect.idx j))

/-- One store of the whole buffer leaves the stored vector. -/
theorem canon_whole {s : Shape} {e : EltTy} (w : s.Idx → Elt Ideal e) :
    View.canon (Val := Elt Ideal) (s := s) (e := e) [⟨Rect.whole s, w⟩] = w := by
  funext j
  exact (congrArg _ (Rect.emb_whole_apply s j).symm).trans (View.canon_cons_emb (Rect.whole s) w [] j)

/-- The root-mean-square normalization of a row `z`, with gain `g`. -/
def rowNorm (z g : Fin 2048 → EReal) (b : Fin 2048) : EReal :=
  z b * Ideal.rsqrt (Ideal.div (∑ x, z x * z x) (Ideal.ofBits .f32 1157627904#32) + Ideal.ofBits .f32 897988541#32) * g b

/-- A column of the projection of the normalized row. -/
def proj (z g : Fin 2048 → EReal) (w : Fin 2048 → EReal) : EReal := ∑ k, rowNorm z g k * w k

/-- The scale of the first 1024 columns. -/
def scaled (n : ℕ) (p : EReal) : EReal := if n < 1024 then p * Ideal.ofBits .f32 0x3E0293EE#32 else p

theorem norm_at (v0 : Vec Ideal S512x2048 .f32) (v1 : Vec Ideal S1x2048 .f32) (r : Fin 512) (b : Fin 2048) :
    k0_pay5 v0 v1 (ix2 r b) = rowNorm (fun b => v0 (ix2 r b)) (fun b => v1 (ix2 0 b)) b := by
  pointwise [k0_pay5]
  rfl

open Cert.Reference3Ideal.Read in
/-- The reference's product, at an index. -/
theorem ref_proj (x0 : (⟨S4x4096x2048, .f32⟩ : BufTy).Contents (Elt Ideal)) (x1 : (⟨S1x2048, .f32⟩ : BufTy).Contents (Elt Ideal)) (x2 : (⟨S1x2048x4640, .f32⟩ : BufTy).Contents (Elt Ideal)) (a : Fin 16384) (b : Fin 4640) :
    Cert.Reference3Ideal.Read.val_main_v16 (F := Ideal) x0 x1 x2 (ix2 a b)
      = proj (fun b => x0 (ix3 ⟨a.val / 4096, by omega⟩ ⟨a.val % 4096, by omega⟩ b)) (fun b => x1 (ix2 0 b)) (fun k => x2 (ix3 0 k b)) := by
  unfold val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise []
  rfl

open Cert.Reference3Ideal.Read in
theorem ref_out (x0 : (⟨S4x4096x2048, .f32⟩ : BufTy).Contents (Elt Ideal)) (x1 : (⟨S1x2048, .f32⟩ : BufTy).Contents (Elt Ideal)) (x2 : (⟨S1x2048x4640, .f32⟩ : BufTy).Contents (Elt Ideal)) (a : Fin 16384) (b : Fin 4608) :
    Cert.Reference3Ideal.Read.val_main_v24 (F := Ideal) x0 x1 x2 (ix2 a b)
      = scaled b.val (Cert.Reference3Ideal.Read.val_main_v16 (F := Ideal) x0 x1 x2 (ix2 a ⟨b.val, by omega⟩)) := by
  unfold val_main_v24 val_main_v23 val_main_v22 val_main_v19 val_main_v18 val_main_v17 val_main_cst_2
  pointwise []
  unfold scaled
  split
  · rfl
  · congr 2; apply Fin.ext; show 1024 + (b.val - 1024) = b.val; omega

open Cert.Reference3Ideal.Read in
theorem ref_lr (x0 : (⟨S4x4096x2048, .f32⟩ : BufTy).Contents (Elt Ideal)) (x1 : (⟨S1x2048, .f32⟩ : BufTy).Contents (Elt Ideal)) (x2 : (⟨S1x2048x4640, .f32⟩ : BufTy).Contents (Elt Ideal)) (a : Fin 16384) (b : Fin 128) :
    Cert.Reference3Ideal.Read.val_main_v21 (F := Ideal) x0 x1 x2 (ix2 a b)
      = if h : b.val < 32 then (Cert.Reference3Ideal.Read.val_main_v16 (F := Ideal) x0 x1 x2 (ix2 a ⟨b.val + 4608, by omega⟩)) else 0 := by
  unfold val_main_v21 val_main_v20 val_main_call0_v0 val_main_c
  pointwise []
  simp only [Nat.add_comm 4608]
  congr 1
  funext _
  exact congrArg Real.toEReal Int.cast_zero

/-- Where the one update of the narrow weights lands: at its own index. -/
theorem lands (idx : IVec S1 32) (h : idx = fun _ => 0#32) (k a : Fin 2048) (l : Fin 32) (b : Fin 128) :
    scatter_S2048x128_S1_S2048x32_01_n_1_0.resultIdx? (ix2 k l) idx = some (ix2 a b) ↔ k = a ∧ l.val = b.val := by
  have w0 : scatter_S2048x128_S1_S2048x32_01_n_1_0.window (ix2 k l) 0 = k.val := rfl
  have w1 : scatter_S2048x128_S1_S2048x32_01_n_1_0.window (ix2 k l) 1 = l.val := rfl
  have s0 : scatter_S2048x128_S1_S2048x32_01_n_1_0.start (ix2 k l) idx 0 = 0 := by subst h; rfl
  have s1 : scatter_S2048x128_S1_S2048x32_01_n_1_0.start (ix2 k l) idx 1 = 0 := by subst h; rfl
  refine (Routing.resultIdx?_ix2 (R := 2048) (C := 128) scatter_S2048x128_S1_S2048x32_01_n_1_0 (ix2 k l) idx a b).trans ?_
  rw [s0, s1, w0, w1, Fin.ext_iff]
  omega

/-- The narrow weights over the zeros, at an index. -/
theorem scat_at (idx : IVec S1 32) (h : idx = fun _ => 0#32) (x : S2048x128.Idx → EReal) (u : S2048x32.Idx → EReal) (a : Fin 2048) (b : Fin 128) :
    Host.scatter scatter_S2048x128_S1_S2048x32_01_n_1_0 (fun _ b => b) x idx u (ix2 a b) = if h : b.val < 32 then u (ix2 a ⟨b.val, h⟩) else x (ix2 a b) := by
  split
  · next hb =>
    refine Routing.scatter_set_hit _ x idx u (ix2 a b) _ (fun q hk => ?_) (ix2 a ⟨b.val, hb⟩) ((lands idx h a a ⟨b.val, hb⟩ b).2 ⟨rfl, rfl⟩)
    obtain ⟨k, l, rfl⟩ : ∃ (k : Fin 2048) (l : Fin 32), q = ix2 k l := ⟨q 0, q 1, eq_ix2 q⟩
    obtain ⟨ek, e⟩ := (lands idx h k a l b).1 hk
    rw [ek, show l = ⟨b.val, hb⟩ from Fin.ext e]
  · next hb =>
    refine Routing.scatter_set_miss _ x idx u (ix2 a b) (fun q hk => ?_)
    obtain ⟨k, l, rfl⟩ : ∃ (k : Fin 2048) (l : Fin 32), q = ix2 k l := ⟨q 0, q 1, eq_ix2 q⟩
    exact hb (by have := ((lands idx h k a l b).1 hk).2; omega)

/-- Where each window's block lies at point `t`. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- What a grid point leaves in the first result's block, as the pieces it stores, at an index of the block. -/
theorem block_at (v0 : Vec Ideal S512x2048 .f32) (v1 : Vec Ideal S1x2048 .f32) (w : Vec Ideal S2048x4608 .bf16) (r : Fin 512) (b : Fin 4608) :
    View.canon (Val := Elt Ideal) (s := S512x4608) (e := .bf16)
      [⟨Rect.unit ![0, 4096] ![512, 512] inb_S512x4608_S512x512_0_4096,
          k0_pay3 (k0_pay5 v0 v1) (View.ld w (Rect.unit ![0, 4096] ![2048, 512] inb_S2048x4608_S2048x512_0_4096))⟩,
        ⟨Rect.unit ![0, 3584] ![512, 512] inb_S512x4608_S512x512_0_3584,
          k0_pay2 (k0_pay5 v0 v1) (View.ld w (Rect.unit ![0, 3584] ![2048, 512] inb_S2048x4608_S2048x512_0_3584))⟩,
        ⟨Rect.unit ![0, 3072] ![512, 512] inb_S512x4608_S512x512_0_3072,
          k0_pay1 (k0_pay5 v0 v1) (View.ld w (Rect.unit ![0, 3072] ![2048, 512] inb_S2048x4608_S2048x512_0_3072))⟩,
        ⟨Rect.unit ![0, 2560] ![512, 512] inb_S512x4608_S512x512_0_2560,
          k0_pay11 (k0_pay5 v0 v1) (View.ld w (Rect.unit ![0, 2560] ![2048, 512] inb_S2048x4608_S2048x512_0_2560))⟩,
        ⟨Rect.unit ![0, 2048] ![512, 512] inb_S512x4608_S512x512_0_2048,
          k0_pay10 (k0_pay5 v0 v1) (View.ld w (Rect.unit ![0, 2048] ![2048, 512] inb_S2048x4608_S2048x512_0_2048))⟩,
        ⟨Rect.unit ![0, 1536] ![512, 512] inb_S512x4608_S512x512_0_1536,
          k0_pay9 (k0_pay5 v0 v1) (View.ld w (Rect.unit ![0, 1536] ![2048, 512] inb_S2048x4608_S2048x512_0_1536))⟩,
        ⟨Rect.unit ![0, 1024] ![512, 512] inb_S512x4608_S512x512_0_1024,
          k0_pay8 (k0_pay5 v0 v1) (View.ld w (Rect.unit ![0, 1024] ![2048, 512] inb_S2048x4608_S2048x512_0_1024))⟩,
        ⟨Rect.unit ![0, 512] ![512, 512] inb_S512x4608_S512x512_0_512,
          k0_pay7 (k0_pay5 v0 v1) (View.ld w (Rect.unit ![0, 512] ![2048, 512] inb_S2048x4608_S2048x512_0_512))
            (constant S512x512 FTy.f32 0#32)⟩,
        ⟨Rect.unit ![0, 0] ![512, 512] inb_S512x4608_S512x512_0_0,
          k0_pay6 (k0_pay5 v0 v1) (View.ld w (Rect.unit ![0, 0] ![2048, 512] inb_S2048x4608_S2048x512_0_0))⟩] (ix2 r b)
      = scaled b.val (proj (fun b => v0 (ix2 r b)) (fun b => v1 (ix2 0 b)) (fun k => w (ix2 k b))) := by
  canon_tiles x h
  all_goals
    obtain ⟨r', l, rfl⟩ : ∃ (r' : Fin 512) (l : Fin 512), x = ix2 r' l := ⟨x 0, x 1, eq_ix2 x⟩
    obtain rfl : r = r' := Fin.ext h0
    obtain ⟨bv, hb⟩ := b
    pointwise [k0_pay1, k0_pay2, k0_pay3, k0_pay6, k0_pay7, k0_pay8, k0_pay9, k0_pay10, k0_pay11]
    simp only [norm_at]
    unfold proj scaled
  all_goals
    first
      | rw [if_pos (by simp at h1; omega)]
      | rw [if_neg (by simp at h1; omega)]
    simp at h1
    subst h1
    simp only [Nat.zero_add]

/-- What a grid point leaves in the second result's block, at an index. -/
theorem lr_at (v0 : Vec Ideal S512x2048 .f32) (v1 : Vec Ideal S1x2048 .f32) (w : Vec Ideal S2048x128 .bf16) (r : Fin 512) (b : Fin 128) :
    k0_pay4 (k0_pay5 v0 v1) w (ix2 r b) = proj (fun b => v0 (ix2 r b)) (fun b => v1 (ix2 0 b)) (fun k => w (ix2 k b)) := by
  pointwise [k0_pay4]
  simp only [norm_at]
  rfl

end Cert.Kernel3Ideal.InProj

end
-- ==== Proof.InProjVal.lean ====
module

public import proofs.«01_k».proof.Proof.InProj
public import proofs.«01_k».proof.Proof.Gen.Reference3Ideal.Read
public import Idealize.ShloMosaic.Lib.Pipeline.ValueKit
public import Idealize.ShloMosaic.Lib.Pipeline.ReadBack
public import Idealize.ShloMosaic.Lib.Pointwise
public import Idealize.ShloMosaic.Lib.Routing.OpsSet
public import Idealize.ShloMosaic.Lib.Routing.OpsOne

@[expose] public section

set_option maxRecDepth 16384

noncomputable section

namespace Cert.Kernel3Ideal.InProj

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The weights the first point copies into scratch, held by every point. -/
def W (c : Dev nD) : Vec Ideal S2048x4608 .bf16 :=
  ReadAs.same.apply (View.read (Elt Ideal) ((View.whole main_v7).slice (Rect.unit ![0, 0] ![2048, 4608] inb_S2048x4640_S2048x4608_0_0)) (V m c main_v7))

theorem held (c : Dev nD) (n : ℕ) (hn : n < cfg0.N) : (outsAt0 m c n hn).2.2 = W m c := by
  induction n with
  | zero =>
    rw [outsAt0_A m c ⟨0, hn⟩ (Nat.zero_mod _)]
    dsimp only
    frame_out
    rw [canon_whole]
    rfl
  | succ n ih =>
    rw [outsAt0_B m c ⟨n+1, hn⟩ (by have : n + 1 < 32 := hn
                                    show ¬ (n+1) % 32 = 0; omega)]
    exact ih _

/-- The rows the first window stages at point `t`. -/
theorem x0_at (c : Dev nD) (t : Fin cfg0.N) (r : Fin 512) : (fun b => iblk m c 0 t (ix2 r b))
    = fun b => (m ((c : Thread nD τ).loc main_arg0)) (ix3 ⟨(512 * t.val + r.val) / 4096, by have : t.val < 32 := t.isLt; omega⟩ ⟨(512 * t.val + r.val) % 4096, by omega⟩ b) := by
  obtain ⟨e0, e1, e2, e3, e4⟩ := idx t
  have ht : t.val < 32 := t.isLt
  funext b; blk_simp [iblk, e0]
  have em : ((View.whole main_v8).slice (win0_0.rect t)).emb (ix2 r b) = ix2 (⟨512 * t.val + r.val, by omega⟩ : Fin 16384) b := by
    blk_ext [e0]
  rw [em]
  entry_read; pointwise

/-- The gain. -/
theorem x1_at (c : Dev nD) (t : Fin cfg0.N) : (fun b => iblk m c 1 t (ix2 0 b)) = fun b => (m ((c : Thread nD τ).loc main_arg1)) (ix2 0 b) := by
  obtain ⟨e0, e1, e2, e3, e4⟩ := idx t
  funext b; blk_simp [iblk, e1]; entry_read; pointwise
  blk_ext [e1]

/-- The weights held in scratch. -/
theorem W_at (c : Dev nD) (k : Fin 2048) (j : Fin 4608) : W m c (ix2 k j) = (m ((c : Thread nD τ).loc main_arg2)) (ix3 0 k ⟨j.val, by omega⟩) := by
  unfold W
  show V m c main_v7 (((View.whole main_v7).slice (Rect.unit ![0, 0] ![2048, 4608] inb_S2048x4640_S2048x4608_0_0)).emb (ix2 k j)) = _
  have em : ((View.whole main_v7).slice (Rect.unit ![0, 0] ![2048, 4608] inb_S2048x4640_S2048x4608_0_0)).emb (ix2 k j) = ix2 k (⟨j.val, by omega⟩ : Fin 4640) := by
    ext a; fin_cases a <;> simp
  rw [em]
  entry_read; pointwise

/-- The narrow weights: the last 32 columns, then zeros. -/
theorem x2_at (c : Dev nD) (t : Fin cfg0.N) (k : Fin 2048) (j : Fin 128) : iblk m c 2 t (ix2 k j) = if h : j.val < 32 then (m ((c : Thread nD τ).loc main_arg2)) (ix3 0 k ⟨j.val + 4608, by omega⟩) else (0 : EReal) := by
  obtain ⟨e0, e1, e2, e3, e4⟩ := idx t
  blk_simp [iblk, e2]
  have em : ((View.whole main_v5).slice (win0_2.rect t)).emb (ix2 k j) = ix2 k j := by
    blk_ext [e2]
  rw [em]
  entry_read
  pointwise
  rw [scat_at _ (by funext i; rfl)]
  by_cases h : j.val < 32
  · rw [dif_pos h, dif_pos h]
    pointwise
    exact congrArg (fun q => m ((c : Thread nD τ).loc main_arg2) (ix3 0 k q)) (Fin.ext (Nat.add_comm _ _))
  · rw [dif_neg h, dif_neg h]
    pointwise

set_option maxHeartbeats 400000 in
/-- The projection array is the reference's. -/
theorem arr3 (c : Dev nD) : (dats m 0 c).arrAt 3 cfg0.N
    = Cert.Reference3Ideal.Read.val_main_v24 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨r, b, rfl⟩ : ∃ (r : Fin 512) (b : Fin 4608), y = ix2 r b := ⟨y 0, y 1, eq_ix2 y⟩
  have key : (outsAt0 m c t.val t.isLt).1 (ix2 r b) = scaled b.val (proj (fun b => iblk m c 0 t (ix2 r b)) (fun b => iblk m c 1 t (ix2 0 b)) (fun k => W m c (ix2 k b))) := by
    by_cases h0 : t.val % 32 = 0
    · rw [outsAt0_A m c t h0]
      dsimp only
      frame_open
      simp (disch := decide) only [↓ View.readCov_skip, ↓ View.readCov_cons_toLoadRect, ↓ View.readCov_fill, ↓ readCov_whole]
      frame_out
      have hb := block_at (iblk m c 0 t) (iblk m c 1 t) (W m c) r b
      unfold W at hb ⊢
      exact hb
    · rw [outsAt0_B m c t h0]
      dsimp only
      frame_open
      simp (disch := decide) only [↓ View.readCov_skip, ↓ View.readCov_cons_toLoadRect, ↓ View.readCov_fill]
      frame_out
      simp only [read_unread_whole, held]
      exact block_at _ _ _ r b
  rw [show (outsAt0 m c t.val t.isLt).1 _ = _ from key]
  obtain ⟨e0, e1, e2, e3, e4⟩ := idx t
  have ht : t.val < 32 := t.isLt
  have em : ((View.whole main_v11_0).slice (win0_3.rect t)).emb (ix2 r b) = ix2 (⟨512 * t.val + r.val, by omega⟩ : Fin 16384) b := by
    blk_ext [e3]
  rw [em, ref_out, ref_proj, x0_at m c t r, x1_at m c t]
  congr 2
  funext k
  rw [W_at]

/-- The product with zero weights. -/
theorem proj_zero (z g : Fin 2048 → EReal) : proj z g (fun _ => 0) = 0 :=
  Finset.sum_eq_zero fun k _ => mul_zero _

/-- The narrow projection array is the reference's. -/
theorem arr4 (c : Dev nD) : (dats m 0 c).arrAt 4 cfg0.N
    = Cert.Reference3Ideal.Read.val_main_v21 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  obtain ⟨r, b, rfl⟩ : ∃ (r : Fin 512) (b : Fin 128), y = ix2 r b := ⟨y 0, y 1, eq_ix2 y⟩
  have key : (outsAt0 m c t.val t.isLt).2.1 (ix2 r b) = proj (fun b => iblk m c 0 t (ix2 r b)) (fun b => iblk m c 1 t (ix2 0 b)) (fun k => iblk m c 2 t (ix2 k b)) := by
    by_cases h0 : t.val % 32 = 0
    · rw [outsAt0_A m c t h0]
      dsimp only
      frame_open
      simp (disch := decide) only [↓ View.readCov_skip, ↓ View.readCov_cons_toLoadRect, ↓ View.readCov_fill]
      frame_out
      exact lr_at _ _ _ r b
    · rw [outsAt0_B m c t h0]
      dsimp only
      frame_open
      simp (disch := decide) only [↓ View.readCov_skip, ↓ View.readCov_cons_toLoadRect, ↓ View.readCov_fill]
      frame_out
      exact lr_at _ _ _ r b
  rw [show (outsAt0 m c t.val t.isLt).2.1 _ = _ from key]
  obtain ⟨e0, e1, e2, e3, e4⟩ := idx t
  have ht : t.val < 32 := t.isLt
  have em : ((View.whole main_v11_1).slice (win0_4.rect t)).emb (ix2 r b) = ix2 (⟨512 * t.val + r.val, by omega⟩ : Fin 16384) b := by
    blk_ext [e4]
  rw [em, ref_lr]
  simp only [ref_proj]
  rw [x0_at m c t r, x1_at m c t]
  by_cases hb : b.val < 32
  · rw [dif_pos hb]
    exact congrArg (proj _ _) (funext fun k => (x2_at m c t k b).trans (dif_pos hb))
  · rw [dif_neg hb]
    exact (congrArg (proj _ _) (funext fun k => (x2_at m c t k b).trans (dif_neg hb))).trans (proj_zero _ _)

end Cert.Kernel3Ideal.InProj

end
-- ==== Proof.InProjClaims.lean ====
/- The claims about the input projection, from the generated runs and `InProjVal.lean`'s values of the two result arrays. -/
module

public import proofs.«01_k».proof.Defs
public import proofs.«01_k».proof.Proof.InProjVal
public import proofs.«01_k».proof.Proof.Gen.Kernel3.Frame
public import proofs.«01_k».proof.Proof.Gen.Reference3Ideal.Run
public import Idealize.ShloMosaic.Lib.Quiescent

@[expose] public section

noncomputable section

namespace Cert.Proof.InProjClaims

open Idealize.ShloMosaic Idealize.ShloMosaic.TcCoe Idealize.SL.Sem

/-- The input projection at the machine's words runs, and leaves its arguments unchanged. -/
theorem frame_k : Cert.quiescent_Kernel3 := fun m ρ _ => Cert.Kernel3.Gen.frame m ρ

/-- The input projection at the extended reals runs, and leaves its arguments unchanged. -/
theorem frame_ki : Cert.quiescent_Kernel3Ideal := fun m ρ _ => Cert.Kernel3Ideal.Gen.frame m ρ

/-- The reference runs, and leaves its arguments unchanged; it declares no semaphore. -/
theorem frame_ri : Cert.quiescent_Reference3Ideal := fun m ρ _ =>
  (θ_run Cert.Reference3Ideal.defs _ _).mono (fun r h => ⟨fun c => (h c).2.2,
      Idealize.ShloMosaic.sem_eq_zero_of_no_sems (by decide) r.2⟩)
    (Cert.Reference3Ideal.Value.run (F := Ideal) m ρ)

/-- No operation of this kernel was rewritten. -/
theorem preserves : Cert.preserves_Kernel3_Kernel3Ideal := trivial

/-- At the extended reals both result arrays are the reference's, element by element. -/
theorem algebraic : Cert.algebraic_Kernel3Ideal_Reference3Ideal := by
  intro m ρ m' ρ' _ hagree
  refine ⟨fun c => (Cert.Kernel3Ideal.Gen.dats m 0 c).arrAt 3 Cert.Kernel3Ideal.cfg0.N,
    fun c => (Cert.Kernel3Ideal.Gen.dats m 0 c).arrAt 4 Cert.Kernel3Ideal.cfg0.N,
    Cert.Kernel3Ideal.Value.run_blocks (F := Ideal) m ρ, ?_⟩
  refine (θ_run Cert.Reference3Ideal.defs _ _).mono (fun _ h c => ⟨(h c).1.trans ?_, (h c).2.1.trans ?_, (h c).2.2⟩)
    (Cert.Reference3Ideal.Value.run (F := Ideal) m' ρ')
  · obtain ⟨h0, h1, h2⟩ := hagree c
    rw [Cert.Reference3Ideal.Read.val_main_v24_eq, h0, h1, h2]
    exact (Cert.Kernel3Ideal.InProj.arr3 m c).symm
  · obtain ⟨h0, h1, h2⟩ := hagree c
    rw [Cert.Reference3Ideal.Read.val_main_v21_eq, h0, h1, h2]
    exact (Cert.Kernel3Ideal.InProj.arr4 m c).symm

end Cert.Proof.InProjClaims

end
-- ==== Proof.OutLoad.lean ====
module

public import proofs.«01_k».proof.Proof.Gen.Kernel4Ideal.Frame
public import proofs.«01_k».proof.Proof.Gen.Kernel4Ideal.Skeleton
public import proofs.«01_k».proof.Proof.Slots

@[expose] public section

set_option maxRecDepth 16384

noncomputable section

namespace Cert.Kernel4Ideal.OutRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (Pipeline.UD sig nD τ) ℕ

abbrev first (i : grid0.Coords) : Prop := (Scalar.cmpi .ne (Scalar.extui (Scalar.cmpi .eq (BitVec.ofNat 32 (i 0).val) 0#32)) 0#32) = 1#1

abbrev hbPt0 (c : Dev nD) {sp : Space} {S : Shape} {e : EltTy} (M : Memref sig .tc sp S e) (f : Buf (Elt F) (M.view.loc (c : Thread nD τ))) : sProp 𝕄 :=
  M.view.loc (c : Thread nD τ) ↦{fullShare} f

/-- The contents type of the weights' array. -/
abbrev WBuf (c : Dev nD) : Type := Buf (Elt F) ((Memref.whole main_arg3 : Memref sig .tc .hbm S1x2048x2048 .f32).view.loc (c : Thread nD τ))

/-- The weights as the kernel keeps them: the array's one matrix, narrowed. -/
def Wt (c : Dev nD) (fh : WBuf (F := F) c) : Vec F S2048x2048 .bf16 := fun j => FloatOps.truncf .bf16 bitsLt_bf16_f32 (fh (ix3 0 (j 0) (j 1)))

/-- The cast of a slab, at an index. -/
theorem pay3_at (v : Vec F S1x128x2048 .f32) (x : S128x2048.Idx) :
    k0_pay3 v x = FloatOps.truncf .bf16 bitsLt_bf16_f32 (shapeCast S128x2048 v shapeCasts_S1x128x2048_S128x2048 x) :=
  by unfold k0_pay3; exact congrFun (shapeCast_self (truncf .bf16 (shapeCast S128x2048 v _) bitsLt_bf16_f32) _) x

/-- A slab of the array, flattened to a matrix, is the matrix's slab. -/
theorem slab_at {α : Type} (g : S1x2048x2048.Idx → α) (o : ℕ) (inbo) (inbw) (x : S128x2048.Idx) :
    shapeCast S128x2048 (fun y : S1x128x2048.Idx => g ((Rect.unit (s := S1x2048x2048) ![0, o, 0] S1x128x2048.size inbo).emb y)) shapeCasts_S1x128x2048_S128x2048 x
      = g (ix3 0 ((Rect.unit (s := S2048x2048) ![o, 0] S128x2048.size inbw).emb x 0) ((Rect.unit (s := S2048x2048) ![o, 0] S128x2048.size inbw).emb x 1)) := by
  pointwise []
  refine congrArg g (funext fun a => Fin.ext ?_)
  fin_cases a <;> simp

/-- A slab cast right after its copy is the weights' slab. -/
theorem slab (c : Dev nD) (M : Memref sig .tc .vmem S2x128x2048 .f32) (fh : WBuf (F := F) c) (off : Fin 3 → ℕ) (inb) (hr) (o : ℕ) (inbo) (hro) (f) (inbw)
    (x : S128x2048.Idx) :
    k0_pay3 (View.readAt (Elt F) M.view (Rect.unit (s := S2x128x2048) off S1x128x2048.size inb).toLoadRect
      (View.write (Elt F) ((M.slice (Rect.unit (s := S2x128x2048) off S1x128x2048.size inb) hr).squeeze S128x2048 squeezes_S1x128x2048_S128x2048).view f
        (ReadAs.same.apply (View.read (Elt F) (((Memref.whole main_arg3 : Memref sig .tc .hbm S1x2048x2048 .f32).slice (Rect.unit (s := S1x2048x2048) ![0, o, 0] S1x128x2048.size inbo) hro).squeeze S128x2048 squeezes_S1x128x2048_S128x2048).view fh))
        Finset.univ)) x
      = Wt c fh ((Rect.unit (s := S2048x2048) ![o, 0] S128x2048.size inbw).emb x) := by
  refine (pay3_at _ x).trans (congrArg _ ((congrFun (Slots.hit M _ hr squeezes_S1x128x2048_S128x2048 shapeCasts_S1x128x2048_S128x2048 f _) x).trans ?_))
  refine (congrFun (Memref.read_squeeze_slice (Memref.whole main_arg3 : Memref sig .tc .hbm S1x2048x2048 .f32) (Rect.unit (s := S1x2048x2048) ![0, o, 0] S1x128x2048.size inbo) hro squeezes_S1x128x2048_S128x2048 shapeCasts_S1x128x2048_S128x2048 fh) x).trans ?_
  exact slab_at (fun y => fh y) o inbo inbw x

/-- The same while a copy into the other slot is under way. -/
theorem slab_under (c : Dev nD) (M : Memref sig .tc .vmem S2x128x2048 .f32) (fh : WBuf (F := F) c) (off off' : Fin 3 → ℕ) (inb) (hr) (inb') (hr') (o : ℕ) (inbo) (hro) (f) (w) (inbw)
    (hne : off 0 < off' 0 ∨ off' 0 < off 0) (x : S128x2048.Idx) :
    k0_pay3 (View.readAt (Elt F) M.view (Rect.unit (s := S2x128x2048) off S1x128x2048.size inb).toLoadRect
      (View.write (Elt F) ((M.slice (Rect.unit (s := S2x128x2048) off' S1x128x2048.size inb') hr').squeeze S128x2048 squeezes_S1x128x2048_S128x2048).view
       (View.write (Elt F) ((M.slice (Rect.unit (s := S2x128x2048) off S1x128x2048.size inb) hr).squeeze S128x2048 squeezes_S1x128x2048_S128x2048).view f
        (ReadAs.same.apply (View.read (Elt F) (((Memref.whole main_arg3 : Memref sig .tc .hbm S1x2048x2048 .f32).slice (Rect.unit (s := S1x2048x2048) ![0, o, 0] S1x128x2048.size inbo) hro).squeeze S128x2048 squeezes_S1x128x2048_S128x2048).view fh))
        Finset.univ) w Finset.univ)) x
      = Wt c fh ((Rect.unit (s := S2048x2048) ![o, 0] S128x2048.size inbw).emb x) := by
  refine Eq.trans (congrArg (fun v => k0_pay3 v x) (Slots.miss M (Rect.unit (s := S2x128x2048) off S1x128x2048.size inb) (Rect.unit (s := S2x128x2048) off' S1x128x2048.size inb') hr' squeezes_S1x128x2048_S128x2048 ?_ _ _)) (slab c M fh off inb hr o inbo hro f inbw x)
  refine Finset.disjoint_left.mpr fun y hy hy' => ?_
  have h1 := Rect.mem_set_unit.mp hy (0 : Fin 3)
  have h2 := Rect.mem_set_unit.mp hy' (0 : Fin 3)
  have e1 : S1x128x2048.size (0 : Fin 3) = 1 := rfl
  omega

/-- The weight load of the kernel's first point: sixteen slabs of 128 rows copied through two slots, each cast and stored. -/
noncomputable def loadProg (i : grid0.Coords) (arg1 : Memref sig .tc .vmem S512x1024 .bf16) (harg1 : arg1.IsWhole) (arg2 : Memref sig .tc .vmem S512x1024 .bf16) (harg2 : arg2.IsWhole) (arg3 : Memref sig .tc .hbm S1x2048x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S2048x2048 .bf16) (harg6 : arg6.IsWhole) (arg7 : Memref sig .tc .vmem S2x128x2048 .f32) (harg7 : arg7.IsWhole) (arg8 : DmaSems sig S2) :
    Prog (TpuEff nD τ sig (Elt F) Λ₀ .tc) PUnit := do
  k0_part1 i arg1 harg1 arg2 harg2 arg3 harg3 arg4 harg4 arg5 harg5 arg6 harg6 arg7 harg7 arg8
  k0_part2 i arg1 harg1 arg2 harg2 arg3 harg3 arg4 harg4 arg5 harg5 arg6 harg6 arg7 harg7 arg8
  k0_part3 i arg1 harg1 arg2 harg2 arg3 harg3 arg4 harg4 arg5 harg5 arg6 harg6 arg7 harg7 arg8
  k0_part4 i arg1 harg1 arg2 harg2 arg3 harg3 arg4 harg4 arg5 harg5 arg6 harg6 arg7 harg7 arg8
  k0_part5 i arg1 harg1 arg2 harg2 arg3 harg3 arg4 harg4 arg5 harg5 arg6 harg6 arg7 harg7 arg8
  k0_part6 i arg1 harg1 arg2 harg2 arg3 harg3 arg4 harg4 arg5 harg5 arg6 harg6 arg7 harg7 arg8
  k0_part7 i arg1 harg1 arg2 harg2 arg3 harg3 arg4 harg4 arg5 harg5 arg6 harg6 arg7 harg7 arg8
  k0_part8 i arg1 harg1 arg2 harg2 arg3 harg3 arg4 harg4 arg5 harg5 arg6 harg6 arg7 harg7 arg8
  k0_part9 i arg1 harg1 arg2 harg2 arg3 harg3 arg4 harg4 arg5 harg5 arg6 harg6 arg7 harg7 arg8
  k0_part10 i arg1 harg1 arg2 harg2 arg3 harg3 arg4 harg4 arg5 harg5 arg6 harg6 arg7 harg7 arg8
  let v311 : Memref sig .tc .hbm S1x128x2048 .f32 := arg3.slice (Rect.unit (s := S1x2048x2048) ![0, 1792, 0] S1x128x2048.size inb_S1x2048x2048_S1x128x2048_0_1792_0) (fun _ => rfl)
  let v312 : Memref sig .tc .hbm S128x2048 .f32 := v311.squeeze S128x2048 squeezes_S1x128x2048_S128x2048
  let v307 : DmaSems sig S1 := arg8.slice (Rect.unit (s := S2) ![0] S1.size inb_S2_S1_0)
  let v308 : DmaSems sig S_ := v307.squeeze S_ squeezes_S1_S_
  let v309 : Memref sig .tc .vmem S1x128x2048 .f32 := arg7.slice (Rect.unit (s := S2x128x2048) ![0, 0, 0] S1x128x2048.size inb_S2x128x2048_S1x128x2048_0_0_0) (fun _ => rfl)
  let v310 : Memref sig .tc .vmem S128x2048 .f32 := v309.squeeze S128x2048 squeezes_S1x128x2048_S128x2048
  Prog.lift (.waitDma2 v308.sem v312 v310 ((View.wordExact_bits rfl).reshape _ _) ((View.wordExact_bits rfl).reshape _ _))
  let v313 : Vec F S1x128x2048 .f32 ← Prog.lift (.load arg7 (Rect.unit (s := S2x128x2048) ![0, 0, 0] S1x128x2048.size inb_S2x128x2048_S1x128x2048_0_0_0).toLoadRect (View.loadsAt_vmem h_S1x128x2048))
  let v316 : Vec F S128x2048 .bf16 ← Prog.lift (.load arg6 (Rect.unit (s := S2048x2048) ![1792, 0] S128x2048.size inb_S2048x2048_S128x2048_1792_0).toLoadRect (View.loadsAt_vmem h_S128x2048))
  Prog.lift (.store arg6 (Rect.unit (s := S2048x2048) ![1792, 0] S128x2048.size inb_S2048x2048_S128x2048_1792_0) (k0_pay17 v313) Finset.univ (View.stores_vmem h_S128x2048 (harg6.storeExact_slice rfl _ packedbf16_S2048x2048_S128x2048_1792_0) (fun _ => rfl)) (.inl rfl))
  let v319 : DmaSems sig S1 := arg8.slice (Rect.unit (s := S2) ![1] S1.size inb_S2_S1_1)
  let v320 : DmaSems sig S_ := v319.squeeze S_ squeezes_S1_S_
  let v321 : Memref sig .tc .vmem S1x128x2048 .f32 := arg7.slice (Rect.unit (s := S2x128x2048) ![1, 0, 0] S1x128x2048.size inb_S2x128x2048_S1x128x2048_1_0_0) (fun _ => rfl)
  let v322 : Memref sig .tc .vmem S128x2048 .f32 := v321.squeeze S128x2048 squeezes_S1x128x2048_S128x2048
  let v323 : Memref sig .tc .hbm S1x128x2048 .f32 := arg3.slice (Rect.unit (s := S1x2048x2048) ![0, 1920, 0] S1x128x2048.size inb_S1x2048x2048_S1x128x2048_0_1920_0) (fun _ => rfl)
  let v324 : Memref sig .tc .hbm S128x2048 .f32 := v323.squeeze S128x2048 squeezes_S1x128x2048_S128x2048
  Prog.lift (.waitDma2 v320.sem v324 v322 ((View.wordExact_bits rfl).reshape _ _) ((View.wordExact_bits rfl).reshape _ _))
  let v325 : Vec F S1x128x2048 .f32 ← Prog.lift (.load arg7 (Rect.unit (s := S2x128x2048) ![1, 0, 0] S1x128x2048.size inb_S2x128x2048_S1x128x2048_1_0_0).toLoadRect (View.loadsAt_vmem h_S1x128x2048))
  let v328 : Vec F S128x2048 .bf16 ← Prog.lift (.load arg6 (Rect.unit (s := S2048x2048) ![1920, 0] S128x2048.size inb_S2048x2048_S128x2048_1920_0).toLoadRect (View.loadsAt_vmem h_S128x2048))
  Prog.lift (.store arg6 (Rect.unit (s := S2048x2048) ![1920, 0] S128x2048.size inb_S2048x2048_S128x2048_1920_0) (k0_pay18 v325) Finset.univ (View.stores_vmem h_S128x2048 (harg6.storeExact_slice rfl _ packedbf16_S2048x2048_S128x2048_1920_0) (fun _ => rfl)) (.inl rfl))
  pure ⟨⟩

set_option maxHeartbeats 8000000 in
theorem load_run (c : Dev nD) (i : grid0.Coords) (arg1 : Memref sig .tc .vmem S512x1024 .bf16) (harg1 : arg1.IsWhole) (arg2 : Memref sig .tc .vmem S512x1024 .bf16) (harg2 : arg2.IsWhole) (arg4 : Memref sig .tc .vmem S512x2048 .f32) (harg4 : arg4.IsWhole) (arg5 : Memref sig .tc .vmem S512x2048 .f32) (harg5 : arg5.IsWhole) (arg6 : Memref sig .tc .vmem S2048x2048 .bf16) (harg6 : arg6.IsWhole) (arg7 : Memref sig .tc .vmem S2x128x2048 .f32) (harg7 : arg7.IsWhole)
    (fh : WBuf (F := F) c)
    (W : Waits sig Unit) (K : PUnit → sProp 𝕄) :
        iprop((∃ d, owns (c : Thread nD τ) arg6 fullShare d) ∗ (∃ d, owns (c : Thread nD τ) arg7 fullShare d) ∗ semVal ((c : Thread nD τ), SemLoc.dma 8) 0 ∗ semVal ((c : Thread nD τ), SemLoc.dma 9) 0 ∗ hbPt0 c (Memref.whole main_arg3) fh ∗ owes (c : Thread nD τ) 0 W
            ∗ (iprop(owns (c : Thread nD τ) arg6 fullShare (Wt c fh) ∗ (∃ d, owns (c : Thread nD τ) arg7 fullShare d) ∗ semVal ((c : Thread nD τ), SemLoc.dma 8) 0 ∗ semVal ((c : Thread nD τ), SemLoc.dma 9) 0 ∗ hbPt0 c (Memref.whole main_arg3) fh ∗ (∃ W', owes (c : Thread nD τ) 0 W')) -∗ K ⟨⟩))
          ⊢ wp frame (wpE (defs₀ (F := F)) Variants.none c none) Set.univ (loadProg i arg1 harg1 arg2 harg2 (Memref.whole main_arg3) (Memref.isWhole_whole _) arg4 harg4 arg5 harg5 arg6 harg6 arg7 harg7 cc0_scratch2) K := by
  unfold loadProg
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%ds0, %fs0, -, HS0⟩, ⟨%ds1, %fs1, -, HS1⟩, Hq0, Hq1, Hh0, HW, Hk⟩
  set_option sl_exec.dmaWindow true in
  set_option sl_exec.dmaWindowSet true in
  sl_exec
  sl_step
  iapply Hk
  isplitl [HS0]
  · iexists _; isplitr; swap; · iexact HS0
    ipureintro
    funext y
    refine Slots.agree arg6.view _ (Wt c fh) y _ ?_ ?_
    swap; · exact View.cover_of_tiledL (s := S2048x2048) _ S128x2048.size (by sl_kernel_rfl) y
    refine List.forall_mem_cons.mpr ⟨fun x => slab c arg7 fh _ _ _ _ _ _ _ inb_S2048x2048_S128x2048_1920_0 x, ?_⟩
    refine List.forall_mem_cons.mpr ⟨fun x => slab_under c arg7 fh _ _ _ _ _ _ _ _ _ _ _ inb_S2048x2048_S128x2048_1792_0 (by decide) x, ?_⟩
    refine List.forall_mem_cons.mpr ⟨fun x => slab_under c arg7 fh _ _ _ _ _ _ _ _ _ _ _ inb_S2048x2048_S128x2048_1664_0 (by decide) x, ?_⟩
    refine List.forall_mem_cons.mpr ⟨fun x => slab_under c arg7 fh _ _ _ _ _ _ _ _ _ _ _ inb_S2048x2048_S128x2048_1536_0 (by decide) x, ?_⟩
    refine List.forall_mem_cons.mpr ⟨fun x => slab_under c arg7 fh _ _ _ _ _ _ _ _ _ _ _ inb_S2048x2048_S128x2048_1408_0 (by decide) x, ?_⟩
    refine List.forall_mem_cons.mpr ⟨fun x => slab_under c arg7 fh _ _ _ _ _ _ _ _ _ _ _ inb_S2048x2048_S128x2048_1280_0 (by decide) x, ?_⟩
    refine List.forall_mem_cons.mpr ⟨fun x => slab_under c arg7 fh _ _ _ _ _ _ _ _ _ _ _ inb_S2048x2048_S128x2048_1152_0 (by decide) x, ?_⟩
    refine List.forall_mem_cons.mpr ⟨fun x => slab_under c arg7 fh _ _ _ _ _ _ _ _ _ _ _ inb_S2048x2048_S128x2048_1024_0 (by decide) x, ?_⟩
    refine List.forall_mem_cons.mpr ⟨fun x => slab_under c arg7 fh _ _ _ _ _ _ _ _ _ _ _ inb_S2048x2048_S128x2048_896_0 (by decide) x, ?_⟩
    refine List.forall_mem_cons.mpr ⟨fun x => slab_under c arg7 fh _ _ _ _ _ _ _ _ _ _ _ inb_S2048x2048_S128x2048_768_0 (by decide) x, ?_⟩
    refine List.forall_mem_cons.mpr ⟨fun x => slab_under c arg7 fh _ _ _ _ _ _ _ _ _ _ _ inb_S2048x2048_S128x2048_640_0 (by decide) x, ?_⟩
    refine List.forall_mem_cons.mpr ⟨fun x => slab_under c arg7 fh _ _ _ _ _ _ _ _ _ _ _ inb_S2048x2048_S128x2048_512_0 (by decide) x, ?_⟩
    refine List.forall_mem_cons.mpr ⟨fun x => slab_under c arg7 fh _ _ _ _ _ _ _ _ _ _ _ inb_S2048x2048_S128x2048_384_0 (by decide) x, ?_⟩
    refine List.forall_mem_cons.mpr ⟨fun x => slab_under c arg7 fh _ _ _ _ _ _ _ _ _ _ _ inb_S2048x2048_S128x2048_256_0 (by decide) x, ?_⟩
    refine List.forall_mem_cons.mpr ⟨fun x => slab_under c arg7 fh _ _ _ _ _ _ _ _ _ _ _ inb_S2048x2048_S128x2048_128_0 (by decide) x, ?_⟩
    refine List.forall_mem_cons.mpr ⟨fun x => slab_under c arg7 fh _ _ _ _ _ _ _ _ _ _ _ inb_S2048x2048_S128x2048_0_0 (by decide) x, ?_⟩
    exact fun _ h => absurd h List.not_mem_nil
  isplitl [HS1]
  · iexists _, _; isplitr; swap; · iexact HS1
    ipureintro; rfl
  isplitl [Hq0]; · iexact Hq0
  isplitl [Hq1]; · iexact Hq1
  isplitl [Hh0]; · iexact Hh0
  iexists _; iexact HW

end Cert.Kernel4Ideal.OutRun
-- ==== Proof.OutRun.lean ====
module

public import proofs.«01_k».proof.Proof.OutLoad

@[expose] public section

set_option maxRecDepth 16384

noncomputable section

namespace Cert.Kernel4Ideal.OutRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (Pipeline.UD sig nD τ) ℕ

/-- The first point loads the weights; the others find them loaded. -/
theorem load_or (c : Dev nD) (i : grid0.Coords) (arg1 : Memref sig .tc .vmem S512x1024 .bf16) (harg1 : arg1.IsWhole) (arg2 : Memref sig .tc .vmem S512x1024 .bf16) (harg2 : arg2.IsWhole) (arg4 : Memref sig .tc .vmem S512x2048 .f32) (harg4 : arg4.IsWhole) (arg5 : Memref sig .tc .vmem S512x2048 .f32) (harg5 : arg5.IsWhole) (arg6 : Memref sig .tc .vmem S2048x2048 .bf16) (harg6 : arg6.IsWhole) (arg7 : Memref sig .tc .vmem S2x128x2048 .f32) (harg7 : arg7.IsWhole)
    (fh : WBuf (F := F) c) (W : Waits sig Unit) (w : Vec F S2048x2048 .bf16) (hw : ¬ first i → w = Wt c fh) {β : Type} (k : PUnit → Prog (TpuEff nD τ sig (Elt F) Λ₀ .tc) β) (K : β → sProp 𝕄) :
        iprop(owns (c : Thread nD τ) arg6 fullShare w ∗ (∃ d, owns (c : Thread nD τ) arg7 fullShare d) ∗ semVal ((c : Thread nD τ), SemLoc.dma 8) 0 ∗ semVal ((c : Thread nD τ), SemLoc.dma 9) 0 ∗ hbPt0 c (Memref.whole main_arg3) fh ∗ owes (c : Thread nD τ) 0 W
            ∗ (iprop(owns (c : Thread nD τ) arg6 fullShare (Wt c fh) ∗ (∃ d, owns (c : Thread nD τ) arg7 fullShare d) ∗ semVal ((c : Thread nD τ), SemLoc.dma 8) 0 ∗ semVal ((c : Thread nD τ), SemLoc.dma 9) 0 ∗ hbPt0 c (Memref.whole main_arg3) fh ∗ (∃ W', owes (c : Thread nD τ) 0 W')) -∗ wp frame (wpE (defs₀ (F := F)) Variants.none c none) Set.univ (k ⟨⟩) K))
          ⊢ wp frame (wpE (defs₀ (F := F)) Variants.none c none) Set.univ (if h : first i then loadProg i arg1 harg1 arg2 harg2 (Memref.whole main_arg3) (Memref.isWhole_whole _) arg4 harg4 arg5 harg5 arg6 harg6 arg7 harg7 cc0_scratch2 >>= k else k ⟨⟩) K := by
  by_cases h : first i
  · rw [dif_pos h, wp_bind]
    refine BIBase.Entails.trans ?_ (load_run c i arg1 harg1 arg2 harg2 arg4 harg4 arg5 harg5 arg6 harg6 arg7 harg7 fh W _)
    iintro ⟨HS0, HS1, Hq0, Hq1, Hh0, HW, Hk⟩
    isplitl [HS0]; · iexists _; iexact HS0
    isplitl [HS1]; · iexact HS1
    isplitl [Hq0]; · iexact Hq0
    isplitl [Hq1]; · iexact Hq1
    isplitl [Hh0]; · iexact Hh0
    isplitl [HW]; · iexact HW
    iexact Hk
  · rw [dif_neg h, hw h]
    iintro ⟨HS0, HS1, Hq0, Hq1, Hh0, HW, Hk⟩
    iapply Hk
    isplitl [HS0]; · iexact HS0
    isplitl [HS1]; · iexact HS1
    isplitl [Hq0]; · iexact Hq0
    isplitl [Hq1]; · iexact Hq1
    isplitl [Hh0]; · iexact Hh0
    iexists _; iexact HW

/-- What every point does: four column blocks of the output, each a sum of two products and the residual. -/
noncomputable def restProg (i : grid0.Coords) (arg1 : Memref sig .tc .vmem S512x1024 .bf16) (harg1 : arg1.IsWhole) (arg2 : Memref sig .tc .vmem S512x1024 .bf16) (harg2 : arg2.IsWhole) (arg3 : Memref sig .tc .hbm S1x2048x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S2048x2048 .bf16) (harg6 : arg6.IsWhole) (arg7 : Memref sig .tc .vmem S2x128x2048 .f32) (harg7 : arg7.IsWhole) (arg8 : DmaSems sig S2) :
    Prog (TpuEff nD τ sig (Elt F) Λ₀ .tc) PUnit := do
  let v3 : Vec F S512x1024 .bf16 ← Prog.lift (.load arg1 (Rect.unit (s := S512x1024) ![0, 0] S512x1024.size inb_S512x1024_S512x1024_0_0).toLoadRect (View.loadsAt_vmem h_S512x1024))
  let v4 : Vec F S1024x512 .bf16 ← Prog.lift (.load arg6 (Rect.unit (s := S2048x2048) ![0, 0] S1024x512.size inb_S2048x2048_S1024x512_0_0).toLoadRect (View.loadsAt_vmem h_S1024x512))
  let v6 : Vec F S512x1024 .bf16 ← Prog.lift (.load arg2 (Rect.unit (s := S512x1024) ![0, 0] S512x1024.size inb_S512x1024_S512x1024_0_0).toLoadRect (View.loadsAt_vmem h_S512x1024))
  let v7 : Vec F S1024x512 .bf16 ← Prog.lift (.load arg6 (Rect.unit (s := S2048x2048) ![1024, 0] S1024x512.size inb_S2048x2048_S1024x512_1024_0).toLoadRect (View.loadsAt_vmem h_S1024x512))
  let v10 : Vec F S512x512 .f32 ← Prog.lift (.load arg4 (Rect.unit (s := S512x2048) ![0, 0] S512x512.size inb_S512x2048_S512x512_0_0).toLoadRect (View.loadsAt_vmem h_S512x512))
  let v12 : Vec F S512x512 .f32 ← Prog.lift (.load arg5 (Rect.unit (s := S512x2048) ![0, 0] S512x512.size inb_S512x2048_S512x512_0_0).toLoadRect (View.loadsAt_vmem h_S512x512))
  Prog.lift (.store arg5 (Rect.unit (s := S512x2048) ![0, 0] S512x512.size inb_S512x2048_S512x512_0_0) (k0_pay19 v3 v4 v6 v7 v10) Finset.univ (View.stores_vmem_bits_univ h_S512x512 rfl) (.inl rfl))
  let v13 : Vec F S512x1024 .bf16 ← Prog.lift (.load arg1 (Rect.unit (s := S512x1024) ![0, 0] S512x1024.size inb_S512x1024_S512x1024_0_0).toLoadRect (View.loadsAt_vmem h_S512x1024))
  let v14 : Vec F S1024x512 .bf16 ← Prog.lift (.load arg6 (Rect.unit (s := S2048x2048) ![0, 512] S1024x512.size inb_S2048x2048_S1024x512_0_512).toLoadRect (View.loadsAt_vmem h_S1024x512))
  let v16 : Vec F S512x1024 .bf16 ← Prog.lift (.load arg2 (Rect.unit (s := S512x1024) ![0, 0] S512x1024.size inb_S512x1024_S512x1024_0_0).toLoadRect (View.loadsAt_vmem h_S512x1024))
  let v17 : Vec F S1024x512 .bf16 ← Prog.lift (.load arg6 (Rect.unit (s := S2048x2048) ![1024, 512] S1024x512.size inb_S2048x2048_S1024x512_1024_512).toLoadRect (View.loadsAt_vmem h_S1024x512))
  let v20 : Vec F S512x512 .f32 ← Prog.lift (.load arg4 (Rect.unit (s := S512x2048) ![0, 512] S512x512.size inb_S512x2048_S512x512_0_512).toLoadRect (View.loadsAt_vmem h_S512x512))
  let v22 : Vec F S512x512 .f32 ← Prog.lift (.load arg5 (Rect.unit (s := S512x2048) ![0, 512] S512x512.size inb_S512x2048_S512x512_0_512).toLoadRect (View.loadsAt_vmem h_S512x512))
  Prog.lift (.store arg5 (Rect.unit (s := S512x2048) ![0, 512] S512x512.size inb_S512x2048_S512x512_0_512) (k0_pay20 v13 v14 v16 v17 v20) Finset.univ (View.stores_vmem_bits_univ h_S512x512 rfl) (.inl rfl))
  let v23 : Vec F S512x1024 .bf16 ← Prog.lift (.load arg1 (Rect.unit (s := S512x1024) ![0, 0] S512x1024.size inb_S512x1024_S512x1024_0_0).toLoadRect (View.loadsAt_vmem h_S512x1024))
  let v24 : Vec F S1024x512 .bf16 ← Prog.lift (.load arg6 (Rect.unit (s := S2048x2048) ![0, 1024] S1024x512.size inb_S2048x2048_S1024x512_0_1024).toLoadRect (View.loadsAt_vmem h_S1024x512))
  let v26 : Vec F S512x1024 .bf16 ← Prog.lift (.load arg2 (Rect.unit (s := S512x1024) ![0, 0] S512x1024.size inb_S512x1024_S512x1024_0_0).toLoadRect (View.loadsAt_vmem h_S512x1024))
  let v27 : Vec F S1024x512 .bf16 ← Prog.lift (.load arg6 (Rect.unit (s := S2048x2048) ![1024, 1024] S1024x512.size inb_S2048x2048_S1024x512_1024_1024).toLoadRect (View.loadsAt_vmem h_S1024x512))
  let v30 : Vec F S512x512 .f32 ← Prog.lift (.load arg4 (Rect.unit (s := S512x2048) ![0, 1024] S512x512.size inb_S512x2048_S512x512_0_1024).toLoadRect (View.loadsAt_vmem h_S512x512))
  let v32 : Vec F S512x512 .f32 ← Prog.lift (.load arg5 (Rect.unit (s := S512x2048) ![0, 1024] S512x512.size inb_S512x2048_S512x512_0_1024).toLoadRect (View.loadsAt_vmem h_S512x512))
  Prog.lift (.store arg5 (Rect.unit (s := S512x2048) ![0, 1024] S512x512.size inb_S512x2048_S512x512_0_1024) (k0_pay1 v23 v24 v26 v27 v30) Finset.univ (View.stores_vmem_bits_univ h_S512x512 rfl) (.inl rfl))
  let v33 : Vec F S512x1024 .bf16 ← Prog.lift (.load arg1 (Rect.unit (s := S512x1024) ![0, 0] S512x1024.size inb_S512x1024_S512x1024_0_0).toLoadRect (View.loadsAt_vmem h_S512x1024))
  let v34 : Vec F S1024x512 .bf16 ← Prog.lift (.load arg6 (Rect.unit (s := S2048x2048) ![0, 1536] S1024x512.size inb_S2048x2048_S1024x512_0_1536).toLoadRect (View.loadsAt_vmem h_S1024x512))
  let v36 : Vec F S512x1024 .bf16 ← Prog.lift (.load arg2 (Rect.unit (s := S512x1024) ![0, 0] S512x1024.size inb_S512x1024_S512x1024_0_0).toLoadRect (View.loadsAt_vmem h_S512x1024))
  let v37 : Vec F S1024x512 .bf16 ← Prog.lift (.load arg6 (Rect.unit (s := S2048x2048) ![1024, 1536] S1024x512.size inb_S2048x2048_S1024x512_1024_1536).toLoadRect (View.loadsAt_vmem h_S1024x512))
  let v40 : Vec F S512x512 .f32 ← Prog.lift (.load arg4 (Rect.unit (s := S512x2048) ![0, 1536] S512x512.size inb_S512x2048_S512x512_0_1536).toLoadRect (View.loadsAt_vmem h_S512x512))
  let v42 : Vec F S512x512 .f32 ← Prog.lift (.load arg5 (Rect.unit (s := S512x2048) ![0, 1536] S512x512.size inb_S512x2048_S512x512_0_1536).toLoadRect (View.loadsAt_vmem h_S512x512))
  Prog.lift (.store arg5 (Rect.unit (s := S512x2048) ![0, 1536] S512x512.size inb_S512x2048_S512x512_0_1536) (k0_pay2 v33 v34 v36 v37 v40) Finset.univ (View.stores_vmem_bits_univ h_S512x512 rfl) (.inl rfl))
  pure ⟨⟩

/-- The body is the weight load, at the first point only, and then the rest. -/
theorem body_eq (i : grid0.Coords) (arg1 : Memref sig .tc .vmem S512x1024 .bf16) (harg1 : arg1.IsWhole) (arg2 : Memref sig .tc .vmem S512x1024 .bf16) (harg2 : arg2.IsWhole) (arg3 : Memref sig .tc .hbm S1x2048x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S2048x2048 .bf16) (harg6 : arg6.IsWhole) (arg7 : Memref sig .tc .vmem S2x128x2048 .f32) (harg7 : arg7.IsWhole) (arg8 : DmaSems sig S2) :
    cc0_out_proj (F := F) i arg1 harg1 arg2 harg2 arg3 harg3 arg4 harg4 arg5 harg5 arg6 harg6 arg7 harg7 arg8
      = if h : first i then loadProg i arg1 harg1 arg2 harg2 arg3 harg3 arg4 harg4 arg5 harg5 arg6 harg6 arg7 harg7 arg8 >>= fun _ => restProg i arg1 harg1 arg2 harg2 arg3 harg3 arg4 harg4 arg5 harg5 arg6 harg6 arg7 harg7 arg8 else restProg i arg1 harg1 arg2 harg2 arg3 harg3 arg4 harg4 arg5 harg5 arg6 harg6 arg7 harg7 arg8 := by
  simp only [cc0_out_proj_eq_skeleton]; unfold cc0_out_proj_skel
  simp only [k0_part11_eq_skeleton]; unfold k0_part11_skel
  by_cases h : first i
  · rw [dif_pos h]
    dsimp only
    rw [dif_pos h]
    unfold loadProg restProg
    simp only [bind_assoc, pure_bind]
  · rw [dif_neg h]
    dsimp only
    rw [dif_neg h]
    unfold restProg
    simp only [bind_assoc, pure_bind]

/-- The stored blocks are one function of what was loaded. -/
theorem pay1_eq : k0_pay1 (F := F) = k0_pay19 := rfl
theorem pay2_eq : k0_pay2 (F := F) = k0_pay19 := rfl
theorem pay20_eq : k0_pay20 (F := F) = k0_pay19 := rfl

/-- A vector read through a rectangle. -/
def ld {s : Shape} {e : EltTy} (X : s.Idx → Elt F e) (B : LoadRect s) : B.shape.Idx → Elt F e := fun j => X (B.idx j)

theorem ld_eq {s : Shape} {e : EltTy} {M : Memref sig .tc .vmem s e} (h : M.IsWhole) (X : s.Idx → Elt F e) (B : LoadRect s) :
    View.readAt (Elt F) M.view B (h.unread X) = ld X B := funext fun x => congrFun (h.read_unread X) _

/-- The four stores of a point, last first. -/
def pcs (x0 : Vec F S512x1024 .bf16) (x1 : Vec F S512x1024 .bf16) (x2 : Vec F S512x2048 .f32) (w : Vec F S2048x2048 .bf16) : List (View.Piece (Elt F) S512x2048 .f32) :=
  [⟨Rect.unit (s := S512x2048) ![0, 1536] S512x512.size inb_S512x2048_S512x512_0_1536,
      k0_pay19 (ld x0 (Rect.unit (s := S512x1024) ![0, 0] S512x1024.size inb_S512x1024_S512x1024_0_0).toLoadRect) (ld w (Rect.unit (s := S2048x2048) ![0, 1536] S1024x512.size inb_S2048x2048_S1024x512_0_1536).toLoadRect)
        (ld x1 (Rect.unit (s := S512x1024) ![0, 0] S512x1024.size inb_S512x1024_S512x1024_0_0).toLoadRect) (ld w (Rect.unit (s := S2048x2048) ![1024, 1536] S1024x512.size inb_S2048x2048_S1024x512_1024_1536).toLoadRect)
        (ld x2 (Rect.unit (s := S512x2048) ![0, 1536] S512x512.size inb_S512x2048_S512x512_0_1536).toLoadRect)⟩,
   ⟨Rect.unit (s := S512x2048) ![0, 1024] S512x512.size inb_S512x2048_S512x512_0_1024,
      k0_pay19 (ld x0 (Rect.unit (s := S512x1024) ![0, 0] S512x1024.size inb_S512x1024_S512x1024_0_0).toLoadRect) (ld w (Rect.unit (s := S2048x2048) ![0, 1024] S1024x512.size inb_S2048x2048_S1024x512_0_1024).toLoadRect)
        (ld x1 (Rect.unit (s := S512x1024) ![0, 0] S512x1024.size inb_S512x1024_S512x1024_0_0).toLoadRect) (ld w (Rect.unit (s := S2048x2048) ![1024, 1024] S1024x512.size inb_S2048x2048_S1024x512_1024_1024).toLoadRect)
        (ld x2 (Rect.unit (s := S512x2048) ![0, 1024] S512x512.size inb_S512x2048_S512x512_0_1024).toLoadRect)⟩,
   ⟨Rect.unit (s := S512x2048) ![0, 512] S512x512.size inb_S512x2048_S512x512_0_512,
      k0_pay19 (ld x0 (Rect.unit (s := S512x1024) ![0, 0] S512x1024.size inb_S512x1024_S512x1024_0_0).toLoadRect) (ld w (Rect.unit (s := S2048x2048) ![0, 512] S1024x512.size inb_S2048x2048_S1024x512_0_512).toLoadRect)
        (ld x1 (Rect.unit (s := S512x1024) ![0, 0] S512x1024.size inb_S512x1024_S512x1024_0_0).toLoadRect) (ld w (Rect.unit (s := S2048x2048) ![1024, 512] S1024x512.size inb_S2048x2048_S1024x512_1024_512).toLoadRect)
        (ld x2 (Rect.unit (s := S512x2048) ![0, 512] S512x512.size inb_S512x2048_S512x512_0_512).toLoadRect)⟩,
   ⟨Rect.unit (s := S512x2048) ![0, 0] S512x512.size inb_S512x2048_S512x512_0_0,
      k0_pay19 (ld x0 (Rect.unit (s := S512x1024) ![0, 0] S512x1024.size inb_S512x1024_S512x1024_0_0).toLoadRect) (ld w (Rect.unit (s := S2048x2048) ![0, 0] S1024x512.size inb_S2048x2048_S1024x512_0_0).toLoadRect)
        (ld x1 (Rect.unit (s := S512x1024) ![0, 0] S512x1024.size inb_S512x1024_S512x1024_0_0).toLoadRect) (ld w (Rect.unit (s := S2048x2048) ![1024, 0] S1024x512.size inb_S2048x2048_S1024x512_1024_0).toLoadRect)
        (ld x2 (Rect.unit (s := S512x2048) ![0, 0] S512x512.size inb_S512x2048_S512x512_0_0).toLoadRect)⟩]

theorem pcs_cover (x0 : Vec F S512x1024 .bf16) (x1 : Vec F S512x1024 .bf16) (x2 : Vec F S512x2048 .f32) (w : Vec F S2048x2048 .bf16) (y : S512x2048.Idx) :
    ∃ p ∈ pcs x0 x1 x2 w, y ∈ p.1.set :=
  View.cover_of_tiledL (s := S512x2048) _ S512x512.size (by sl_kernel_rfl) y

/-- One staging buffer of the output, through which its contents are stated. -/
abbrev VO : View sig .tc .vmem S512x2048 .f32 := (Memref.whole cc0_stg3_0 : Memref sig .tc .vmem S512x2048 .f32).view

/-- What a point leaves in the output's buffer. -/
def out (x0 : Vec F S512x1024 .bf16) (x1 : Vec F S512x1024 .bf16) (x2 : Vec F S512x2048 .f32) (w : Vec F S2048x2048 .bf16) : Vec F S512x2048 .f32 :=
  VO.read (Elt F) (VO.writes (Elt F) VO.junk (pcs x0 x1 x2 w))

set_option maxHeartbeats 1000000 in
/-- The body at any point: the output's buffer ends at `out` of the blocks and the narrowed weights, which scratch then holds. -/
theorem body_run (c : Dev nD) (i : grid0.Coords) (arg1 : Memref sig .tc .vmem S512x1024 .bf16) (harg1 : arg1.IsWhole) (arg2 : Memref sig .tc .vmem S512x1024 .bf16) (harg2 : arg2.IsWhole) (arg4 : Memref sig .tc .vmem S512x2048 .f32) (harg4 : arg4.IsWhole) (arg5 : Memref sig .tc .vmem S512x2048 .f32) (harg5 : arg5.IsWhole) (arg6 : Memref sig .tc .vmem S2048x2048 .bf16) (harg6 : arg6.IsWhole) (arg7 : Memref sig .tc .vmem S2x128x2048 .f32) (harg7 : arg7.IsWhole)
    (x0 : Vec F S512x1024 .bf16) (x1 : Vec F S512x1024 .bf16) (x2 : Vec F S512x2048 .f32)
    (fh : WBuf (F := F) c) (W : Waits sig Unit) (w : Vec F S2048x2048 .bf16) (hw : ¬ first i → w = Wt c fh) (K : PUnit → sProp 𝕄) :
        iprop(owns (c : Thread nD τ) arg1 fullShare x0 ∗ owns (c : Thread nD τ) arg2 fullShare x1 ∗ owns (c : Thread nD τ) arg4 fullShare x2 ∗ (∃ d, owns (c : Thread nD τ) arg5 fullShare d)
            ∗ owns (c : Thread nD τ) arg6 fullShare w ∗ (∃ d, owns (c : Thread nD τ) arg7 fullShare d) ∗ semVal ((c : Thread nD τ), SemLoc.dma 8) 0 ∗ semVal ((c : Thread nD τ), SemLoc.dma 9) 0 ∗ hbPt0 c (Memref.whole main_arg3) fh ∗ owes (c : Thread nD τ) 0 W
            ∗ (iprop(owns (c : Thread nD τ) arg1 fullShare x0 ∗ owns (c : Thread nD τ) arg2 fullShare x1 ∗ owns (c : Thread nD τ) arg4 fullShare x2 ∗ owns (c : Thread nD τ) arg5 fullShare (out x0 x1 x2 (Wt c fh))
              ∗ owns (c : Thread nD τ) arg6 fullShare (Wt c fh) ∗ (∃ d, owns (c : Thread nD τ) arg7 fullShare d) ∗ semVal ((c : Thread nD τ), SemLoc.dma 8) 0 ∗ semVal ((c : Thread nD τ), SemLoc.dma 9) 0 ∗ hbPt0 c (Memref.whole main_arg3) fh ∗ (∃ W', owes (c : Thread nD τ) 0 W')) -∗ K ⟨⟩))
          ⊢ wp frame (wpE (defs₀ (F := F)) Variants.none c none) Set.univ (cc0_out_proj i arg1 harg1 arg2 harg2 (Memref.whole main_arg3) (Memref.isWhole_whole _) arg4 harg4 arg5 harg5 arg6 harg6 arg7 harg7 cc0_scratch2) K := by
  rw [body_eq]
  iintro ⟨H0, H1, H2, H3, HS0, HS1, Hq0, Hq1, Hh0, HW, Hk⟩
  iapply (load_or c i arg1 harg1 arg2 harg2 arg4 harg4 arg5 harg5 arg6 harg6 arg7 harg7 fh W w hw _ _)
  isplitl [HS0]; · iexact HS0
  isplitl [HS1]; · iexact HS1
  isplitl [Hq0]; · iexact Hq0
  isplitl [Hq1]; · iexact Hq1
  isplitl [Hh0]; · iexact Hh0
  isplitl [HW]; · iexact HW
  unfold owns
  iintro ⟨⟨%fs0, %hfs0, HS0⟩, ⟨%ds1, %fs1, -, HS1⟩, Hq0, Hq1, Hh0, ⟨%W', HW⟩⟩
  icases H0 with ⟨%f0, %hf0, H0⟩
  icases H1 with ⟨%f1, %hf1, H1⟩
  icases H2 with ⟨%f2, %hf2, H2⟩
  icases H3 with ⟨%d3, %f3, -, H3⟩
  obtain rfl := harg1.eq_unread hf0; obtain rfl := harg2.eq_unread hf1; obtain rfl := harg4.eq_unread hf2; obtain rfl := harg6.eq_unread hfs0
  unfold restProg
  sl_exec
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]
  · iexists _; isplitr; swap; · iexact H3
    ipureintro
    simp only [ld_eq, pay1_eq, pay2_eq, pay20_eq]
    exact View.read_writes_of_cover _ _ _ _ _ (pcs_cover x0 x1 x2 (Wt c fh))
  isplitl [HS0]; · iexists _; isplitr; · ipureintro; exact hfs0
                   iexact HS0
  isplitl [HS1]; · iexists _, _; isplitr; swap; · iexact HS1
                   ipureintro; rfl
  isplitl [Hq0]; · iexact Hq0
  isplitl [Hq1]; · iexact Hq1
  isplitl [Hh0]; · iexact Hh0
  iexists _; iexact HW

end Cert.Kernel4Ideal.OutRun
-- ==== Proof.OutFrame.lean ====
module

public import proofs.«01_k».proof.Proof.OutRun
public import Idealize.ShloMosaic.Lib.Claim

@[expose] public section

set_option maxRecDepth 16384

noncomputable section

namespace Cert.Kernel4Ideal.OutRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The program is its one region. -/
theorem enters (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The weights load happens at the first point and at no other. -/
theorem first_iff : ∀ t : Fin cfg0.N, first (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    rw [show (t.val = 0) = (t.val % 32 = 0) by rw [Nat.mod_eq_of_lt ht]]
    simp only [first, e0]
    word_cmp
   : ∀ t : Fin grid0.N, first (grid0.coords t) ↔ t.val = 0)

/-- The two cells of the body's own copies. -/
abbrev cells : Fin 2 → SemLoc sig := fun j => (![SemLoc.dma 8, SemLoc.dma 9] : Fin 2 → SemLoc sig) j
theorem cells_own : Pipeline.OwnSemFacts spec0 cells := by decide
theorem cells_eq (c : Dev nD) :
    (Pipeline.ownSems0 (Ix := Unit) (Name := ℕ) (U := Pipeline.UD sig nD τ) (Lvl := ℕ) (Val := Elt F) (τ := τ) cells c : sProp 𝕄)
      = iprop(semVal ((c : Thread nD τ), SemLoc.dma 8) 0 ∗ semVal ((c : Thread nD τ), SemLoc.dma 9) 0) := by
  rw [Pipeline.ownSems0_eq_of_list c cells [0, 1] (by decide) (by decide)]; rfl
/-- The one operand the body copies from. -/
def Hs : Finset (Ref sig .tc) := {main_arg3}
theorem Hs_sub : Hs ⊆ Pipeline.restRefs sig spec0 := by decide
theorem Hs_eq (c : Dev nD) :
    (bigSep Hs (fun b => ((c : Thread nD τ).loc b) ↦{fullShare} V m c b) : sProp 𝕄) = iprop(hbPt0 c (Memref.whole main_arg3) (V m c main_arg3)) := by
  rw [BI.bigSep_eq_bigSepL_of_eq [main_arg3] (by decide) (by decide)]; rfl

/-- What the body holds beside the windows, before the first point. -/
theorem start_eq (c : Dev nD) :
    (Pipeline.ΦD cells spec0 Hs (V m) c : sProp 𝕄)
      = iprop(iprop((∃ d, owns (c : Thread nD τ) (Memref.whole cc0_scratch0) fullShare d) ∗ (∃ d, owns (c : Thread nD τ) (Memref.whole cc0_scratch1) fullShare d)) ∗ (∃ r, prngReg c r) ∗ iprop(semVal ((c : Thread nD τ), SemLoc.dma 8) 0 ∗ semVal ((c : Thread nD τ), SemLoc.dma 9) 0) ∗ iprop(hbPt0 c (Memref.whole main_arg3) (V m c main_arg3))) := by
  rw [Pipeline.ΦD_eq, scopedRest0_eq, cells_eq, Hs_eq]; simp only [owns_whole]; try rfl

/-- What the body holds beside the windows after a point: the narrowed weights in the first scratch. -/
def held (c : Dev nD) : sProp 𝕄 :=
  iprop(iprop(owns (c : Thread nD τ) (Memref.whole cc0_scratch0) fullShare (Wt c (V m c main_arg3)) ∗ (∃ d, owns (c : Thread nD τ) (Memref.whole cc0_scratch1) fullShare d)) ∗ (∃ r, prngReg c r) ∗ iprop(semVal ((c : Thread nD τ), SemLoc.dma 8) 0 ∗ semVal ((c : Thread nD τ), SemLoc.dma 9) 0) ∗ iprop(hbPt0 c (Memref.whole main_arg3) (V m c main_arg3)))

/-- The same at every position of the grid. -/
def Inv (c : Dev nD) : ℕ → sProp 𝕄
  | 0 => Pipeline.ΦD cells spec0 Hs (V m) c
  | _ + 1 => held m c

/-- The proof data: each input's buffer at its block, the output's at `out` of the blocks and the weights. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out (iblk m c 0 t) (iblk m c 1 t) (iblk m c 2 t) (Wt c (V m c main_arg3))
  Φ t := Inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = out (iblk m c 0 t) (iblk m c 1 t) (iblk m c 2 t) (Wt c (V m c main_arg3)) := by dsimp only [dats]

/-- Every input's buffer holds its block when the body starts. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- What the body finds, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it leaves. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- Before a point: the weights in scratch unless it is the first. -/
theorem inv_open (c : Dev nD) (n : ℕ) :
    Inv m c n ⊢ iprop(iprop((∃ w, ⌜n ≠ 0 → w = Wt c (V m c main_arg3)⌝ ∗ owns (c : Thread nD τ) (Memref.whole cc0_scratch0) fullShare w) ∗ (∃ d, owns (c : Thread nD τ) (Memref.whole cc0_scratch1) fullShare d)) ∗ (∃ r, prngReg c r) ∗ iprop(semVal ((c : Thread nD τ), SemLoc.dma 8) 0 ∗ semVal ((c : Thread nD τ), SemLoc.dma 9) 0) ∗ iprop(hbPt0 c (Memref.whole main_arg3) (V m c main_arg3))) := by
  cases n with
  | zero =>
    rw [show Inv m c 0 = Pipeline.ΦD cells spec0 Hs (V m) c from rfl, start_eq]
    iintro ⟨⟨⟨%w, HS0⟩, HS1⟩, Hg, ⟨Hq0, Hq1⟩, Hh0⟩
    isplitl [HS0 HS1]
    · isplitl [HS0]
      · iexists w; isplitr; · ipureintro; exact fun h => absurd rfl h
        iexact HS0
      iexact HS1
    isplitl [Hg]; · iexact Hg
    isplitl [Hq0 Hq1]
    · isplitl [Hq0]; · iexact Hq0
      iexact Hq1
    iexact Hh0
  | succ n =>
    rw [show Inv m c (n + 1) = held m c from rfl]; unfold held
    iintro ⟨⟨HS0, HS1⟩, Hg, ⟨Hq0, Hq1⟩, Hh0⟩
    isplitl [HS0 HS1]
    · isplitl [HS0]
      · iexists _; isplitr; swap; · iexact HS0
        ipureintro; exact fun _ => rfl
      iexact HS1
    isplitl [Hg]; · iexact Hg
    isplitl [Hq0 Hq1]
    · isplitl [Hq0]; · iexact Hq0
      iexact Hq1
    iexact Hh0

set_option maxHeartbeats 1000000 in
/-- The body at any point. -/
theorem body_at (c : Dev nD) (t : Fin cfg0.N) :
    pre m c t ⊢ wp frame (wpE (defs₀ (F := F)) Variants.none c none) Set.univ (bodyAt0 t) (fun _ => post m c t) := by
  unfold pre post bodyAt0
  simp only [before_0, before_1, before_2]
  rw [show (dats m 0 c).Φ t.succ = held m c from rfl, after_0, after_1, after_2, after_3]
  rw [show (dats m 0 c).Φ t.castSucc = Inv m c t.val from rfl]
  unfold Dat.owesAt Pipeline.owesWithin
  rw [show (dats m 0 c).owed t.castSucc = 0 from rfl, show (dats m 0 c).owed t.succ = 0 from rfl]
  refine BIBase.Entails.trans (Laws.sep_mono (inv_open m c t.val) .rfl) ?_
  unfold held
  iintro ⟨⟨⟨⟨%w, %hw, HS0⟩, HS1⟩, Hg, ⟨Hq0, Hq1⟩, Hh0⟩, ⟨%W, -, HW⟩, ⟨%d0, H0⟩, ⟨%d1, H1⟩, ⟨%d2, H2⟩, ⟨%d3, H3⟩⟩
  iapply (body_run c (grid0.coords t) _ _ _ _ _ _ _ _ _ _ _ _ (iblk m c 0 t) (iblk m c 1 t) (iblk m c 2 t) (V m c main_arg3) W w (fun h => hw fun hz => h ((first_iff t).mpr hz)) _)
  isplitl [H0]; · iexact H0
  isplitl [H1]; · iexact H1
  isplitl [H2]; · iexact H2
  isplitl [H3]; · iexists _; iexact H3
  isplitl [HS0]; · iexact HS0
  isplitl [HS1]; · iexact HS1
  isplitl [Hq0]; · iexact Hq0
  isplitl [Hq1]; · iexact Hq1
  isplitl [Hh0]; · iexact Hh0
  isplitl [HW]; · iexact HW
  iintro ⟨H0, H1, H2, H3, HS0, HS1, Hq0, Hq1, Hh0, ⟨%W', HW'⟩⟩
  isplitl [HS0 HS1 Hg Hq0 Hq1 Hh0]
  · isplitl [HS0 HS1]
    · isplitl [HS0]; · iexact HS0
      iexact HS1
    isplitl [Hg]; · iexact Hg
    isplitl [Hq0 Hq1]
    · isplitl [Hq0]; · iexact Hq0
      iexact Hq1
    iexact Hh0
  isplitl [HW']
  · iexists W'; isplitr; · ipureintro; exact fun _ _ => Or.inl trivial
    iexact HW'
  isplitl [H0]; · iexact H0
  isplitl [H1]; · iexact H1
  isplitl [H2]; · iexact H2
  iexact H3

theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body_at m c t) rfl .rfl fun _ => .rfl

theorem ends (c : Dev nD) : held m c ⊢ Pipeline.ΦD cells spec0 Hs (V m) c := by
  rw [start_eq]; unfold held
  iintro ⟨⟨HS0, HS1⟩, Hg, Hq, Hh0⟩
  isplitl [HS0 HS1]
  · isplitl [HS0]; · iexists _; iexact HS0
    iexact HS1
  isplitl [Hg]; · iexact Hg
  isplitl [Hq]; · iexact Hq
  iexact Hh0

set_option backward.isDefEq.respectTransparency.types false in
/-- Every execution ends with the pipeline's arrays at what the proof data says, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 cells defs₀ Variants.none cells_own Hs Hs_sub m ρ main
    (hbody := fun c => (obligation m c).loose) (hshare := fun c => (dats m 0 c).share_full fun _ => rfl)
    (howed := fun _ _ => rfl) (V := V m) (hmain := enters m Variants.none) (hA := A_eq m)
    (hin := fun c => Idealize.SL.BI.Entails.refl _)
    (hout := fun c => by
      rw [show (dats m 0 c).Φ (Fin.last cfg0.N) = Inv m c cfg0.N from rfl, show cfg0.N = 31 + 1 from N_0]
      exact ends m c)

theorem run : θ_run defs (onTc (τ := τ) (main (F := F))) (s₀ m ρ) (Pipeline.FramePost cfgs (dats m) 0 (V m)) :=
  (θ_run defs _ _).mono (fun _ h => h.1) (run_quiescent m ρ)

/-- The arguments end unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 2).trans (((dats m 0 c).arrAt_in 2 rfl _).trans (A_eq m c 2)),
      ((h c).1 0).trans (((dats m 0 c).arrAt_in 0 rfl _).trans (A_eq m c 0)),
      ((h c).1 1).trans (((dats m 0 c).arrAt_in 1 rfl _).trans (A_eq m c 1)),
      ((h c).2 main_arg3 (Pipeline.mem_restRefs_of main_arg3 (by decide) (by decide)))⟩) (run m ρ)

/-- and the program is quiescent. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_quiescent m ρ))

end Cert.Kernel4Ideal.OutRun
-- ==== Proof.OutVal.lean ====
module

public import proofs.«01_k».proof.Proof.OutFrame
public import proofs.«01_k».proof.Proof.Gen.Reference4Ideal.Read
public import Idealize.ShloMosaic.Lib.Pipeline.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel4Ideal.OutRun

open Cert.Kernel4Ideal Cert.Kernel4Ideal.Gen Idealize.ShloMosaic Idealize.ShloMosaic.TcCoe Idealize.SL.Sem
open Idealize.ShloMosaic.Pipeline (Dat)

/-- A residual plus the sum of two products. -/
def dense (a b : Fin 1024 → EReal) (wa wb : Fin 1024 → EReal) (h : EReal) : EReal := (∑ k, a k * wa k + ∑ k, b k * wb k) + h

/-- A stored block, at an index. -/
theorem pay_at (v3 : Vec Ideal S512x1024 .bf16) (v4 : Vec Ideal S1024x512 .bf16) (v6 : Vec Ideal S512x1024 .bf16) (v7 : Vec Ideal S1024x512 .bf16) (v10 : Vec Ideal S512x512 .f32) (r l : Fin 512) :
    k0_pay19 v3 v4 v6 v7 v10 (ix2 r l) = dense (fun k => v3 (ix2 r k)) (fun k => v6 (ix2 r k)) (fun k => v4 (ix2 k l)) (fun k => v7 (ix2 k l)) (v10 (ix2 r l)) := by
  pointwise [k0_pay19]
  rfl

/-- What the four blocks hold together. -/
def want (x0 : Vec Ideal S512x1024 .bf16) (x1 : Vec Ideal S512x1024 .bf16) (x2 : Vec Ideal S512x2048 .f32) (w : Vec Ideal S2048x2048 .bf16) : Vec Ideal S512x2048 .f32 := fun y =>
  dense (fun k => x0 (ix2 (y 0) k)) (fun k => x1 (ix2 (y 0) k)) (fun k => w (ix2 ⟨k.val, by omega⟩ (y 1))) (fun k => w (ix2 ⟨1024 + k.val, by omega⟩ (y 1))) (x2 y)

/-- One of the four blocks, at an index. -/
theorem piece_at (x0 : Vec Ideal S512x1024 .bf16) (x1 : Vec Ideal S512x1024 .bf16) (x2 : Vec Ideal S512x2048 .f32) (w : Vec Ideal S2048x2048 .bf16) (off : ℕ)
    (h0 : ∀ a, ![0, 0] a + S512x1024.size a ≤ S512x1024.size a) (h1 : ∀ a, ![0, off] a + S1024x512.size a ≤ S2048x2048.size a)
    (h2 : ∀ a, ![1024, off] a + S1024x512.size a ≤ S2048x2048.size a) (h3 : ∀ a, ![0, off] a + S512x512.size a ≤ S512x2048.size a) (x : S512x512.Idx) :
    k0_pay19 (ld x0 (Rect.unit (s := S512x1024) ![0, 0] S512x1024.size h0).toLoadRect) (ld w (Rect.unit (s := S2048x2048) ![0, off] S1024x512.size h1).toLoadRect)
        (ld x1 (Rect.unit (s := S512x1024) ![0, 0] S512x1024.size h0).toLoadRect) (ld w (Rect.unit (s := S2048x2048) ![1024, off] S1024x512.size h2).toLoadRect)
        (ld x2 (Rect.unit (s := S512x2048) ![0, off] S512x512.size h3).toLoadRect) x
      = want x0 x1 x2 w ((Rect.unit (s := S512x2048) ![0, off] S512x512.size h3).emb x) := by
  obtain ⟨r, l, rfl⟩ : ∃ (r : Fin 512) (l : Fin 512), x = ix2 r l := ⟨x 0, x 1, eq_ix2 x⟩
  refine (pay_at _ _ _ _ _ r l).trans ?_
  unfold want ld
  congr 1
  · funext k; congr 1; ext a; fin_cases a <;> simp
  · funext k; congr 1; ext a; fin_cases a <;> simp
  · funext k; congr 1; ext a; fin_cases a <;> simp
  · funext k; congr 1; ext a; fin_cases a <;> simp

/-- What a point leaves in the output's buffer. -/
theorem out_eq (x0 : Vec Ideal S512x1024 .bf16) (x1 : Vec Ideal S512x1024 .bf16) (x2 : Vec Ideal S512x2048 .f32) (w : Vec Ideal S2048x2048 .bf16) :
    out x0 x1 x2 w = want x0 x1 x2 w := by
  funext y
  refine Slots.agree VO _ (want x0 x1 x2 w) y _ ?_ (pcs_cover x0 x1 x2 w y)
  unfold pcs
  refine List.forall_mem_cons.mpr ⟨fun x => piece_at x0 x1 x2 w 1536 _ _ _ _ x, ?_⟩
  refine List.forall_mem_cons.mpr ⟨fun x => piece_at x0 x1 x2 w 1024 _ _ _ _ x, ?_⟩
  refine List.forall_mem_cons.mpr ⟨fun x => piece_at x0 x1 x2 w 512 _ _ _ _ x, ?_⟩
  refine List.forall_mem_cons.mpr ⟨fun x => piece_at x0 x1 x2 w 0 _ _ _ _ x, ?_⟩
  exact fun _ h => absurd h List.not_mem_nil

open Cert.Reference4Ideal.Read in
/-- The reference's result, at an index. -/
theorem ref_at (x0 : (⟨S16384x2048, .f32⟩ : BufTy).Contents (Elt Ideal)) (x1 x2 : (⟨S16384x1024, .bf16⟩ : BufTy).Contents (Elt Ideal)) (x3 : (⟨S1x2048x2048, .f32⟩ : BufTy).Contents (Elt Ideal)) (a : Fin 16384) (b : Fin 2048) :
    Cert.Reference4Ideal.Read.val_main_v5 (F := Ideal) x0 x1 x2 x3 (ix2 a b)
      = dense (fun k => x1 (ix2 a k)) (fun k => x2 (ix2 a k)) (fun k => x3 (ix3 0 ⟨k.val, by omega⟩ b)) (fun k => x3 (ix3 0 ⟨1024 + k.val, by omega⟩ b)) (x0 (ix2 a b)) := by
  unfold val_main_v5 val_main_v4 val_main_v3 val_main_v2 val_main_v1 val_main_v0
  pointwise []
  refine (add_comm _ _).trans ?_
  unfold dense
  congr 1

variable (m : (ℓ : Loc nD τ sig) → Buf (Elt Ideal) ℓ) (ρ : Dev nD → PrngReg)

/-- Where each window's block lies at point `t`. -/
theorem idx : ∀ t : Fin cfg0.N, win0_0.index t = ![t.val, 0] ∧ win0_1.index t = ![t.val, 0] ∧ win0_2.index t = ![t.val, 0]
    ∧ win0_3.index t = ![t.val, 0] :=
  (by decide +kernel : ∀ t : Fin grid0.N, _)

theorem x0_at (c : Dev nD) (t : Fin cfg0.N) (r : Fin 512) (k : Fin 1024) : iblk m c 0 t (ix2 r k)
    = (m ((c : Thread nD τ).loc main_arg1)) (ix2 ⟨512 * t.val + r.val, by have : t.val < 32 := t.isLt; omega⟩ k) := by
  obtain ⟨e0, e1, e2, e3⟩ := idx t
  have ht : t.val < 32 := t.isLt
  blk_simp [iblk, e0]
  have em : ((View.whole main_arg1).slice (win0_0.rect t)).emb (ix2 r k) = ix2 (⟨512 * t.val + r.val, by omega⟩ : Fin 16384) k := by
    blk_ext [e0]
  rw [em]

theorem x1_at (c : Dev nD) (t : Fin cfg0.N) (r : Fin 512) (k : Fin 1024) : iblk m c 1 t (ix2 r k)
    = (m ((c : Thread nD τ).loc main_arg2)) (ix2 ⟨512 * t.val + r.val, by have : t.val < 32 := t.isLt; omega⟩ k) := by
  obtain ⟨e0, e1, e2, e3⟩ := idx t
  have ht : t.val < 32 := t.isLt
  blk_simp [iblk, e1]
  have em : ((View.whole main_arg2).slice (win0_1.rect t)).emb (ix2 r k) = ix2 (⟨512 * t.val + r.val, by omega⟩ : Fin 16384) k := by
    blk_ext [e1]
  rw [em]

theorem x2_at (c : Dev nD) (t : Fin cfg0.N) (r : Fin 512) (k : Fin 2048) : iblk m c 2 t (ix2 r k)
    = (m ((c : Thread nD τ).loc main_arg0)) (ix2 ⟨512 * t.val + r.val, by have : t.val < 32 := t.isLt; omega⟩ k) := by
  obtain ⟨e0, e1, e2, e3⟩ := idx t
  have ht : t.val < 32 := t.isLt
  blk_simp [iblk, e2]
  have em : ((View.whole main_arg0).slice (win0_2.rect t)).emb (ix2 r k) = ix2 (⟨512 * t.val + r.val, by omega⟩ : Fin 16384) k := by
    blk_ext [e2]
  rw [em]

/-- The result array is the reference's. -/
theorem arr (c : Dev nD) : (dats m 0 c).arrAt 3 cfg0.N
    = Cert.Reference4Ideal.Read.val_main_v5 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t hf y => ?_
  blk_simp
  rw [after_3, out_eq]
  obtain ⟨r, b, rfl⟩ : ∃ (r : Fin 512) (b : Fin 2048), y = ix2 r b := ⟨y 0, y 1, eq_ix2 y⟩
  obtain ⟨e0, e1, e2, e3⟩ := idx t
  have ht : t.val < 32 := t.isLt
  have em : ((View.whole main_v0).slice (win0_3.rect t)).emb (ix2 r b) = ix2 (⟨512 * t.val + r.val, by omega⟩ : Fin 16384) b := by
    blk_ext [e3]
  rw [em, ref_at]
  unfold want
  have h0 : (fun k => iblk m c 0 t (ix2 r k)) = _ := funext fun k => x0_at m c t r k
  have h1 : (fun k => iblk m c 1 t (ix2 r k)) = _ := funext fun k => x1_at m c t r k
  show dense (fun k => iblk m c 0 t (ix2 r k)) (fun k => iblk m c 1 t (ix2 r k)) _ _ (iblk m c 2 t (ix2 r b)) = _
  rw [h0, h1, x2_at m c t r b]
  rfl

/-- Every execution ends with the result at the reference's and the arguments unchanged. -/
theorem run_value : θ_run defs (onTc (τ := τ) (main (F := Ideal))) ⟨m, fun _ => 0, ρ⟩ (fun r => ∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1 3,
      ((h c).1 2).trans (((dats m 0 c).arrAt_in 2 rfl _).trans (A_eq m c 2)),
      ((h c).1 0).trans (((dats m 0 c).arrAt_in 0 rfl _).trans (A_eq m c 0)),
      ((h c).1 1).trans (((dats m 0 c).arrAt_in 1 rfl _).trans (A_eq m c 1)),
      ((h c).2 main_arg3 (Pipeline.mem_restRefs_of main_arg3 (by decide) (by decide)))⟩) (run m ρ)

end Cert.Kernel4Ideal.OutRun
-- ==== Proof.OutClaims.lean ====
/- The claims about the output projection, from `OutFrame.lean`'s runs and `OutVal.lean`'s value of the result array. -/
module

public import proofs.«01_k».proof.Defs
public import proofs.«01_k».proof.Proof.OutVal
public import proofs.«01_k».proof.Proof.OutFrameBits
public import proofs.«01_k».proof.Proof.Gen.Reference4Ideal.Run
public import Idealize.ShloMosaic.Lib.Quiescent

@[expose] public section

noncomputable section

namespace Cert.Proof.OutClaims

open Idealize.ShloMosaic Idealize.ShloMosaic.TcCoe Idealize.SL.Sem

/-- The output projection at the machine's words runs, and leaves its arguments unchanged. -/
theorem frame_k : Cert.quiescent_Kernel4 := fun m ρ _ => Cert.Kernel4.OutRun.frame m ρ

/-- The output projection at the extended reals runs, and leaves its arguments unchanged. -/
theorem frame_ki : Cert.quiescent_Kernel4Ideal := fun m ρ _ => Cert.Kernel4Ideal.OutRun.frame m ρ

/-- The reference runs, and leaves its arguments unchanged; it declares no semaphore. -/
theorem frame_ri : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- No operation of this kernel was rewritten. -/
theorem preserves : Cert.preserves_Kernel4_Kernel4Ideal := trivial

/-- At the extended reals the result array is the reference's, element by element. -/
theorem algebraic : Cert.algebraic_Kernel4Ideal_Reference4Ideal := by
  intro m ρ m' ρ' _ hagree
  refine ⟨fun c => (Cert.Kernel4Ideal.OutRun.dats m 0 c).arrAt 3 Cert.Kernel4Ideal.cfg0.N,
    Cert.Kernel4Ideal.OutRun.run_value m ρ, ?_⟩
  refine (θ_run Cert.Reference4Ideal.defs _ _).mono (fun _ h c => ⟨(h c).1.trans ?_, (h c).2⟩)
    (Cert.Reference4Ideal.Value.run (F := Ideal) m' ρ')
  obtain ⟨h0, h1, h2, h3⟩ := hagree c
  rw [Cert.Reference4Ideal.Read.val_main_v5_eq, h0, h1, h2, h3]
  exact (Cert.Kernel4Ideal.OutRun.arr m c).symm

end Cert.Proof.OutClaims

end
-- ==== Proof.MemVal.lean ====
module

public import proofs.«01_k».proof.Proof.Gen.Kernel5Ideal.Value
public import proofs.«01_k».proof.Proof.Gen.Reference5Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel5Ideal.MemKv

open Cert.Kernel5Ideal Cert.Kernel5Ideal.Gen Idealize.ShloMosaic Idealize.ShloMosaic.TcCoe Idealize.SL.Sem
open Idealize.ShloMosaic.Pipeline (Dat)

/-- A load after one store of the whole buffer reads the stored vector. -/
theorem readCov_whole {sig : RefSig} {κ : Kind} {sp : Space} {s : Shape} {e : EltTy} (v : View sig κ sp s e) (w : s.Idx → Elt Ideal e)
    (r : Rect s) : v.readCov (Val := Elt Ideal) [⟨Rect.whole s, w⟩] r.toLoadRect = View.ld (Val := Elt Ideal) (S := s) (e' := e) w r := by
  rw [View.readCov_eq_canon']
  funext j
  refine (congrArg _ (Rect.emb_whole_apply s _).symm).trans (View.canon_cons_emb (Rect.whole s) w [] (r.toLoadRect.idx j))

/-- One store of the whole buffer leaves the stored vector. -/
theorem canon_whole {s : Shape} {e : EltTy} (w : s.Idx → Elt Ideal e) (L : List (View.Piece (Elt Ideal) s e)) :
    View.canon (Val := Elt Ideal) (s := s) (e := e) (⟨Rect.whole s, w⟩ :: L) = w := by
  funext j
  exact (congrArg _ (Rect.emb_whole_apply s j).symm).trans (View.canon_cons_emb (Rect.whole s) w L j)

/-- The root-mean-square normalization of a row `z`, with gain `g`. -/
def rowNorm (z g : Fin 2048 → EReal) (b : Fin 2048) : EReal :=
  z b * Ideal.rsqrt (Ideal.div (∑ x, z x * z x) (Ideal.ofBits .f32 1157627904#32) + Ideal.ofBits .f32 897988541#32) * g b

/-- The kernel's normalized rows, at an index. -/
theorem norm_at (v0 : Vec Ideal S512x2048 .f32) (v1 : Vec Ideal S1x2048 .f32) (r : Fin 512) (b : Fin 2048) :
    k0_pay8 v0 v1 (ix2 r b) = rowNorm (fun b => v0 (ix2 r b)) (fun b => v1 (ix2 0 b)) b := by
  pointwise [k0_pay8]
  rfl

/-- A sum over 2048 columns, by its four chunks of 512. -/
theorem sum_split (f : Fin 2048 → EReal) : ∑ k, f k = ∑ c : Fin 4, ∑ k : Fin 512, f ⟨512 * c.val + k.val, by omega⟩ := by
  rw [← Fintype.sum_prod_type' (f := fun (c : Fin 4) (k : Fin 512) => f ⟨512 * c.val + k.val, by omega⟩)]
  exact (Fintype.sum_equiv (finProdFinEquiv (m := 4) (n := 512)) _ _ (fun x => congrArg f (Fin.ext (Nat.add_comm _ _)))).symm

/-- Where each window's block lies at point `t`. -/
theorem idx : ∀ t : Fin cfg0.N, win0_0.index t = ![t.val / 4, 0] ∧ win0_1.index t = ![0, 0] ∧ win0_2.index t = ![0, t.val % 4, 0]
    ∧ win0_3.index t = ![0, t.val % 4, 0] ∧ win0_4.index t = ![t.val / 4, 0] ∧ win0_5.index t = ![t.val / 4, 0] :=
  (by decide +kernel : ∀ t : Fin grid0.N, _)

open Cert.Reference5Ideal.Read in
/-- The reference's first product, at an index. -/
theorem ref_k (x0 : (⟨S4x256x2048, .f32⟩ : BufTy).Contents (Elt Ideal)) (x1 : (⟨S1x2048, .f32⟩ : BufTy).Contents (Elt Ideal)) (x2 : (⟨S1x2048x2048, .f32⟩ : BufTy).Contents (Elt Ideal)) (a : Fin 1024) (b : Fin 2048) :
    Cert.Reference5Ideal.Read.val_main_v17 (F := Ideal) x0 x1 x2 (ix2 a b)
      = ∑ k, rowNorm (fun b => x0 (ix3 ⟨a.val / 256, by omega⟩ ⟨a.val % 256, by omega⟩ b)) (fun b => x1 (ix2 0 b)) k * x2 (ix3 0 k b) := by
  unfold val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise []
  rfl

open Cert.Reference5Ideal.Read in
/-- The reference's second product, at an index. -/
theorem ref_v (x0 : (⟨S4x256x2048, .f32⟩ : BufTy).Contents (Elt Ideal)) (x1 : (⟨S1x2048, .f32⟩ : BufTy).Contents (Elt Ideal)) (x3 : (⟨S1x2048x2048, .f32⟩ : BufTy).Contents (Elt Ideal)) (a : Fin 1024) (b : Fin 2048) :
    Cert.Reference5Ideal.Read.val_main_v20 (F := Ideal) x0 x1 x3 (ix2 a b)
      = ∑ k, rowNorm (fun b => x0 (ix3 ⟨a.val / 256, by omega⟩ ⟨a.val % 256, by omega⟩ b)) (fun b => x1 (ix2 0 b)) k * x3 (ix3 0 k b) := by
  unfold val_main_v20 val_main_v19 val_main_v18 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise []
  rfl

variable (m : (ℓ : Loc nD τ sig) → Buf (Elt Ideal) ℓ)

/-- The rows the first window stages at point `t`. -/
theorem x0_at (c : Dev nD) (t : Fin cfg0.N) (r : Fin 512) : (fun b => iblk m c 0 t (ix2 r b))
    = fun b => (m ((c : Thread nD τ).loc main_arg0)) (ix3 ⟨(512 * (t.val / 4) + r.val) / 256, by have : t.val < 8 := t.isLt; omega⟩ ⟨(512 * (t.val / 4) + r.val) % 256, by omega⟩ b) := by
  obtain ⟨e0, e1, e2, e3, e4⟩ := idx t
  have ht : t.val < 8 := t.isLt
  funext b; blk_simp [iblk, e0]
  have em : ((View.whole main_v0).slice (win0_0.rect t)).emb (ix2 r b) = ix2 (⟨512 * (t.val / 4) + r.val, by omega⟩ : Fin 1024) b := by
    blk_ext [e0]
  rw [em]
  entry_read; pointwise

/-- The gain. -/
theorem x1_at (c : Dev nD) (t : Fin cfg0.N) : (fun b => iblk m c 1 t (ix2 0 b)) = fun b => (m ((c : Thread nD τ).loc main_arg1)) (ix2 0 b) := by
  obtain ⟨e0, e1, e2, e3, e4⟩ := idx t
  funext b; blk_simp [iblk, e1]
  have em : ((View.whole main_v2).slice (win0_1.rect t)).emb (ix2 0 b) = ix2 (0 : Fin 1) b := by
    blk_ext [e1]
  rw [em]
  entry_read; pointwise

/-- The chunk of the first weights staged at point `t`. -/
theorem x2_at (c : Dev nD) (t : Fin cfg0.N) (k : Fin 512) (b : Fin 2048) : iblk m c 2 t (ix3 0 k b)
    = (m ((c : Thread nD τ).loc main_arg2)) (ix3 0 ⟨512 * (t.val % 4) + k.val, by omega⟩ b) := by
  obtain ⟨e0, e1, e2, e3, e4⟩ := idx t
  blk_simp [iblk, e2]
  have em : ((View.whole main_arg2).slice (win0_2.rect t)).emb (ix3 0 k b) = ix3 (0 : Fin 1) (⟨512 * (t.val % 4) + k.val, by omega⟩ : Fin 2048) b := by
    blk_ext [e2]
  rw [em]
  exact congrFun (V_main_arg2 m c) _

/-- The chunk of the second weights staged at point `t`. -/
theorem x3_at (c : Dev nD) (t : Fin cfg0.N) (k : Fin 512) (b : Fin 2048) : iblk m c 3 t (ix3 0 k b)
    = (m ((c : Thread nD τ).loc main_arg3)) (ix3 0 ⟨512 * (t.val % 4) + k.val, by omega⟩ b) := by
  obtain ⟨e0, e1, e2, e3, e4⟩ := idx t
  blk_simp [iblk, e3]
  have em : ((View.whole main_arg3).slice (win0_3.rect t)).emb (ix3 0 k b) = ix3 (0 : Fin 1) (⟨512 * (t.val % 4) + k.val, by omega⟩ : Fin 2048) b := by
    blk_ext [e3]
  rw [em]
  exact congrFun (V_main_arg3 m c) _

/-- The row of the memory that row `r` of the point `n`'s tile is. -/
def Z (c : Dev nD) (n : ℕ) (r : Fin 512) (b : Fin 2048) : EReal :=
  (m ((c : Thread nD τ).loc main_arg0)) (ix3 ⟨((512 * (n / 4) + r.val) / 256) % 4, by omega⟩ ⟨(512 * (n / 4) + r.val) % 256, by omega⟩ b)

/-- The gain, as a row. -/
def G (c : Dev nD) (b : Fin 2048) : EReal := (m ((c : Thread nD τ).loc main_arg1)) (ix2 0 b)

/-- The rows staged at point `t`, as `Z`. -/
theorem x0_row (c : Dev nD) (t : Fin cfg0.N) (r : Fin 512) : (fun b => iblk m c 0 t (ix2 r b)) = Z m c t.val r := by
  have ht : t.val < 8 := t.isLt
  rw [x0_at]
  funext b
  unfold Z
  congr 2
  apply Fin.ext
  show (512 * (t.val / 4) + r.val) / 256 = (512 * (t.val / 4) + r.val) / 256 % 4
  omega

/-- Column `k` of chunk `q`. -/
def col (q : ℕ) (k : Fin 512) : Fin 2048 := ⟨512 * (q % 4) + k.val, by omega⟩

/-- What the four stores of the first point of a tile leave in scratch: the normalized rows, by chunks. -/
theorem u_at (v0 : Vec Ideal S512x2048 .f32) (v1 : Vec Ideal S1x2048 .f32) (q : Fin 4) (r : Fin 512) (k : Fin 512) :
    View.canon (Val := Elt Ideal) (s := S4x512x512) (e := .bf16)
      [⟨Rect.unit ![3, 0, 0] ![1, 512, 512] inb_S4x512x512_S1x512x512_3_0_0, k0_pay12 v0 v1⟩,
        ⟨Rect.unit ![2, 0, 0] ![1, 512, 512] inb_S4x512x512_S1x512x512_2_0_0, k0_pay11 v0 v1⟩,
        ⟨Rect.unit ![1, 0, 0] ![1, 512, 512] inb_S4x512x512_S1x512x512_1_0_0, k0_pay10 v0 v1⟩,
        ⟨Rect.unit ![0, 0, 0] ![1, 512, 512] inb_S4x512x512_S1x512x512_0_0_0, k0_pay9 v0 v1⟩] (ix3 q r k)
      = rowNorm (fun b => v0 (ix2 r b)) (fun b => v1 (ix2 0 b)) (col q.val k) := by
  canon_tiles x h
  all_goals
    obtain ⟨o, r', l, rfl⟩ : ∃ (o : Fin 1) (r' : Fin 512) (l : Fin 512), x = ix3 o r' l := ⟨x 0, x 1, x 2, eq_ix3 x⟩
    obtain ⟨qv, hq⟩ := q
    simp at h0 h1 h2
    obtain rfl : r = r' := Fin.ext (by omega)
    obtain rfl : k = l := Fin.ext (by omega)
    subst h0
    pointwise [k0_pay9, k0_pay10, k0_pay11, k0_pay12]
    rw [norm_at]
    first
      | rfl
      | exact congrArg _ (Fin.ext (by simp [col]; try omega))

/-- The chunk a point loads. -/
theorem off : ∀ t : Fin cfg0.N, k0_off1 (grid0.coords t) = ![t.val % 4, 0, 0] := (by decide +kernel : ∀ t : Fin grid0.N, _)

/-- A load of one chunk of the scratch. -/
theorem ld_at (u : Vec Ideal S4x512x512 .bf16) (o : Fin 3 → ℕ) (n : ℕ) (ho : o = ![n % 4, 0, 0]) (h) (r k : Fin 512) :
    View.ld (Val := Elt Ideal) (S := S4x512x512) (e' := .bf16) u (Rect.unit o ![1, 512, 512] h) (ix3 0 r k) = u (ix3 ⟨n % 4, by omega⟩ r k) := by
  subst ho
  refine congrArg u ?_
  ext a; fin_cases a <;> simp

/-- The first accumulator's update, at an index. -/
theorem pay4_at (v4 : Vec Ideal S1x512x512 .bf16) (v6 : Vec Ideal S512x2048 .f32) (v7 : Vec Ideal S1x512x2048 .f32) (r : Fin 512) (b : Fin 2048) :
    k0_pay4 v4 v6 v7 (ix2 r b) = v6 (ix2 r b) + ∑ k : Fin 512, v4 (ix3 0 r k) * v7 (ix3 0 k b) := by
  pointwise [k0_pay4, k0_pay3]

/-- The second accumulator's update, at an index. -/
theorem pay5_at (v4 : Vec Ideal S1x512x512 .bf16) (v6 : Vec Ideal S512x2048 .f32) (v7 : Vec Ideal S1x512x2048 .f32) (r : Fin 512) (b : Fin 2048) :
    k0_pay5 v4 v6 v7 (ix2 r b) = v6 (ix2 r b) + ∑ k : Fin 512, v4 (ix3 0 r k) * v7 (ix3 0 k b) := by
  pointwise [k0_pay5, k0_pay3]

/-- The part of a product that chunk `q` of the columns contributes. -/
def part (z g : Fin 2048 → EReal) (w : Fin 2048 → EReal) (q : ℕ) : EReal := ∑ k : Fin 512, rowNorm z g (col q k) * w (col q k)

/-- The four parts make the product. -/
theorem parts (z g : Fin 2048 → EReal) (w : Fin 2048 → EReal) : ∑ q ∈ Finset.range 4, part z g w q = ∑ k, rowNorm z g k * w k := by
  rw [sum_split, Finset.sum_range]
  refine Finset.sum_congr rfl fun q _ => Finset.sum_congr rfl fun k _ => ?_
  rw [show col q.val k = ⟨512 * q.val + k.val, by omega⟩ from Fin.ext (by show 512 * (q.val % 4) + k.val = _; rw [Nat.mod_eq_of_lt q.isLt])]

/-- Column `b` of the first weights. -/
def wk (c : Dev nD) (b k : Fin 2048) : EReal := (m ((c : Thread nD τ).loc main_arg2)) (ix3 0 k b)

/-- Column `b` of the second weights. -/
def wv (c : Dev nD) (b k : Fin 2048) : EReal := (m ((c : Thread nD τ).loc main_arg3)) (ix3 0 k b)

/-- One point's contribution, from a scratch that holds the normalized rows. -/
theorem step_k (c : Dev nD) (t : Fin cfg0.N) (u : Vec Ideal S4x512x512 .bf16) (hu : ∀ q r k, u (ix3 q r k) = rowNorm (Z m c t.val r) (G m c) (col q.val k))
    (a : Vec Ideal S512x2048 .f32) (h) (r : Fin 512) (b : Fin 2048) :
    k0_pay4 (View.ld (Val := Elt Ideal) (S := S4x512x512) (e' := .bf16) u (Rect.unit (k0_off1 (grid0.coords t)) ![1, 512, 512] h)) a (iblk m c 2 t) (ix2 r b)
      = a (ix2 r b) + part (Z m c t.val r) (G m c) (wk m c b) (t.val % 4) := by
  refine (pay4_at _ _ _ r b).trans (congrArg (a (ix2 r b) + ·) (Finset.sum_congr rfl fun k _ => ?_))
  rw [x2_at, ld_at u _ t.val (off t) h r k, hu]
  simp only [wk, col, Nat.mod_mod]

/-- The same for the second accumulator. -/
theorem step_v (c : Dev nD) (t : Fin cfg0.N) (u : Vec Ideal S4x512x512 .bf16) (hu : ∀ q r k, u (ix3 q r k) = rowNorm (Z m c t.val r) (G m c) (col q.val k))
    (a : Vec Ideal S512x2048 .f32) (h) (r : Fin 512) (b : Fin 2048) :
    k0_pay5 (View.ld (Val := Elt Ideal) (S := S4x512x512) (e' := .bf16) u (Rect.unit (k0_off1 (grid0.coords t)) ![1, 512, 512] h)) a (iblk m c 3 t) (ix2 r b)
      = a (ix2 r b) + part (Z m c t.val r) (G m c) (wv m c b) (t.val % 4) := by
  refine (pay5_at _ _ _ r b).trans (congrArg (a (ix2 r b) + ·) (Finset.sum_congr rfl fun k _ => ?_))
  rw [x3_at, ld_at u _ t.val (off t) h r k, hu]
  simp only [wv, col, Nat.mod_mod]

/-- What a point leaves: the normalized rows of its tile in scratch, and in the two accumulators the parts of the products so far. -/
structure Inv (c : Dev nD) (n : ℕ) (u : Vec Ideal S4x512x512 .bf16) (ak av : Vec Ideal S512x2048 .f32) : Prop where
  u : ∀ q r k, u (ix3 q r k) = rowNorm (Z m c n r) (G m c) (col q.val k)
  k : ∀ r b, ak (ix2 r b) = ∑ q ∈ Finset.range (n % 4 + 1), part (Z m c n r) (G m c) (wk m c b) q
  v : ∀ r b, av (ix2 r b) = ∑ q ∈ Finset.range (n % 4 + 1), part (Z m c n r) (G m c) (wv m c b) q

/-- The first point of a tile. -/
theorem inv_A (c : Dev nD) (t : Fin cfg0.N) (h0 : t.val % 4 = 0) :
    Inv m c t.val (outsAt0 m c t.val t.isLt).2.2.1 (outsAt0 m c t.val t.isLt).2.2.2.1 (outsAt0 m c t.val t.isLt).2.2.2.2 := by
  rw [outsAt0_A m c t h0 (by omega)]
  dsimp only
  frame_open
  simp (disch := decide) only [↓ View.readCov_skip, ↓ View.readCov_cons_toLoadRect, ↓ View.readCov_fill, ↓ readCov_whole]
  frame_out
  have hu := fun q r k => (u_at (iblk m c 0 t) (iblk m c 1 t) q r k).trans (congrArg₂ (fun z g => rowNorm z g (col q.val k)) (x0_row m c t r) (x1_at m c t))
  refine ⟨hu, fun r b => ?_, fun r b => ?_⟩
  · refine (step_k m c t _ hu _ _ r b).trans ?_
    rw [h0, Finset.sum_range_one]
    exact (congrArg (· + part (Z m c t.val r) (G m c) (wk m c b) 0) (show k0_pay1 (F := Ideal) k0_pay13 (ix2 r b) = (0 : EReal) by pointwise [k0_pay1, k0_pay13])).trans (zero_add _)
  · refine (step_v m c t _ hu _ _ r b).trans ?_
    rw [h0, Finset.sum_range_one]
    exact (congrArg (· + part (Z m c t.val r) (G m c) (wv m c b) 0) (show k0_pay2 (F := Ideal) (ix2 r b) = (0 : EReal) by pointwise [k0_pay2])).trans (zero_add _)

/-- A later point of the same tile. -/
theorem inv_step (c : Dev nD) (t : Fin cfg0.N) (h0 : ¬ t.val % 4 = 0) (u : Vec Ideal S4x512x512 .bf16) (ak av : Vec Ideal S512x2048 .f32)
    (hi : Inv m c (t.val - 1) u ak av) (h h') : Inv m c t.val u
      (k0_pay4 (View.ld (Val := Elt Ideal) (S := S4x512x512) (e' := .bf16) u (Rect.unit (k0_off1 (grid0.coords t)) ![1, 512, 512] h)) ak (iblk m c 2 t))
      (k0_pay5 (View.ld (Val := Elt Ideal) (S := S4x512x512) (e' := .bf16) u (Rect.unit (k0_off1 (grid0.coords t)) ![1, 512, 512] h')) av (iblk m c 3 t)) := by
  have hz : ∀ r, Z m c (t.val - 1) r = Z m c t.val r := fun r => by
    funext b; unfold Z; simp only [show (t.val - 1) / 4 = t.val / 4 by omega]
  have hn : (t.val - 1) % 4 + 1 = t.val % 4 := by omega
  have hu : ∀ q r k, u (ix3 q r k) = rowNorm (Z m c t.val r) (G m c) (col q.val k) := fun q r k => by rw [hi.u, hz]
  refine ⟨hu, fun r b => ?_, fun r b => ?_⟩
  · rw [step_k m c t u hu ak h r b, hi.k, hz, hn, Finset.sum_range_succ]
  · rw [step_v m c t u hu av h' r b, hi.v, hz, hn, Finset.sum_range_succ]

/-- A later point of the same tile, from the generated runs. -/
theorem inv_B (c : Dev nD) (t : Fin cfg0.N) (h0 : ¬ t.val % 4 = 0)
    (hi : Inv m c (t.val - 1) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) :
    Inv m c t.val (outsAt0 m c t.val t.isLt).2.2.1 (outsAt0 m c t.val t.isLt).2.2.2.1 (outsAt0 m c t.val t.isLt).2.2.2.2 := by
  by_cases h1 : t.val % 4 = 3
  · rw [outsAt0_C m c t h0 h1]
    dsimp only
    frame_open
    simp (disch := decide) only [↓ View.readCov_skip, ↓ View.readCov_cons_toLoadRect, ↓ View.readCov_fill, ↓ readCov_whole]
    frame_out
    simp only [read_unread_whole]
    exact inv_step m c t h0 _ _ _ hi _ _
  · rw [outsAt0_B m c t h0 h1]
    dsimp only
    frame_open
    simp (disch := decide) only [↓ View.readCov_skip, ↓ View.readCov_cons_toLoadRect, ↓ View.readCov_fill, ↓ readCov_whole]
    frame_out
    simp only [read_unread_whole]
    exact inv_step m c t h0 _ _ _ hi _ _

/-- Every point leaves what `Inv` says. -/
theorem inv (c : Dev nD) (n : ℕ) (hn : n < cfg0.N) : Inv m c n (outsAt0 m c n hn).2.2.1 (outsAt0 m c n hn).2.2.2.1 (outsAt0 m c n hn).2.2.2.2 := by
  induction n with
  | zero => exact inv_A m c ⟨0, hn⟩ rfl
  | succ n ih =>
    by_cases h0 : (n + 1) % 4 = 0
    · exact inv_A m c ⟨n + 1, hn⟩ h0
    · exact inv_B m c ⟨n + 1, hn⟩ h0 (ih _)

/-- The last point of a tile writes back the accumulators. -/
theorem outs (c : Dev nD) (t : Fin cfg0.N) (h1 : t.val % 4 = 3) :
    (outsAt0 m c t.val t.isLt).1 = (outsAt0 m c t.val t.isLt).2.2.2.1 ∧ (outsAt0 m c t.val t.isLt).2.1 = (outsAt0 m c t.val t.isLt).2.2.2.2 := by
  rw [outsAt0_C m c t (by omega) h1]
  dsimp only
  frame_open
  simp (disch := decide) only [↓ View.readCov_skip, ↓ View.readCov_cons_toLoadRect, ↓ View.readCov_fill, ↓ readCov_whole]
  frame_out
  exact ⟨rfl, rfl⟩

/-- The first result array is the reference's. -/
theorem arr4 (c : Dev nD) : (dats m 0 c).arrAt 4 cfg0.N
    = Cert.Reference5Ideal.Read.val_main_v17 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  have h3 : t.val % 4 = 3 := (flush0_4 t).mp hf
  blk_simp
  rw [after0_4]
  obtain ⟨r, b, rfl⟩ : ∃ (r : Fin 512) (b : Fin 2048), y = ix2 r b := ⟨y 0, y 1, eq_ix2 y⟩
  rw [show (outsAt0 m c t.val t.isLt).1 _ = _ from (congrFun (outs m c t h3).1 (ix2 r b)).trans ((inv m c t.val t.isLt).k r b)]
  obtain ⟨e0, e1, e2, e3, e4, e5⟩ := idx t
  have ht : t.val < 8 := t.isLt
  have em : ((View.whole main_v3_0).slice (win0_4.rect t)).emb (ix2 r b) = ix2 (⟨512 * (t.val / 4) + r.val, by omega⟩ : Fin 1024) b := by
    blk_ext [e4]
  rw [em, ref_k, h3, parts, ← x0_row, x0_at]
  rfl

/-- The second result array is the reference's. -/
theorem arr5 (c : Dev nD) : (dats m 0 c).arrAt 5 cfg0.N
    = Cert.Reference5Ideal.Read.val_main_v20 (F := Ideal) (m ((c : Thread nD τ).loc main_arg0)) (m ((c : Thread nD τ).loc main_arg1)) (m ((c : Thread nD τ).loc main_arg3)) := by
  refine (dats m 0 c).arrAt_eq_of_covers 5 _ (by decide +kernel) fun t hf y => ?_
  have h3 : t.val % 4 = 3 := (flush0_5 t).mp hf
  blk_simp
  rw [after0_5]
  obtain ⟨r, b, rfl⟩ : ∃ (r : Fin 512) (b : Fin 2048), y = ix2 r b := ⟨y 0, y 1, eq_ix2 y⟩
  rw [show (outsAt0 m c t.val t.isLt).2.1 _ = _ from (congrFun (outs m c t h3).2 (ix2 r b)).trans ((inv m c t.val t.isLt).v r b)]
  obtain ⟨e0, e1, e2, e3, e4, e5⟩ := idx t
  have ht : t.val < 8 := t.isLt
  have em : ((View.whole main_v3_1).slice (win0_5.rect t)).emb (ix2 r b) = ix2 (⟨512 * (t.val / 4) + r.val, by omega⟩ : Fin 1024) b := by
    blk_ext [e5]
  rw [em, ref_v, h3, parts, ← x0_row, x0_at]
  rfl

end Cert.Kernel5Ideal.MemKv

end
-- ==== Proof.MemClaims.lean ====
/- The claims about the memory keys and values, from the generated runs and `MemVal.lean`'s values of the two result arrays. -/
module

public import proofs.«01_k».proof.Defs
public import proofs.«01_k».proof.Proof.MemVal
public import proofs.«01_k».proof.Proof.Gen.Kernel5.Frame
public import proofs.«01_k».proof.Proof.Gen.Reference5Ideal.Run
public import Idealize.ShloMosaic.Lib.Quiescent

@[expose] public section

noncomputable section

namespace Cert.Proof.MemClaims

open Idealize.ShloMosaic Idealize.ShloMosaic.TcCoe Idealize.SL.Sem

/-- The memory projection at the machine's words runs, and leaves its arguments unchanged. -/
theorem frame_k : Cert.quiescent_Kernel5 := fun m ρ _ => Cert.Kernel5.Gen.frame m ρ

/-- The memory projection at the extended reals runs, and leaves its arguments unchanged. -/
theorem frame_ki : Cert.quiescent_Kernel5Ideal := fun m ρ _ => Cert.Kernel5Ideal.Gen.frame m ρ

/-- The reference runs, and leaves its arguments unchanged; it declares no semaphore. -/
theorem frame_ri : Cert.quiescent_Reference5Ideal := fun m ρ _ =>
  (θ_run Cert.Reference5Ideal.defs _ _).mono (fun r h => ⟨fun c => (h c).2.2,
      Idealize.ShloMosaic.sem_eq_zero_of_no_sems (by decide) r.2⟩)
    (Cert.Reference5Ideal.Value.run (F := Ideal) m ρ)

/-- No operation of this kernel was rewritten. -/
theorem preserves : Cert.preserves_Kernel5_Kernel5Ideal := trivial

/-- At the extended reals both result arrays are the reference's, element by element. -/
theorem algebraic : Cert.algebraic_Kernel5Ideal_Reference5Ideal := by
  intro m ρ m' ρ' _ hagree
  refine ⟨fun c => (Cert.Kernel5Ideal.Gen.dats m 0 c).arrAt 4 Cert.Kernel5Ideal.cfg0.N,
    fun c => (Cert.Kernel5Ideal.Gen.dats m 0 c).arrAt 5 Cert.Kernel5Ideal.cfg0.N,
    Cert.Kernel5Ideal.Value.run_blocks (F := Ideal) m ρ, ?_⟩
  refine (θ_run Cert.Reference5Ideal.defs _ _).mono (fun _ h c => ⟨(h c).1.trans ?_, (h c).2.1.trans ?_, (h c).2.2⟩)
    (Cert.Reference5Ideal.Value.run (F := Ideal) m' ρ')
  · obtain ⟨h0, h1, h2, h3⟩ := hagree c
    rw [Cert.Reference5Ideal.Read.val_main_v17_eq, h0, h1, h2]
    exact (Cert.Kernel5Ideal.MemKv.arr4 m c).symm
  · obtain ⟨h0, h1, h2, h3⟩ := hagree c
    rw [Cert.Reference5Ideal.Read.val_main_v20_eq, h0, h1, h3]
    exact (Cert.Kernel5Ideal.MemKv.arr5 m c).symm

end Cert.Proof.MemClaims

end
-- ==== Proof.WindowClaims.lean ====
/- The claims about the window attention: its generated frames. -/
module

public import proofs.«01_k».proof.Defs
public import proofs.«01_k».proof.Proof.Gen.Kernel6.Frame
public import proofs.«01_k».proof.Proof.Gen.Kernel6Ideal.Frame

@[expose] public section

noncomputable section

namespace Cert.Proof.WindowClaims

open Idealize.ShloMosaic Idealize.ShloMosaic.TcCoe Idealize.SL.Sem

/-- The window attention at the machine's words runs, and leaves its arguments unchanged. -/
theorem frame_k : Cert.quiescent_Kernel6 := fun m ρ _ => Cert.Kernel6.Gen.frame m ρ

/-- The window attention at the extended reals runs, and leaves its arguments unchanged. -/
theorem frame_ki : Cert.quiescent_Kernel6Ideal := fun m ρ _ => Cert.Kernel6Ideal.Gen.frame m ρ

/-- No operation of this kernel was rewritten. -/
theorem preserves : Cert.preserves_Kernel6_Kernel6Ideal := trivial

end Cert.Proof.WindowClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.CrossClaims
public import proofs.«01_k».proof.Proof.FinalClaims
public import proofs.«01_k».proof.Proof.InProjClaims
public import proofs.«01_k».proof.Proof.OutClaims
public import proofs.«01_k».proof.Proof.MemClaims
public import proofs.«01_k».proof.Proof.WindowClaims
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, CrossClaims.pre_facts,
  FinalClaims.frame_k, FinalClaims.frame_ki, FinalClaims.frame_ri,
  CrossClaims.frame_k, CrossClaims.frame_ki, CrossClaims.frame_ki_pre, CrossClaims.frame_ri, CrossClaims.frame_ri_pre,
  InProjClaims.frame_k, InProjClaims.frame_ki, InProjClaims.frame_ri,
  OutClaims.frame_k, OutClaims.frame_ki, OutClaims.frame_ri,
  MemClaims.frame_k, MemClaims.frame_ki, MemClaims.frame_ri,
  WindowClaims.frame_k, WindowClaims.frame_ki,
  FinalClaims.preserves, FinalClaims.algebraic, CrossClaims.preserves, CrossClaims.algebraic,
  InProjClaims.preserves, InProjClaims.algebraic, OutClaims.preserves, OutClaims.algebraic,
  MemClaims.preserves, MemClaims.algebraic, WindowClaims.preserves⟩

end Cert.Proof

end
